-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384x62 : Shape := ⟨2, ![16384, 62]⟩
abbrev S16384 : Shape := ⟨1, ![16384]⟩
abbrev S1000x5 : Shape := ⟨2, ![1000, 5]⟩
abbrev S100000x8 : Shape := ⟨2, ![100000, 8]⟩
abbrev S26x8 : Shape := ⟨2, ![26, 8]⟩
abbrev S40x128 : Shape := ⟨2, ![40, 128]⟩
abbrev S40 : Shape := ⟨1, ![40]⟩
abbrev S40x40 : Shape := ⟨2, ![40, 40]⟩
abbrev S1x40 : Shape := ⟨2, ![1, 40]⟩
abbrev S1 : Shape := ⟨1, ![1]⟩
abbrev S_ : Shape := ⟨0, ![]⟩

class Facts : Prop where
  bcast_S_S16384 : S_.BroadcastsInDim S16384 (![] : Fin 0 → Fin S16384.rank)

variable [Facts]

def fn_part2 {F : FTy → Type} [FloatOps F] (main_arg6 : IVec S16384 32) (main_arg7 : IVec S16384 32) (main_arg8 : IVec S16384 32) (main_v34 : IVec S16384 1) (main_c_11 : IVec S_ 32) : IVec S16384 1 :=
  let main_v35 : IVec S16384 32 := broadcastInDim S16384 ![] bcast_S_S16384 main_c_11
  let main_v36 : IVec S16384 1 := cmpi .sge main_arg6 main_v35
  let main_v37 : IVec S16384 1 := andi main_v34 main_v36
  let main_c_12 : IVec S_ 32 := constantI S_ 32 100000#32
  let main_v38 : IVec S16384 32 := broadcastInDim S16384 ![] bcast_S_S16384 main_c_12
  let main_v39 : IVec S16384 1 := cmpi .slt main_arg6 main_v38
  let main_v40 : IVec S16384 1 := andi main_v37 main_v39
  let main_c_13 : IVec S_ 32 := constantI S_ 32 0#32
  let main_v41 : IVec S16384 32 := broadcastInDim S16384 ![] bcast_S_S16384 main_c_13
  let main_v42 : IVec S16384 1 := cmpi .sge main_arg7 main_v41
  let main_v43 : IVec S16384 1 := andi main_v40 main_v42
  let main_c_14 : IVec S_ 32 := constantI S_ 32 100000#32
  let main_v44 : IVec S16384 32 := broadcastInDim S16384 ![] bcast_S_S16384 main_c_14
  let main_v45 : IVec S16384 1 := cmpi .slt main_arg7 main_v44
  let main_v46 : IVec S16384 1 := andi main_v43 main_v45
  let main_c_15 : IVec S_ 32 := constantI S_ 32 0#32
  let main_v47 : IVec S16384 32 := broadcastInDim S16384 ![] bcast_S_S16384 main_c_15
  let main_v48 : IVec S16384 1 := cmpi .sge main_arg8 main_v47
  let main_v49 : IVec S16384 1 := andi main_v46 main_v48
  let main_c_16 : IVec S_ 32 := constantI S_ 32 100000#32
  let main_v50 : IVec S16384 32 := broadcastInDim S16384 ![] bcast_S_S16384 main_c_16
  let main_v51 : IVec S16384 1 := cmpi .slt main_arg8 main_v50
  let main_v52 : IVec S16384 1 := andi main_v49 main_v51
  main_v52

def fn_part1 {F : FTy → Type} [FloatOps F] (main_arg3 : IVec S16384 32) (main_arg4 : IVec S16384 32) (main_arg5 : IVec S16384 32) (main_arg6 : IVec S16384 32) (main_arg7 : IVec S16384 32) (main_arg8 : IVec S16384 32) (main_v16 : IVec S16384 1) (main_c_5 : IVec S_ 32) : IVec S16384 1 :=
  let main_v17 : IVec S16384 32 := broadcastInDim S16384 ![] bcast_S_S16384 main_c_5
  let main_v18 : IVec S16384 1 := cmpi .sge main_arg3 main_v17
  let main_v19 : IVec S16384 1 := andi main_v16 main_v18
  let main_c_6 : IVec S_ 32 := constantI S_ 32 100000#32
  let main_v20 : IVec S16384 32 := broadcastInDim S16384 ![] bcast_S_S16384 main_c_6
  let main_v21 : IVec S16384 1 := cmpi .slt main_arg3 main_v20
  let main_v22 : IVec S16384 1 := andi main_v19 main_v21
  let main_c_7 : IVec S_ 32 := constantI S_ 32 0#32
  let main_v23 : IVec S16384 32 := broadcastInDim S16384 ![] bcast_S_S16384 main_c_7
  let main_v24 : IVec S16384 1 := cmpi .sge main_arg4 main_v23
  let main_v25 : IVec S16384 1 := andi main_v22 main_v24
  let main_c_8 : IVec S_ 32 := constantI S_ 32 100000#32
  let main_v26 : IVec S16384 32 := broadcastInDim S16384 ![] bcast_S_S16384 main_c_8
  let main_v27 : IVec S16384 1 := cmpi .slt main_arg4 main_v26
  let main_v28 : IVec S16384 1 := andi main_v25 main_v27
  let main_c_9 : IVec S_ 32 := constantI S_ 32 0#32
  let main_v29 : IVec S16384 32 := broadcastInDim S16384 ![] bcast_S_S16384 main_c_9
  let main_v30 : IVec S16384 1 := cmpi .sge main_arg5 main_v29
  let main_v31 : IVec S16384 1 := andi main_v28 main_v30
  let main_c_10 : IVec S_ 32 := constantI S_ 32 100000#32
  let main_v32 : IVec S16384 32 := broadcastInDim S16384 ![] bcast_S_S16384 main_c_10
  let main_v33 : IVec S16384 1 := cmpi .slt main_arg5 main_v32
  let main_v34 : IVec S16384 1 := andi main_v31 main_v33
  let main_c_11 : IVec S_ 32 := constantI S_ 32 0#32
  fn_part2 (F := F) main_arg6 main_arg7 main_arg8 main_v34 main_c_11

def fn {F : FTy → Type} [FloatOps F] (main_arg0 : FVec F S16384x62 .f32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : IVec S16384 32) (main_arg9 : IVec S16384 32) (main_arg10 : FVec F S1000x5 .f32) (main_arg11 : FVec F S1000x5 .f32) (main_arg12 : FVec F S100000x8 .f32) (main_arg13 : FVec F S100000x8 .f32) (main_arg14 : FVec F S100000x8 .f32) (main_arg15 : FVec F S100000x8 .f32) (main_arg16 : FVec F S100000x8 .f32) (main_arg17 : FVec F S100000x8 .f32) (main_arg18 : FVec F S26x8 .f32) (main_arg19 : FVec F S40x128 .f32) (main_arg20 : FVec F S40 .f32) (main_arg21 : FVec F S40x40 .f32) (main_arg22 : FVec F S40 .f32) (main_arg23 : FVec F S40x40 .f32) (main_arg24 : FVec F S40 .f32) (main_arg25 : FVec F S1x40 .f32) (main_arg26 : FVec F S1 .f32) : IVec S16384 1 :=
  let main_c : IVec S_ 32 := constantI S_ 32 0#32
  let main_v0 : IVec S16384 32 := broadcastInDim S16384 ![] bcast_S_S16384 main_c
  let main_v1 : IVec S16384 1 := cmpi .sge main_arg9 main_v0
  let main_c_0 : IVec S_ 32 := constantI S_ 32 26#32
  let main_v2 : IVec S16384 32 := broadcastInDim S16384 ![] bcast_S_S16384 main_c_0
  let main_v3 : IVec S16384 1 := cmpi .slt main_arg9 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000#32
  let main_v8 : IVec S16384 32 := broadcastInDim S16384 ![] bcast_S_S16384 main_c_2
  let main_v9 : IVec S16384 1 := cmpi .slt main_arg1 main_v8
  let main_v10 : IVec S16384 1 := andi main_v7 main_v9
  let main_c_3 : IVec S_ 32 := constantI S_ 32 0#32
  let main_v11 : IVec S16384 32 := broadcastInDim S16384 ![] bcast_S_S16384 main_c_3
  let main_v12 : IVec S16384 1 := cmpi .sge main_arg2 main_v11
  let main_v13 : IVec S16384 1 := andi main_v10 main_v12
  let main_c_4 : IVec S_ 32 := constantI S_ 32 1000#32
  let main_v14 : IVec S16384 32 := broadcastInDim S16384 ![] bcast_S_S16384 main_c_4
  let main_v15 : IVec S16384 1 := cmpi .slt main_arg2 main_v14
  let main_v16 : IVec S16384 1 := andi main_v13 main_v15
  let main_c_5 : IVec S_ 32 := constantI S_ 32 0#32
  fn_part1 (F := F) main_arg3 main_arg4 main_arg5 main_arg6 main_arg7 main_arg8 main_v16 main_c_5
-- ==== Kernel.lean ====
abbrev S16384x62 : Shape := ⟨2, ![16384, 62]⟩
abbrev S16384 : Shape := ⟨1, ![16384]⟩
abbrev S1000x5 : Shape := ⟨2, ![1000, 5]⟩
abbrev S100000x8 : Shape := ⟨2, ![100000, 8]⟩
abbrev S26x8 : Shape := ⟨2, ![26, 8]⟩
abbrev S40x128 : Shape := ⟨2, ![40, 128]⟩
abbrev S40 : Shape := ⟨1, ![40]⟩
abbrev S40x40 : Shape := ⟨2, ![40, 40]⟩
abbrev S1x40 : Shape := ⟨2, ![1, 40]⟩
abbrev S1 : Shape := ⟨1, ![1]⟩
abbrev S_ : Shape := ⟨0, ![]⟩
abbrev S1000x16 : Shape := ⟨2, ![1000, 16]⟩
abbrev S125x128 : Shape := ⟨2, ![125, 128]⟩
abbrev S100000x16 : Shape := ⟨2, ![100000, 16]⟩
abbrev S12500x128 : Shape := ⟨2, ![12500, 128]⟩
abbrev S32x16 : Shape := ⟨2, ![32, 16]⟩
abbrev S4x128 : Shape := ⟨2, ![4, 128]⟩
abbrev S262144 : Shape := ⟨1, ![262144]⟩
abbrev S256 : Shape := ⟨1, ![256]⟩
abbrev S256x128 : Shape := ⟨2, ![256, 128]⟩
abbrev S4096 : Shape := ⟨1, ![4096]⟩
abbrev S16 : Shape := ⟨1, ![16]⟩
abbrev S1x16 : Shape := ⟨2, ![1, 16]⟩
abbrev S16384x16 : Shape := ⟨2, ![16384, 16]⟩
abbrev S16384x8 : Shape := ⟨2, ![16384, 8]⟩
abbrev S8x16384 : Shape := ⟨2, ![8, 16384]⟩
abbrev S62x16384 : Shape := ⟨2, ![62, 16384]⟩
abbrev S40x1 : Shape := ⟨2, ![40, 1]⟩
abbrev S1x1 : Shape := ⟨2, ![1, 1]⟩
abbrev S1x16384 : Shape := ⟨2, ![1, 16384]⟩
abbrev S62x2048 : Shape := ⟨2, ![62, 2048]⟩
abbrev S8x2048 : Shape := ⟨2, ![8, 2048]⟩
abbrev S1x2048 : Shape := ⟨2, ![1, 2048]⟩
abbrev S5x2048 : Shape := ⟨2, ![5, 2048]⟩
abbrev S128x2048 : Shape := ⟨2, ![128, 2048]⟩
abbrev S40x2048 : Shape := ⟨2, ![40, 2048]⟩
abbrev S16384x1 : Shape := ⟨2, ![16384, 1]⟩

abbrev nBuf : Table → Nat
  | .hbm => 106
  | .local .tc .vmem => 30
  | .local .scVector .vmem => 4
  | _ => 0

abbrev bufTy : (tb : Table) → Fin (nBuf tb) → BufTy
  | .hbm, ⟨0, _⟩ => ⟨S16384x62, .f32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S1000x5, .f32⟩
  | .hbm, ⟨11, _⟩ => ⟨S1000x5, .f32⟩
  | .hbm, ⟨12, _⟩ => ⟨S100000x8, .f32⟩
  | .hbm, ⟨13, _⟩ => ⟨S100000x8, .f32⟩
  | .hbm, ⟨14, _⟩ => ⟨S100000x8, .f32⟩
  | .hbm, ⟨15, _⟩ => ⟨S100000x8, .f32⟩
  | .hbm, ⟨16, _⟩ => ⟨S100000x8, .f32⟩
  | .hbm, ⟨17, _⟩ => ⟨S100000x8, .f32⟩
  | .hbm, ⟨18, _⟩ => ⟨S26x8, .f32⟩
  | .hbm, ⟨19, _⟩ => ⟨S40x128, .f32⟩
  | .hbm, ⟨20, _⟩ => ⟨S40, .f32⟩
  | .hbm, ⟨21, _⟩ => ⟨S40x40, .f32⟩
  | .hbm, ⟨22, _⟩ => ⟨S40, .f32⟩
  | .hbm, ⟨23, _⟩ => ⟨S40x40, .f32⟩
  | .hbm, ⟨24, _⟩ => ⟨S40, .f32⟩
  | .hbm, ⟨25, _⟩ => ⟨S1x40, .f32⟩
  | .hbm, ⟨26, _⟩ => ⟨S1, .f32⟩
  | .hbm, ⟨27, _⟩ => ⟨S_, .i32⟩
  | .hbm, ⟨28, _⟩ => ⟨S_, .f32⟩
  | .hbm, ⟨29, _⟩ => ⟨S1000x16, .f32⟩
  | .hbm, ⟨30, _⟩ => ⟨S125x128, .f32⟩
  | .hbm, ⟨31, _⟩ => ⟨S_, .i32⟩
  | .hbm, ⟨32, _⟩ => ⟨S_, .f32⟩
  | .hbm, ⟨33, _⟩ => ⟨S1000x16, .f32⟩
  | .hbm, ⟨34, _⟩ => ⟨S125x128, .f32⟩
  | .hbm, ⟨35, _⟩ => ⟨S_, .i32⟩
  | .hbm, ⟨36, _⟩ => ⟨S_, .f32⟩
  | .hbm, ⟨37, _⟩ => ⟨S100000x16, .f32⟩
  | .hbm, ⟨38, _⟩ => ⟨S12500x128, .f32⟩
  | .hbm, ⟨39, _⟩ => ⟨S_, .i32⟩
  | .hbm, ⟨40, _⟩ => ⟨S_, .f32⟩
  | .hbm, ⟨41, _⟩ => ⟨S100000x16, .f32⟩
  | .hbm, ⟨42, _⟩ => ⟨S12500x128, .f32⟩
  | .hbm, ⟨43, _⟩ => ⟨S_, .i32⟩
  | .hbm, ⟨44, _⟩ => ⟨S_, .f32⟩
  | .hbm, ⟨45, _⟩ => ⟨S100000x16, .f32⟩
  | .hbm, ⟨46, _⟩ => ⟨S12500x128, .f32⟩
  | .hbm, ⟨47, _⟩ => ⟨S_, .i32⟩
  | .hbm, ⟨48, _⟩ => ⟨S_, .f32⟩
  | .hbm, ⟨49, _⟩ => ⟨S100000x16, .f32⟩
  | .hbm, ⟨50, _⟩ => ⟨S12500x128, .f32⟩
  | .hbm, ⟨51, _⟩ => ⟨S_, .i32⟩
  | .hbm, ⟨52, _⟩ => ⟨S_, .f32⟩
  | .hbm, ⟨53, _⟩ => ⟨S100000x16, .f32⟩
  | .hbm, ⟨54, _⟩ => ⟨S12500x128, .f32⟩
  | .hbm, ⟨55, _⟩ => ⟨S_, .i32⟩
  | .hbm, ⟨56, _⟩ => ⟨S_, .f32⟩
  | .hbm, ⟨57, _⟩ => ⟨S100000x16, .f32⟩
  | .hbm, ⟨58, _⟩ => ⟨S12500x128, .f32⟩
  | .hbm, ⟨59, _⟩ => ⟨S_, .i32⟩
  | .hbm, ⟨60, _⟩ => ⟨S_, .f32⟩
  | .hbm, ⟨61, _⟩ => ⟨S32x16, .f32⟩
  | .hbm, ⟨62, _⟩ => ⟨S4x128, .f32⟩
  | .hbm, ⟨63, _⟩ => ⟨S262144, .f32⟩
  | .hbm, ⟨64, _⟩ => ⟨S262144, .f32⟩
  | .hbm, ⟨65, _⟩ => ⟨S262144, .f32⟩
  | .hbm, ⟨66, _⟩ => ⟨S262144, .f32⟩
  | .hbm, ⟨67, _⟩ => ⟨S262144, .f32⟩
  | .hbm, ⟨68, _⟩ => ⟨S262144, .f32⟩
  | .hbm, ⟨69, _⟩ => ⟨S262144, .f32⟩
  | .hbm, ⟨70, _⟩ => ⟨S262144, .f32⟩
  | .hbm, ⟨71, _⟩ => ⟨S262144, .f32⟩
  | .hbm, ⟨72, _⟩ => ⟨S16384x16, .f32⟩
  | .hbm, ⟨73, _⟩ => ⟨S16384x8, .f32⟩
  | .hbm, ⟨74, _⟩ => ⟨S8x16384, .f32⟩
  | .hbm, ⟨75, _⟩ => ⟨S16384x16, .f32⟩
  | .hbm, ⟨76, _⟩ => ⟨S16384x8, .f32⟩
  | .hbm, ⟨77, _⟩ => ⟨S8x16384, .f32⟩
  | .hbm, ⟨78, _⟩ => ⟨S16384x16, .f32⟩
  | .hbm, ⟨79, _⟩ => ⟨S16384x8, .f32⟩
  | .hbm, ⟨80, _⟩ => ⟨S8x16384, .f32⟩
  | .hbm, ⟨81, _⟩ => ⟨S16384x16, .f32⟩
  | .hbm, ⟨82, _⟩ => ⟨S16384x8, .f32⟩
  | .hbm, ⟨83, _⟩ => ⟨S8x16384, .f32⟩
  | .hbm, ⟨84, _⟩ => ⟨S16384x16, .f32⟩
  | .hbm, ⟨85, _⟩ => ⟨S16384x8, .f32⟩
  | .hbm, ⟨86, _⟩ => ⟨S8x16384, .f32⟩
  | .hbm, ⟨87, _⟩ => ⟨S16384x16, .f32⟩
  | .hbm, ⟨88, _⟩ => ⟨S16384x8, .f32⟩
  | .hbm, ⟨89, _⟩ => ⟨S8x16384, .f32⟩
  | .hbm, ⟨90, _⟩ => ⟨S16384x16, .f32⟩
  | .hbm, ⟨91, _⟩ => ⟨S16384x8, .f32⟩
  | .hbm, ⟨92, _⟩ => ⟨S8x16384, .f32⟩
  | .hbm, ⟨93, _⟩ => ⟨S16384x16, .f32⟩
  | .hbm, ⟨94, _⟩ => ⟨S16384x8, .f32⟩
  | .hbm, ⟨95, _⟩ => ⟨S8x16384, .f32⟩
  | .hbm, ⟨96, _⟩ => ⟨S16384x16, .f32⟩
  | .hbm, ⟨97, _⟩ => ⟨S16384x8, .f32⟩
  | .hbm, ⟨98, _⟩ => ⟨S8x16384, .f32⟩
  | .hbm, ⟨99, _⟩ => ⟨S62x16384, .f32⟩
  | .hbm, ⟨100, _⟩ => ⟨S40x1, .f32⟩
  | .hbm, ⟨101, _⟩ => ⟨S40x1, .f32⟩
  | .hbm, ⟨102, _⟩ => ⟨S40x1, .f32⟩
  | .hbm, ⟨103, _⟩ => ⟨S1x1, .f32⟩
  | .hbm, ⟨104, _⟩ => ⟨S1x16384, .f32⟩
  | .hbm, ⟨105, _⟩ => ⟨S16384x1, .f32⟩
  | .local .tc .vmem, ⟨0, _⟩ => ⟨S62x2048, .f32⟩
  | .local .tc .vmem, ⟨1, _⟩ => ⟨S62x2048, .f32⟩
  | .local .tc .vmem, ⟨2, _⟩ => ⟨S8x2048, .f32⟩
  | .local .tc .vmem, ⟨3, _⟩ => ⟨S8x2048, .f32⟩
  | .local .tc .vmem, ⟨4, _⟩ => ⟨S8x2048, .f32⟩
  | .local .tc .vmem, ⟨5, _⟩ => ⟨S8x2048, .f32⟩
  | .local .tc .vmem, ⟨6, _⟩ => ⟨S8x2048, .f32⟩
  | .local .tc .vmem, ⟨7, _⟩ => ⟨S8x2048, .f32⟩
  | .local .tc .vmem, ⟨8, _⟩ => ⟨S8x2048, .f32⟩
  | .local .tc .vmem, ⟨9, _⟩ => ⟨S8x2048, .f32⟩
  | .local .tc .vmem, ⟨10, _⟩ => ⟨S8x2048, .f32⟩
  | .local .tc .vmem, ⟨11, _⟩ => ⟨S8x2048, .f32⟩
  | .local .tc .vmem, ⟨12, _⟩ => ⟨S8x2048, .f32⟩
  | .local .tc .vmem, ⟨13, _⟩ => ⟨S8x2048, .f32⟩
  | .local .tc .vmem, ⟨14, _⟩ => ⟨S8x2048, .f32⟩
  | .local .tc .vmem, ⟨15, _⟩ => ⟨S8x2048, .f32⟩
  | .local .tc .vmem, ⟨16, _⟩ => ⟨S8x2048, .f32⟩
  | .local .tc .vmem, ⟨17, _⟩ => ⟨S8x2048, .f32⟩
  | .local .tc .vmem, ⟨18, _⟩ => ⟨S8x2048, .f32⟩
  | .local .tc .vmem, ⟨19, _⟩ => ⟨S8x2048, .f32⟩
  | .local .tc .vmem, ⟨20, _⟩ => ⟨S40x128, .f32⟩
  | .local .tc .vmem, ⟨21, _⟩ => ⟨S40x1, .f32⟩
  | .local .tc .vmem, ⟨22, _⟩ => ⟨S40x40, .f32⟩
  | .local .tc .vmem, ⟨23, _⟩ => ⟨S40x1, .f32⟩
  | .local .tc .vmem, ⟨24, _⟩ => ⟨S40x40, .f32⟩
  | .local .tc .vmem, ⟨25, _⟩ => ⟨S40x1, .f32⟩
  | .local .tc .vmem, ⟨26, _⟩ => ⟨S1x40, .f32⟩
  | .local .tc .vmem, ⟨27, _⟩ => ⟨S1x1, .f32⟩
  | .local .tc .vmem, ⟨28, _⟩ => ⟨S1x2048, .f32⟩
  | .local .tc .vmem, ⟨29, _⟩ => ⟨S1x2048, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S4096, .f32⟩
  | _, _ => ⟨S16384x62, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 49 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTables nBuf rfl bufTy 4 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_call0_v0 : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_call1_v0 : Ref sig .tc := ⟨.hbm, 32, rfl⟩
abbrev main_v2 : Ref sig .tc := ⟨.hbm, 33, rfl⟩
abbrev main_v3 : Ref sig .tc := ⟨.hbm, 34, rfl⟩
abbrev main_c_1 : Ref sig .tc := ⟨.hbm, 35, rfl⟩
abbrev main_call2_v0 : Ref sig .tc := ⟨.hbm, 36, rfl⟩
abbrev main_v4 : Ref sig .tc := ⟨.hbm, 37, rfl⟩
abbrev main_v5 : Ref sig .tc := ⟨.hbm, 38, rfl⟩
abbrev main_c_2 : Ref sig .tc := ⟨.hbm, 39, rfl⟩
abbrev main_call3_v0 : Ref sig .tc := ⟨.hbm, 40, rfl⟩
abbrev main_v6 : Ref sig .tc := ⟨.hbm, 41, rfl⟩
abbrev main_v7 : Ref sig .tc := ⟨.hbm, 42, rfl⟩
abbrev main_c_3 : Ref sig .tc := ⟨.hbm, 43, rfl⟩
abbrev main_call4_v0 : Ref sig .tc := ⟨.hbm, 44, rfl⟩
abbrev main_v8 : Ref sig .tc := ⟨.hbm, 45, rfl⟩
abbrev main_v9 : Ref sig .tc := ⟨.hbm, 46, rfl⟩
abbrev main_c_4 : Ref sig .tc := ⟨.hbm, 47, rfl⟩
abbrev main_call5_v0 : Ref sig .tc := ⟨.hbm, 48, rfl⟩
abbrev main_v10 : Ref sig .tc := ⟨.hbm, 49, rfl⟩
abbrev main_v11 : Ref sig .tc := ⟨.hbm, 50, rfl⟩
abbrev main_c_5 : Ref sig .tc := ⟨.hbm, 51, rfl⟩
abbrev main_call6_v0 : Ref sig .tc := ⟨.hbm, 52, rfl⟩
abbrev main_v12 : Ref sig .tc := ⟨.hbm, 53, rfl⟩
abbrev main_v13 : Ref sig .tc := ⟨.hbm, 54, rfl⟩
abbrev main_c_6 : Ref sig .tc := ⟨.hbm, 55, rfl⟩
abbrev main_call7_v0 : Ref sig .tc := ⟨.hbm, 56, rfl⟩
abbrev main_v14 : Ref sig .tc := ⟨.hbm, 57, rfl⟩
abbrev main_v15 : Ref sig .tc := ⟨.hbm, 58, rfl⟩
abbrev main_c_7 : Ref sig .tc := ⟨.hbm, 59, rfl⟩
abbrev main_call8_v0 : Ref sig .tc := ⟨.hbm, 60, rfl⟩
abbrev main_v16 : Ref sig .tc := ⟨.hbm, 61, rfl⟩
abbrev main_v17 : Ref sig .tc := ⟨.hbm, 62, rfl⟩
abbrev main_v18_0 : Ref sig .tc := ⟨.hbm, 63, rfl⟩
abbrev main_v18_1 : Ref sig .tc := ⟨.hbm, 64, rfl⟩
abbrev main_v18_2 : Ref sig .tc := ⟨.hbm, 65, rfl⟩
abbrev main_v18_3 : Ref sig .tc := ⟨.hbm, 66, rfl⟩
abbrev main_v18_4 : Ref sig .tc := ⟨.hbm, 67, rfl⟩
abbrev main_v18_5 : Ref sig .tc := ⟨.hbm, 68, rfl⟩
abbrev main_v18_6 : Ref sig .tc := ⟨.hbm, 69, rfl⟩
abbrev main_v18_7 : Ref sig .tc := ⟨.hbm, 70, rfl⟩
abbrev main_v18_8 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_arg9_scv : Ref sig .scVector := ⟨.hbm, 9, rfl⟩
abbrev main_v1_scv : Ref sig .scVector := ⟨.hbm, 30, rfl⟩
abbrev main_v3_scv : Ref sig .scVector := ⟨.hbm, 34, rfl⟩
abbrev main_v5_scv : Ref sig .scVector := ⟨.hbm, 38, rfl⟩
abbrev main_v7_scv : Ref sig .scVector := ⟨.hbm, 42, rfl⟩
abbrev main_v9_scv : Ref sig .scVector := ⟨.hbm, 46, rfl⟩
abbrev main_v11_scv : Ref sig .scVector := ⟨.hbm, 50, rfl⟩
abbrev main_v13_scv : Ref sig .scVector := ⟨.hbm, 54, rfl⟩
abbrev main_v15_scv : Ref sig .scVector := ⟨.hbm, 58, rfl⟩
abbrev main_v17_scv : Ref sig .scVector := ⟨.hbm, 62, rfl⟩
abbrev main_v18_0_scv : Ref sig .scVector := ⟨.hbm, 63, rfl⟩
abbrev main_v18_1_scv : Ref sig .scVector := ⟨.hbm, 64, rfl⟩
abbrev main_v18_2_scv : Ref sig .scVector := ⟨.hbm, 65, rfl⟩
abbrev main_v18_3_scv : Ref sig .scVector := ⟨.hbm, 66, rfl⟩
abbrev main_v18_4_scv : Ref sig .scVector := ⟨.hbm, 67, rfl⟩
abbrev main_v18_5_scv : Ref sig .scVector := ⟨.hbm, 68, rfl⟩
abbrev main_v18_6_scv : Ref sig .scVector := ⟨.hbm, 69, rfl⟩
abbrev main_v18_7_scv : Ref sig .scVector := ⟨.hbm, 70, rfl⟩
abbrev main_v18_8_scv : Ref sig .scVector := ⟨.hbm, 71, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg17_0 : Ref sig .tc := ⟨.vmem, 27, rfl⟩
abbrev cc1_stg18_0 : Ref sig .tc := ⟨.vmem, 28, rfl⟩
abbrev cc1_stg18_1 : Ref sig .tc := ⟨.vmem, 29, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem9_1 : DmaSem sig := 38
abbrev cc1_sem10_0 : DmaSem sig := 39
abbrev cc1_sem11_0 : DmaSem sig := 40
abbrev cc1_sem12_0 : DmaSem sig := 41
abbrev cc1_sem13_0 : DmaSem sig := 42
abbrev cc1_sem14_0 : DmaSem sig := 43
abbrev cc1_sem15_0 : DmaSem sig := 44
abbrev cc1_sem16_0 : DmaSem sig := 45
abbrev cc1_sem17_0 : DmaSem sig := 46
abbrev cc1_sem18_0 : DmaSem sig := 47
abbrev cc1_sem18_1 : DmaSem sig := 48
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg34 : BitVec 32 := Scf.iv c0_i32_0 c1_i32 k0_t1
  let c256_i32 : BitVec 32 := 256#32
  let v12 : BitVec 32 := Scalar.muli arg34 c256_i32
  let v13 : BitVec 32 := Scalar.addi v2 v12
  ![v13.toNat]
@[reducible] def k0_t2_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off2 (k0_t2 : Fin k0_t2_loop.trips) : Fin 1 → Nat :=
  let c0_i32_44 : BitVec 32 := 0#32
  let c1_i32_45 : BitVec 32 := 1#32
  let arg35 : BitVec 32 := Scf.iv c0_i32_44 c1_i32_45 k0_t2
  let c16_i32_57 : BitVec 32 := 16#32
  let v19 : BitVec 32 := Scalar.muli arg35 c16_i32_57
  let v20 : Index := Scalar.indexCast v19
  ![v20.toNat]
@[reducible] def k0_t3_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off3 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_57 : BitVec 32 := 16#32
  let v19 : BitVec 32 := Scalar.muli arg35 c16_i32_57
  let v20 : Index := Scalar.indexCast v19
  ![v20.toNat]
def k0_off4 (k0_t3 : Fin k0_t3_loop.trips) (v30 : BitVec 32) : Fin 2 → Nat :=
  let c0_i32_52 : BitVec 32 := 0#32
  let c1_i32_54 : BitVec 32 := 1#32
  let arg35 : BitVec 32 := Scf.iv c0_i32_52 c1_i32_54 k0_t3
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk1 (k0_t3 : Fin k0_t3_loop.trips) (v30 : BitVec 32) : Prop :=
  (∀ a, (k0_off4 k0_t3 v30) a + S1x16.size a ≤ S256x128.size a)
theorem k0_off4_inb : ∀ (k0_t3 : Fin k0_t3_loop.trips) (v30 : BitVec 32) (k0_hw1 : k0_chk1 k0_t3 v30), ∀ a, (k0_off4 k0_t3 v30) a + S1x16.size a ≤ S256x128.size a := fun k0_t3 v30 k0_hw1 => k0_hw1

def k0_off5 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off6 (k0_t3 : Fin k0_t3_loop.trips) (v43 : BitVec 32) : Fin 2 → Nat :=
  let c0_i32_52 : BitVec 32 := 0#32
  let c1_i32_54 : BitVec 32 := 1#32
  let arg35 : BitVec 32 := Scf.iv c0_i32_52 c1_i32_54 k0_t3
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk2 (k0_t3 : Fin k0_t3_loop.trips) (v43 : BitVec 32) : Prop :=
  (∀ a, (k0_off6 k0_t3 v43) a + S1x16.size a ≤ S256x128.size a)
theorem k0_off6_inb : ∀ (k0_t3 : Fin k0_t3_loop.trips) (v43 : BitVec 32) (k0_hw2 : k0_chk2 k0_t3 v43), ∀ a, (k0_off6 k0_t3 v43) a + S1x16.size a ≤ S256x128.size a := fun k0_t3 v43 k0_hw2 => k0_hw2

def k0_off7 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off8 (k0_t3 : Fin k0_t3_loop.trips) (v56 : BitVec 32) : Fin 2 → Nat :=
  let c0_i32_52 : BitVec 32 := 0#32
  let c1_i32_54 : BitVec 32 := 1#32
  let arg35 : BitVec 32 := Scf.iv c0_i32_52 c1_i32_54 k0_t3
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk3 (k0_t3 : Fin k0_t3_loop.trips) (v56 : BitVec 32) : Prop :=
  (∀ a, (k0_off8 k0_t3 v56) a + S1x16.size a ≤ S256x128.size a)
theorem k0_off8_inb : ∀ (k0_t3 : Fin k0_t3_loop.trips) (v56 : BitVec 32) (k0_hw3 : k0_chk3 k0_t3 v56), ∀ a, (k0_off8 k0_t3 v56) a + S1x16.size a ≤ S256x128.size a := fun k0_t3 v56 k0_hw3 => k0_hw3

def k0_off9 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off10 (k0_t3 : Fin k0_t3_loop.trips) (v69 : BitVec 32) : Fin 2 → Nat :=
  let c0_i32_52 : BitVec 32 := 0#32
  let c1_i32_54 : BitVec 32 := 1#32
  let arg35 : BitVec 32 := Scf.iv c0_i32_52 c1_i32_54 k0_t3
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk4 (k0_t3 : Fin k0_t3_loop.trips) (v69 : BitVec 32) : Prop :=
  (∀ a, (k0_off10 k0_t3 v69) a + S1x16.size a ≤ S256x128.size a)
theorem k0_off10_inb : ∀ (k0_t3 : Fin k0_t3_loop.trips) (v69 : BitVec 32) (k0_hw4 : k0_chk4 k0_t3 v69), ∀ a, (k0_off10 k0_t3 v69) a + S1x16.size a ≤ S256x128.size a := fun k0_t3 v69 k0_hw4 => k0_hw4

def k0_off11 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off12 (k0_t3 : Fin k0_t3_loop.trips) (v82 : BitVec 32) : Fin 2 → Nat :=
  let c0_i32_52 : BitVec 32 := 0#32
  let c1_i32_54 : BitVec 32 := 1#32
  let arg35 : BitVec 32 := Scf.iv c0_i32_52 c1_i32_54 k0_t3
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk5 (k0_t3 : Fin k0_t3_loop.trips) (v82 : BitVec 32) : Prop :=
  (∀ a, (k0_off12 k0_t3 v82) a + S1x16.size a ≤ S256x128.size a)
theorem k0_off12_inb : ∀ (k0_t3 : Fin k0_t3_loop.trips) (v82 : BitVec 32) (k0_hw5 : k0_chk5 k0_t3 v82), ∀ a, (k0_off12 k0_t3 v82) a + S1x16.size a ≤ S256x128.size a := fun k0_t3 v82 k0_hw5 => k0_hw5

def k0_off13 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off14 (k0_t3 : Fin k0_t3_loop.trips) (v95 : BitVec 32) : Fin 2 → Nat :=
  let c0_i32_52 : BitVec 32 := 0#32
  let c1_i32_54 : BitVec 32 := 1#32
  let arg35 : BitVec 32 := Scf.iv c0_i32_52 c1_i32_54 k0_t3
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk6 (k0_t3 : Fin k0_t3_loop.trips) (v95 : BitVec 32) : Prop :=
  (∀ a, (k0_off14 k0_t3 v95) a + S1x16.size a ≤ S256x128.size a)
theorem k0_off14_inb : ∀ (k0_t3 : Fin k0_t3_loop.trips) (v95 : BitVec 32) (k0_hw6 : k0_chk6 k0_t3 v95), ∀ a, (k0_off14 k0_t3 v95) a + S1x16.size a ≤ S256x128.size a := fun k0_t3 v95 k0_hw6 => k0_hw6

def k0_off15 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off16 (k0_t3 : Fin k0_t3_loop.trips) (v108 : BitVec 32) : Fin 2 → Nat :=
  let c0_i32_52 : BitVec 32 := 0#32
  let c1_i32_54 : BitVec 32 := 1#32
  let arg35 : BitVec 32 := Scf.iv c0_i32_52 c1_i32_54 k0_t3
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk7 (k0_t3 : Fin k0_t3_loop.trips) (v108 : BitVec 32) : Prop :=
  (∀ a, (k0_off16 k0_t3 v108) a + S1x16.size a ≤ S256x128.size a)
theorem k0_off16_inb : ∀ (k0_t3 : Fin k0_t3_loop.trips) (v108 : BitVec 32) (k0_hw7 : k0_chk7 k0_t3 v108), ∀ a, (k0_off16 k0_t3 v108) a + S1x16.size a ≤ S256x128.size a := fun k0_t3 v108 k0_hw7 => k0_hw7

def k0_off17 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off18 (k0_t3 : Fin k0_t3_loop.trips) (v121 : BitVec 32) : Fin 2 → Nat :=
  let c0_i32_52 : BitVec 32 := 0#32
  let c1_i32_54 : BitVec 32 := 1#32
  let arg35 : BitVec 32 := Scf.iv c0_i32_52 c1_i32_54 k0_t3
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk8 (k0_t3 : Fin k0_t3_loop.trips) (v121 : BitVec 32) : Prop :=
  (∀ a, (k0_off18 k0_t3 v121) a + S1x16.size a ≤ S256x128.size a)
theorem k0_off18_inb : ∀ (k0_t3 : Fin k0_t3_loop.trips) (v121 : BitVec 32) (k0_hw8 : k0_chk8 k0_t3 v121), ∀ a, (k0_off18 k0_t3 v121) a + S1x16.size a ≤ S256x128.size a := fun k0_t3 v121 k0_hw8 => k0_hw8

def k0_off19 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off20 (k0_t3 : Fin k0_t3_loop.trips) (v134 : BitVec 32) : Fin 2 → Nat :=
  let c0_i32_52 : BitVec 32 := 0#32
  let c1_i32_54 : BitVec 32 := 1#32
  let arg35 : BitVec 32 := Scf.iv c0_i32_52 c1_i32_54 k0_t3
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk9 (k0_t3 : Fin k0_t3_loop.trips) (v134 : BitVec 32) : Prop :=
  (∀ a, (k0_off20 k0_t3 v134) a + S1x16.size a ≤ S256x128.size a)
theorem k0_off20_inb : ∀ (k0_t3 : Fin k0_t3_loop.trips) (v134 : BitVec 32) (k0_hw9 : k0_chk9 k0_t3 v134), ∀ a, (k0_off20 k0_t3 v134) a + S1x16.size a ≤ S256x128.size a := fun k0_t3 v134 k0_hw9 => k0_hw9

def k0_off21 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off22 (k0_t3 : Fin k0_t3_loop.trips) (v147 : BitVec 32) : Fin 2 → Nat :=
  let c0_i32_52 : BitVec 32 := 0#32
  let c1_i32_54 : BitVec 32 := 1#32
  let arg35 : BitVec 32 := Scf.iv c0_i32_52 c1_i32_54 k0_t3
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk10 (k0_t3 : Fin k0_t3_loop.trips) (v147 : BitVec 32) : Prop :=
  (∀ a, (k0_off22 k0_t3 v147) a + S1x16.size a ≤ S256x128.size a)
theorem k0_off22_inb : ∀ (k0_t3 : Fin k0_t3_loop.trips) (v147 : BitVec 32) (k0_hw10 : k0_chk10 k0_t3 v147), ∀ a, (k0_off22 k0_t3 v147) a + S1x16.size a ≤ S256x128.size a := fun k0_t3 v147 k0_hw10 => k0_hw10

def k0_off23 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off24 (k0_t3 : Fin k0_t3_loop.trips) (v160 : BitVec 32) : Fin 2 → Nat :=
  let c0_i32_52 : BitVec 32 := 0#32
  let c1_i32_54 : BitVec 32 := 1#32
  let arg35 : BitVec 32 := Scf.iv c0_i32_52 c1_i32_54 k0_t3
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk11 (k0_t3 : Fin k0_t3_loop.trips) (v160 : BitVec 32) : Prop :=
  (∀ a, (k0_off24 k0_t3 v160) a + S1x16.size a ≤ S256x128.size a)
theorem k0_off24_inb : ∀ (k0_t3 : Fin k0_t3_loop.trips) (v160 : BitVec 32) (k0_hw11 : k0_chk11 k0_t3 v160), ∀ a, (k0_off24 k0_t3 v160) a + S1x16.size a ≤ S256x128.size a := fun k0_t3 v160 k0_hw11 => k0_hw11

def k0_off25 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off26 (k0_t3 : Fin k0_t3_loop.trips) (v173 : BitVec 32) : Fin 2 → Nat :=
  let c0_i32_52 : BitVec 32 := 0#32
  let c1_i32_54 : BitVec 32 := 1#32
  let arg35 : BitVec 32 := Scf.iv c0_i32_52 c1_i32_54 k0_t3
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk12 (k0_t3 : Fin k0_t3_loop.trips) (v173 : BitVec 32) : Prop :=
  (∀ a, (k0_off26 k0_t3 v173) a + S1x16.size a ≤ S256x128.size a)
theorem k0_off26_inb : ∀ (k0_t3 : Fin k0_t3_loop.trips) (v173 : BitVec 32) (k0_hw12 : k0_chk12 k0_t3 v173), ∀ a, (k0_off26 k0_t3 v173) a + S1x16.size a ≤ S256x128.size a := fun k0_t3 v173 k0_hw12 => k0_hw12

def k0_off27 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off28 (k0_t3 : Fin k0_t3_loop.trips) (v186 : BitVec 32) : Fin 2 → Nat :=
  let c0_i32_52 : BitVec 32 := 0#32
  let c1_i32_54 : BitVec 32 := 1#32
  let arg35 : BitVec 32 := Scf.iv c0_i32_52 c1_i32_54 k0_t3
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk13 (k0_t3 : Fin k0_t3_loop.trips) (v186 : BitVec 32) : Prop :=
  (∀ a, (k0_off28 k0_t3 v186) a + S1x16.size a ≤ S256x128.size a)
theorem k0_off28_inb : ∀ (k0_t3 : Fin k0_t3_loop.trips) (v186 : BitVec 32) (k0_hw13 : k0_chk13 k0_t3 v186), ∀ a, (k0_off28 k0_t3 v186) a + S1x16.size a ≤ S256x128.size a := fun k0_t3 v186 k0_hw13 => k0_hw13

def k0_off29 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off30 (k0_t3 : Fin k0_t3_loop.trips) (v199 : BitVec 32) : Fin 2 → Nat :=
  let c0_i32_52 : BitVec 32 := 0#32
  let c1_i32_54 : BitVec 32 := 1#32
  let arg35 : BitVec 32 := Scf.iv c0_i32_52 c1_i32_54 k0_t3
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk14 (k0_t3 : Fin k0_t3_loop.trips) (v199 : BitVec 32) : Prop :=
  (∀ a, (k0_off30 k0_t3 v199) a + S1x16.size a ≤ S256x128.size a)
theorem k0_off30_inb : ∀ (k0_t3 : Fin k0_t3_loop.trips) (v199 : BitVec 32) (k0_hw14 : k0_chk14 k0_t3 v199), ∀ a, (k0_off30 k0_t3 v199) a + S1x16.size a ≤ S256x128.size a := fun k0_t3 v199 k0_hw14 => k0_hw14

def k0_off31 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off32 (k0_t3 : Fin k0_t3_loop.trips) (v212 : BitVec 32) : Fin 2 → Nat :=
  let c0_i32_52 : BitVec 32 := 0#32
  let c1_i32_54 : BitVec 32 := 1#32
  let arg35 : BitVec 32 := Scf.iv c0_i32_52 c1_i32_54 k0_t3
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk15 (k0_t3 : Fin k0_t3_loop.trips) (v212 : BitVec 32) : Prop :=
  (∀ a, (k0_off32 k0_t3 v212) a + S1x16.size a ≤ S256x128.size a)
theorem k0_off32_inb : ∀ (k0_t3 : Fin k0_t3_loop.trips) (v212 : BitVec 32) (k0_hw15 : k0_chk15 k0_t3 v212), ∀ a, (k0_off32 k0_t3 v212) a + S1x16.size a ≤ S256x128.size a := fun k0_t3 v212 k0_hw15 => k0_hw15

def k0_off33 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off34 (k0_t3 : Fin k0_t3_loop.trips) (v225 : BitVec 32) : Fin 2 → Nat :=
  let c0_i32_52 : BitVec 32 := 0#32
  let c1_i32_54 : BitVec 32 := 1#32
  let arg35 : BitVec 32 := Scf.iv c0_i32_52 c1_i32_54 k0_t3
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk16 (k0_t3 : Fin k0_t3_loop.trips) (v225 : BitVec 32) : Prop :=
  (∀ a, (k0_off34 k0_t3 v225) a + S1x16.size a ≤ S256x128.size a)
theorem k0_off34_inb : ∀ (k0_t3 : Fin k0_t3_loop.trips) (v225 : BitVec 32) (k0_hw16 : k0_chk16 k0_t3 v225), ∀ a, (k0_off34 k0_t3 v225) a + S1x16.size a ≤ S256x128.size a := fun k0_t3 v225 k0_hw16 => k0_hw16

def k0_off35 (k0_t3 : Fin k0_t3_loop.trips) : Fin 1 → Nat :=
  let c0_i32_52 : BitVec 32 := 0#32
  let c1_i32_54 : BitVec 32 := 1#32
  let arg35 : BitVec 32 := Scf.iv c0_i32_52 c1_i32_54 k0_t3
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off36 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg34 : BitVec 32 := Scf.iv c0_i32_0 c1_i32 k0_t1
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t4_loop : Scf.Loop 32 :=
  let c0_i32_4 : BitVec 32 := 0#32
  let c2_i32_5 : BitVec 32 := 2#32
  let v4 : BitVec 32 := Scalar.addi c0_i32_4 c2_i32_5
  let c1_i32_6 : BitVec 32 := 1#32
  ⟨c0_i32_4, v4, c1_i32_6⟩
def k0_off37 (i : grid0.Coords) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32_6 : BitVec 32 := 1#32
  let arg34 : BitVec 32 := Scf.iv c0_i32_4 c1_i32_6 k0_t4
  let c256_i32 : BitVec 32 := 256#32
  let v12 : BitVec 32 := Scalar.muli arg34 c256_i32
  let v13 : BitVec 32 := Scalar.addi v2 v12
  ![v13.toNat]
@[reducible] def k0_t5_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off38 (k0_t5 : Fin k0_t5_loop.trips) : Fin 1 → Nat :=
  let c0_i32_44 : BitVec 32 := 0#32
  let c1_i32_45 : BitVec 32 := 1#32
  let arg35 : BitVec 32 := Scf.iv c0_i32_44 c1_i32_45 k0_t5
  let c16_i32_57 : BitVec 32 := 16#32
  let v19 : BitVec 32 := Scalar.muli arg35 c16_i32_57
  let v20 : Index := Scalar.indexCast v19
  ![v20.toNat]
@[reducible] def k0_t6_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off39 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_57 : BitVec 32 := 16#32
  let v19 : BitVec 32 := Scalar.muli arg35 c16_i32_57
  let v20 : Index := Scalar.indexCast v19
  ![v20.toNat]
def k0_off40 (k0_t6 : Fin k0_t6_loop.trips) (v30 : BitVec 32) : Fin 2 → Nat :=
  let c0_i32_52 : BitVec 32 := 0#32
  let c1_i32_54 : BitVec 32 := 1#32
  let arg35 : BitVec 32 := Scf.iv c0_i32_52 c1_i32_54 k0_t6
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk17 (k0_t6 : Fin k0_t6_loop.trips) (v30 : BitVec 32) : Prop :=
  (∀ a, (k0_off40 k0_t6 v30) a + S1x16.size a ≤ S256x128.size a)
theorem k0_off40_inb : ∀ (k0_t6 : Fin k0_t6_loop.trips) (v30 : BitVec 32) (k0_hw17 : k0_chk17 k0_t6 v30), ∀ a, (k0_off40 k0_t6 v30) a + S1x16.size a ≤ S256x128.size a := fun k0_t6 v30 k0_hw17 => k0_hw17

def k0_off41 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off42 (k0_t6 : Fin k0_t6_loop.trips) (v43 : BitVec 32) : Fin 2 → Nat :=
  let c0_i32_52 : BitVec 32 := 0#32
  let c1_i32_54 : BitVec 32 := 1#32
  let arg35 : BitVec 32 := Scf.iv c0_i32_52 c1_i32_54 k0_t6
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk18 (k0_t6 : Fin k0_t6_loop.trips) (v43 : BitVec 32) : Prop :=
  (∀ a, (k0_off42 k0_t6 v43) a + S1x16.size a ≤ S256x128.size a)
theorem k0_off42_inb : ∀ (k0_t6 : Fin k0_t6_loop.trips) (v43 : BitVec 32) (k0_hw18 : k0_chk18 k0_t6 v43), ∀ a, (k0_off42 k0_t6 v43) a + S1x16.size a ≤ S256x128.size a := fun k0_t6 v43 k0_hw18 => k0_hw18

def k0_off43 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off44 (k0_t6 : Fin k0_t6_loop.trips) (v56 : BitVec 32) : Fin 2 → Nat :=
  let c0_i32_52 : BitVec 32 := 0#32
  let c1_i32_54 : BitVec 32 := 1#32
  let arg35 : BitVec 32 := Scf.iv c0_i32_52 c1_i32_54 k0_t6
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk19 (k0_t6 : Fin k0_t6_loop.trips) (v56 : BitVec 32) : Prop :=
  (∀ a, (k0_off44 k0_t6 v56) a + S1x16.size a ≤ S256x128.size a)
theorem k0_off44_inb : ∀ (k0_t6 : Fin k0_t6_loop.trips) (v56 : BitVec 32) (k0_hw19 : k0_chk19 k0_t6 v56), ∀ a, (k0_off44 k0_t6 v56) a + S1x16.size a ≤ S256x128.size a := fun k0_t6 v56 k0_hw19 => k0_hw19

def k0_off45 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off46 (k0_t6 : Fin k0_t6_loop.trips) (v69 : BitVec 32) : Fin 2 → Nat :=
  let c0_i32_52 : BitVec 32 := 0#32
  let c1_i32_54 : BitVec 32 := 1#32
  let arg35 : BitVec 32 := Scf.iv c0_i32_52 c1_i32_54 k0_t6
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk20 (k0_t6 : Fin k0_t6_loop.trips) (v69 : BitVec 32) : Prop :=
  (∀ a, (k0_off46 k0_t6 v69) a + S1x16.size a ≤ S256x128.size a)
theorem k0_off46_inb : ∀ (k0_t6 : Fin k0_t6_loop.trips) (v69 : BitVec 32) (k0_hw20 : k0_chk20 k0_t6 v69), ∀ a, (k0_off46 k0_t6 v69) a + S1x16.size a ≤ S256x128.size a := fun k0_t6 v69 k0_hw20 => k0_hw20

def k0_off47 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off48 (k0_t6 : Fin k0_t6_loop.trips) (v82 : BitVec 32) : Fin 2 → Nat :=
  let c0_i32_52 : BitVec 32 := 0#32
  let c1_i32_54 : BitVec 32 := 1#32
  let arg35 : BitVec 32 := Scf.iv c0_i32_52 c1_i32_54 k0_t6
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk21 (k0_t6 : Fin k0_t6_loop.trips) (v82 : BitVec 32) : Prop :=
  (∀ a, (k0_off48 k0_t6 v82) a + S1x16.size a ≤ S256x128.size a)
theorem k0_off48_inb : ∀ (k0_t6 : Fin k0_t6_loop.trips) (v82 : BitVec 32) (k0_hw21 : k0_chk21 k0_t6 v82), ∀ a, (k0_off48 k0_t6 v82) a + S1x16.size a ≤ S256x128.size a := fun k0_t6 v82 k0_hw21 => k0_hw21

def k0_off49 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off50 (k0_t6 : Fin k0_t6_loop.trips) (v95 : BitVec 32) : Fin 2 → Nat :=
  let c0_i32_52 : BitVec 32 := 0#32
  let c1_i32_54 : BitVec 32 := 1#32
  let arg35 : BitVec 32 := Scf.iv c0_i32_52 c1_i32_54 k0_t6
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk22 (k0_t6 : Fin k0_t6_loop.trips) (v95 : BitVec 32) : Prop :=
  (∀ a, (k0_off50 k0_t6 v95) a + S1x16.size a ≤ S256x128.size a)
theorem k0_off50_inb : ∀ (k0_t6 : Fin k0_t6_loop.trips) (v95 : BitVec 32) (k0_hw22 : k0_chk22 k0_t6 v95), ∀ a, (k0_off50 k0_t6 v95) a + S1x16.size a ≤ S256x128.size a := fun k0_t6 v95 k0_hw22 => k0_hw22

def k0_off51 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off52 (k0_t6 : Fin k0_t6_loop.trips) (v108 : BitVec 32) : Fin 2 → Nat :=
  let c0_i32_52 : BitVec 32 := 0#32
  let c1_i32_54 : BitVec 32 := 1#32
  let arg35 : BitVec 32 := Scf.iv c0_i32_52 c1_i32_54 k0_t6
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk23 (k0_t6 : Fin k0_t6_loop.trips) (v108 : BitVec 32) : Prop :=
  (∀ a, (k0_off52 k0_t6 v108) a + S1x16.size a ≤ S256x128.size a)
theorem k0_off52_inb : ∀ (k0_t6 : Fin k0_t6_loop.trips) (v108 : BitVec 32) (k0_hw23 : k0_chk23 k0_t6 v108), ∀ a, (k0_off52 k0_t6 v108) a + S1x16.size a ≤ S256x128.size a := fun k0_t6 v108 k0_hw23 => k0_hw23

def k0_off53 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off54 (k0_t6 : Fin k0_t6_loop.trips) (v121 : BitVec 32) : Fin 2 → Nat :=
  let c0_i32_52 : BitVec 32 := 0#32
  let c1_i32_54 : BitVec 32 := 1#32
  let arg35 : BitVec 32 := Scf.iv c0_i32_52 c1_i32_54 k0_t6
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk24 (k0_t6 : Fin k0_t6_loop.trips) (v121 : BitVec 32) : Prop :=
  (∀ a, (k0_off54 k0_t6 v121) a + S1x16.size a ≤ S256x128.size a)
theorem k0_off54_inb : ∀ (k0_t6 : Fin k0_t6_loop.trips) (v121 : BitVec 32) (k0_hw24 : k0_chk24 k0_t6 v121), ∀ a, (k0_off54 k0_t6 v121) a + S1x16.size a ≤ S256x128.size a := fun k0_t6 v121 k0_hw24 => k0_hw24

def k0_off55 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off56 (k0_t6 : Fin k0_t6_loop.trips) (v134 : BitVec 32) : Fin 2 → Nat :=
  let c0_i32_52 : BitVec 32 := 0#32
  let c1_i32_54 : BitVec 32 := 1#32
  let arg35 : BitVec 32 := Scf.iv c0_i32_52 c1_i32_54 k0_t6
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk25 (k0_t6 : Fin k0_t6_loop.trips) (v134 : BitVec 32) : Prop :=
  (∀ a, (k0_off56 k0_t6 v134) a + S1x16.size a ≤ S256x128.size a)
theorem k0_off56_inb : ∀ (k0_t6 : Fin k0_t6_loop.trips) (v134 : BitVec 32) (k0_hw25 : k0_chk25 k0_t6 v134), ∀ a, (k0_off56 k0_t6 v134) a + S1x16.size a ≤ S256x128.size a := fun k0_t6 v134 k0_hw25 => k0_hw25

def k0_off57 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off58 (k0_t6 : Fin k0_t6_loop.trips) (v147 : BitVec 32) : Fin 2 → Nat :=
  let c0_i32_52 : BitVec 32 := 0#32
  let c1_i32_54 : BitVec 32 := 1#32
  let arg35 : BitVec 32 := Scf.iv c0_i32_52 c1_i32_54 k0_t6
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk26 (k0_t6 : Fin k0_t6_loop.trips) (v147 : BitVec 32) : Prop :=
  (∀ a, (k0_off58 k0_t6 v147) a + S1x16.size a ≤ S256x128.size a)
theorem k0_off58_inb : ∀ (k0_t6 : Fin k0_t6_loop.trips) (v147 : BitVec 32) (k0_hw26 : k0_chk26 k0_t6 v147), ∀ a, (k0_off58 k0_t6 v147) a + S1x16.size a ≤ S256x128.size a := fun k0_t6 v147 k0_hw26 => k0_hw26

def k0_off59 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off60 (k0_t6 : Fin k0_t6_loop.trips) (v160 : BitVec 32) : Fin 2 → Nat :=
  let c0_i32_52 : BitVec 32 := 0#32
  let c1_i32_54 : BitVec 32 := 1#32
  let arg35 : BitVec 32 := Scf.iv c0_i32_52 c1_i32_54 k0_t6
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk27 (k0_t6 : Fin k0_t6_loop.trips) (v160 : BitVec 32) : Prop :=
  (∀ a, (k0_off60 k0_t6 v160) a + S1x16.size a ≤ S256x128.size a)
theorem k0_off60_inb : ∀ (k0_t6 : Fin k0_t6_loop.trips) (v160 : BitVec 32) (k0_hw27 : k0_chk27 k0_t6 v160), ∀ a, (k0_off60 k0_t6 v160) a + S1x16.size a ≤ S256x128.size a := fun k0_t6 v160 k0_hw27 => k0_hw27

def k0_off61 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off62 (k0_t6 : Fin k0_t6_loop.trips) (v173 : BitVec 32) : Fin 2 → Nat :=
  let c0_i32_52 : BitVec 32 := 0#32
  let c1_i32_54 : BitVec 32 := 1#32
  let arg35 : BitVec 32 := Scf.iv c0_i32_52 c1_i32_54 k0_t6
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk28 (k0_t6 : Fin k0_t6_loop.trips) (v173 : BitVec 32) : Prop :=
  (∀ a, (k0_off62 k0_t6 v173) a + S1x16.size a ≤ S256x128.size a)
theorem k0_off62_inb : ∀ (k0_t6 : Fin k0_t6_loop.trips) (v173 : BitVec 32) (k0_hw28 : k0_chk28 k0_t6 v173), ∀ a, (k0_off62 k0_t6 v173) a + S1x16.size a ≤ S256x128.size a := fun k0_t6 v173 k0_hw28 => k0_hw28

def k0_off63 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off64 (k0_t6 : Fin k0_t6_loop.trips) (v186 : BitVec 32) : Fin 2 → Nat :=
  let c0_i32_52 : BitVec 32 := 0#32
  let c1_i32_54 : BitVec 32 := 1#32
  let arg35 : BitVec 32 := Scf.iv c0_i32_52 c1_i32_54 k0_t6
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk29 (k0_t6 : Fin k0_t6_loop.trips) (v186 : BitVec 32) : Prop :=
  (∀ a, (k0_off64 k0_t6 v186) a + S1x16.size a ≤ S256x128.size a)
theorem k0_off64_inb : ∀ (k0_t6 : Fin k0_t6_loop.trips) (v186 : BitVec 32) (k0_hw29 : k0_chk29 k0_t6 v186), ∀ a, (k0_off64 k0_t6 v186) a + S1x16.size a ≤ S256x128.size a := fun k0_t6 v186 k0_hw29 => k0_hw29

def k0_off65 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off66 (k0_t6 : Fin k0_t6_loop.trips) (v199 : BitVec 32) : Fin 2 → Nat :=
  let c0_i32_52 : BitVec 32 := 0#32
  let c1_i32_54 : BitVec 32 := 1#32
  let arg35 : BitVec 32 := Scf.iv c0_i32_52 c1_i32_54 k0_t6
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk30 (k0_t6 : Fin k0_t6_loop.trips) (v199 : BitVec 32) : Prop :=
  (∀ a, (k0_off66 k0_t6 v199) a + S1x16.size a ≤ S256x128.size a)
theorem k0_off66_inb : ∀ (k0_t6 : Fin k0_t6_loop.trips) (v199 : BitVec 32) (k0_hw30 : k0_chk30 k0_t6 v199), ∀ a, (k0_off66 k0_t6 v199) a + S1x16.size a ≤ S256x128.size a := fun k0_t6 v199 k0_hw30 => k0_hw30

def k0_off67 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off68 (k0_t6 : Fin k0_t6_loop.trips) (v212 : BitVec 32) : Fin 2 → Nat :=
  let c0_i32_52 : BitVec 32 := 0#32
  let c1_i32_54 : BitVec 32 := 1#32
  let arg35 : BitVec 32 := Scf.iv c0_i32_52 c1_i32_54 k0_t6
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk31 (k0_t6 : Fin k0_t6_loop.trips) (v212 : BitVec 32) : Prop :=
  (∀ a, (k0_off68 k0_t6 v212) a + S1x16.size a ≤ S256x128.size a)
theorem k0_off68_inb : ∀ (k0_t6 : Fin k0_t6_loop.trips) (v212 : BitVec 32) (k0_hw31 : k0_chk31 k0_t6 v212), ∀ a, (k0_off68 k0_t6 v212) a + S1x16.size a ≤ S256x128.size a := fun k0_t6 v212 k0_hw31 => k0_hw31

def k0_off69 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off70 (k0_t6 : Fin k0_t6_loop.trips) (v225 : BitVec 32) : Fin 2 → Nat :=
  let c0_i32_52 : BitVec 32 := 0#32
  let c1_i32_54 : BitVec 32 := 1#32
  let arg35 : BitVec 32 := Scf.iv c0_i32_52 c1_i32_54 k0_t6
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk32 (k0_t6 : Fin k0_t6_loop.trips) (v225 : BitVec 32) : Prop :=
  (∀ a, (k0_off70 k0_t6 v225) a + S1x16.size a ≤ S256x128.size a)
theorem k0_off70_inb : ∀ (k0_t6 : Fin k0_t6_loop.trips) (v225 : BitVec 32) (k0_hw32 : k0_chk32 k0_t6 v225), ∀ a, (k0_off70 k0_t6 v225) a + S1x16.size a ≤ S256x128.size a := fun k0_t6 v225 k0_hw32 => k0_hw32

def k0_off71 (k0_t6 : Fin k0_t6_loop.trips) : Fin 1 → Nat :=
  let c0_i32_52 : BitVec 32 := 0#32
  let c1_i32_54 : BitVec 32 := 1#32
  let arg35 : BitVec 32 := Scf.iv c0_i32_52 c1_i32_54 k0_t6
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off72 (i : grid0.Coords) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_4 : BitVec 32 := 0#32
  let c1_i32_6 : BitVec 32 := 1#32
  let arg34 : BitVec 32 := Scf.iv c0_i32_4 c1_i32_6 k0_t4
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t7_loop : Scf.Loop 32 :=
  let c0_i32_9 : BitVec 32 := 0#32
  let c2_i32_10 : BitVec 32 := 2#32
  let v5 : BitVec 32 := Scalar.addi c0_i32_9 c2_i32_10
  let c1_i32_11 : BitVec 32 := 1#32
  ⟨c0_i32_9, v5, c1_i32_11⟩
def k0_off73 (i : grid0.Coords) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c1_i32_11 : BitVec 32 := 1#32
  let arg34 : BitVec 32 := Scf.iv c0_i32_9 c1_i32_11 k0_t7
  let c256_i32 : BitVec 32 := 256#32
  let v12 : BitVec 32 := Scalar.muli arg34 c256_i32
  let v13 : BitVec 32 := Scalar.addi v2 v12
  ![v13.toNat]
@[reducible] def k0_t8_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off74 (k0_t8 : Fin k0_t8_loop.trips) : Fin 1 → Nat :=
  let c0_i32_44 : BitVec 32 := 0#32
  let c1_i32_45 : BitVec 32 := 1#32
  let arg35 : BitVec 32 := Scf.iv c0_i32_44 c1_i32_45 k0_t8
  let c16_i32_57 : BitVec 32 := 16#32
  let v19 : BitVec 32 := Scalar.muli arg35 c16_i32_57
  let v20 : Index := Scalar.indexCast v19
  ![v20.toNat]
@[reducible] def k0_t9_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off75 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_57 : BitVec 32 := 16#32
  let v19 : BitVec 32 := Scalar.muli arg35 c16_i32_57
  let v20 : Index := Scalar.indexCast v19
  ![v20.toNat]
def k0_off76 (k0_t9 : Fin k0_t9_loop.trips) (v30 : BitVec 32) : Fin 2 → Nat :=
  let c0_i32_52 : BitVec 32 := 0#32
  let c1_i32_54 : BitVec 32 := 1#32
  let arg35 : BitVec 32 := Scf.iv c0_i32_52 c1_i32_54 k0_t9
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk33 (k0_t9 : Fin k0_t9_loop.trips) (v30 : BitVec 32) : Prop :=
  (∀ a, (k0_off76 k0_t9 v30) a + S1x16.size a ≤ S256x128.size a)
theorem k0_off76_inb : ∀ (k0_t9 : Fin k0_t9_loop.trips) (v30 : BitVec 32) (k0_hw33 : k0_chk33 k0_t9 v30), ∀ a, (k0_off76 k0_t9 v30) a + S1x16.size a ≤ S256x128.size a := fun k0_t9 v30 k0_hw33 => k0_hw33

def k0_off77 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off78 (k0_t9 : Fin k0_t9_loop.trips) (v43 : BitVec 32) : Fin 2 → Nat :=
  let c0_i32_52 : BitVec 32 := 0#32
  let c1_i32_54 : BitVec 32 := 1#32
  let arg35 : BitVec 32 := Scf.iv c0_i32_52 c1_i32_54 k0_t9
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk34 (k0_t9 : Fin k0_t9_loop.trips) (v43 : BitVec 32) : Prop :=
  (∀ a, (k0_off78 k0_t9 v43) a + S1x16.size a ≤ S256x128.size a)
theorem k0_off78_inb : ∀ (k0_t9 : Fin k0_t9_loop.trips) (v43 : BitVec 32) (k0_hw34 : k0_chk34 k0_t9 v43), ∀ a, (k0_off78 k0_t9 v43) a + S1x16.size a ≤ S256x128.size a := fun k0_t9 v43 k0_hw34 => k0_hw34

def k0_off79 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off80 (k0_t9 : Fin k0_t9_loop.trips) (v56 : BitVec 32) : Fin 2 → Nat :=
  let c0_i32_52 : BitVec 32 := 0#32
  let c1_i32_54 : BitVec 32 := 1#32
  let arg35 : BitVec 32 := Scf.iv c0_i32_52 c1_i32_54 k0_t9
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk35 (k0_t9 : Fin k0_t9_loop.trips) (v56 : BitVec 32) : Prop :=
  (∀ a, (k0_off80 k0_t9 v56) a + S1x16.size a ≤ S256x128.size a)
theorem k0_off80_inb : ∀ (k0_t9 : Fin k0_t9_loop.trips) (v56 : BitVec 32) (k0_hw35 : k0_chk35 k0_t9 v56), ∀ a, (k0_off80 k0_t9 v56) a + S1x16.size a ≤ S256x128.size a := fun k0_t9 v56 k0_hw35 => k0_hw35

def k0_off81 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off82 (k0_t9 : Fin k0_t9_loop.trips) (v69 : BitVec 32) : Fin 2 → Nat :=
  let c0_i32_52 : BitVec 32 := 0#32
  let c1_i32_54 : BitVec 32 := 1#32
  let arg35 : BitVec 32 := Scf.iv c0_i32_52 c1_i32_54 k0_t9
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk36 (k0_t9 : Fin k0_t9_loop.trips) (v69 : BitVec 32) : Prop :=
  (∀ a, (k0_off82 k0_t9 v69) a + S1x16.size a ≤ S256x128.size a)
theorem k0_off82_inb : ∀ (k0_t9 : Fin k0_t9_loop.trips) (v69 : BitVec 32) (k0_hw36 : k0_chk36 k0_t9 v69), ∀ a, (k0_off82 k0_t9 v69) a + S1x16.size a ≤ S256x128.size a := fun k0_t9 v69 k0_hw36 => k0_hw36

def k0_off83 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off84 (k0_t9 : Fin k0_t9_loop.trips) (v82 : BitVec 32) : Fin 2 → Nat :=
  let c0_i32_52 : BitVec 32 := 0#32
  let c1_i32_54 : BitVec 32 := 1#32
  let arg35 : BitVec 32 := Scf.iv c0_i32_52 c1_i32_54 k0_t9
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk37 (k0_t9 : Fin k0_t9_loop.trips) (v82 : BitVec 32) : Prop :=
  (∀ a, (k0_off84 k0_t9 v82) a + S1x16.size a ≤ S256x128.size a)
theorem k0_off84_inb : ∀ (k0_t9 : Fin k0_t9_loop.trips) (v82 : BitVec 32) (k0_hw37 : k0_chk37 k0_t9 v82), ∀ a, (k0_off84 k0_t9 v82) a + S1x16.size a ≤ S256x128.size a := fun k0_t9 v82 k0_hw37 => k0_hw37

def k0_off85 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off86 (k0_t9 : Fin k0_t9_loop.trips) (v95 : BitVec 32) : Fin 2 → Nat :=
  let c0_i32_52 : BitVec 32 := 0#32
  let c1_i32_54 : BitVec 32 := 1#32
  let arg35 : BitVec 32 := Scf.iv c0_i32_52 c1_i32_54 k0_t9
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk38 (k0_t9 : Fin k0_t9_loop.trips) (v95 : BitVec 32) : Prop :=
  (∀ a, (k0_off86 k0_t9 v95) a + S1x16.size a ≤ S256x128.size a)
theorem k0_off86_inb : ∀ (k0_t9 : Fin k0_t9_loop.trips) (v95 : BitVec 32) (k0_hw38 : k0_chk38 k0_t9 v95), ∀ a, (k0_off86 k0_t9 v95) a + S1x16.size a ≤ S256x128.size a := fun k0_t9 v95 k0_hw38 => k0_hw38

def k0_off87 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off88 (k0_t9 : Fin k0_t9_loop.trips) (v108 : BitVec 32) : Fin 2 → Nat :=
  let c0_i32_52 : BitVec 32 := 0#32
  let c1_i32_54 : BitVec 32 := 1#32
  let arg35 : BitVec 32 := Scf.iv c0_i32_52 c1_i32_54 k0_t9
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk39 (k0_t9 : Fin k0_t9_loop.trips) (v108 : BitVec 32) : Prop :=
  (∀ a, (k0_off88 k0_t9 v108) a + S1x16.size a ≤ S256x128.size a)
theorem k0_off88_inb : ∀ (k0_t9 : Fin k0_t9_loop.trips) (v108 : BitVec 32) (k0_hw39 : k0_chk39 k0_t9 v108), ∀ a, (k0_off88 k0_t9 v108) a + S1x16.size a ≤ S256x128.size a := fun k0_t9 v108 k0_hw39 => k0_hw39

def k0_off89 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off90 (k0_t9 : Fin k0_t9_loop.trips) (v121 : BitVec 32) : Fin 2 → Nat :=
  let c0_i32_52 : BitVec 32 := 0#32
  let c1_i32_54 : BitVec 32 := 1#32
  let arg35 : BitVec 32 := Scf.iv c0_i32_52 c1_i32_54 k0_t9
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk40 (k0_t9 : Fin k0_t9_loop.trips) (v121 : BitVec 32) : Prop :=
  (∀ a, (k0_off90 k0_t9 v121) a + S1x16.size a ≤ S256x128.size a)
theorem k0_off90_inb : ∀ (k0_t9 : Fin k0_t9_loop.trips) (v121 : BitVec 32) (k0_hw40 : k0_chk40 k0_t9 v121), ∀ a, (k0_off90 k0_t9 v121) a + S1x16.size a ≤ S256x128.size a := fun k0_t9 v121 k0_hw40 => k0_hw40

def k0_off91 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off92 (k0_t9 : Fin k0_t9_loop.trips) (v134 : BitVec 32) : Fin 2 → Nat :=
  let c0_i32_52 : BitVec 32 := 0#32
  let c1_i32_54 : BitVec 32 := 1#32
  let arg35 : BitVec 32 := Scf.iv c0_i32_52 c1_i32_54 k0_t9
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk41 (k0_t9 : Fin k0_t9_loop.trips) (v134 : BitVec 32) : Prop :=
  (∀ a, (k0_off92 k0_t9 v134) a + S1x16.size a ≤ S256x128.size a)
theorem k0_off92_inb : ∀ (k0_t9 : Fin k0_t9_loop.trips) (v134 : BitVec 32) (k0_hw41 : k0_chk41 k0_t9 v134), ∀ a, (k0_off92 k0_t9 v134) a + S1x16.size a ≤ S256x128.size a := fun k0_t9 v134 k0_hw41 => k0_hw41

def k0_off93 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off94 (k0_t9 : Fin k0_t9_loop.trips) (v147 : BitVec 32) : Fin 2 → Nat :=
  let c0_i32_52 : BitVec 32 := 0#32
  let c1_i32_54 : BitVec 32 := 1#32
  let arg35 : BitVec 32 := Scf.iv c0_i32_52 c1_i32_54 k0_t9
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk42 (k0_t9 : Fin k0_t9_loop.trips) (v147 : BitVec 32) : Prop :=
  (∀ a, (k0_off94 k0_t9 v147) a + S1x16.size a ≤ S256x128.size a)
theorem k0_off94_inb : ∀ (k0_t9 : Fin k0_t9_loop.trips) (v147 : BitVec 32) (k0_hw42 : k0_chk42 k0_t9 v147), ∀ a, (k0_off94 k0_t9 v147) a + S1x16.size a ≤ S256x128.size a := fun k0_t9 v147 k0_hw42 => k0_hw42

def k0_off95 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off96 (k0_t9 : Fin k0_t9_loop.trips) (v160 : BitVec 32) : Fin 2 → Nat :=
  let c0_i32_52 : BitVec 32 := 0#32
  let c1_i32_54 : BitVec 32 := 1#32
  let arg35 : BitVec 32 := Scf.iv c0_i32_52 c1_i32_54 k0_t9
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk43 (k0_t9 : Fin k0_t9_loop.trips) (v160 : BitVec 32) : Prop :=
  (∀ a, (k0_off96 k0_t9 v160) a + S1x16.size a ≤ S256x128.size a)
theorem k0_off96_inb : ∀ (k0_t9 : Fin k0_t9_loop.trips) (v160 : BitVec 32) (k0_hw43 : k0_chk43 k0_t9 v160), ∀ a, (k0_off96 k0_t9 v160) a + S1x16.size a ≤ S256x128.size a := fun k0_t9 v160 k0_hw43 => k0_hw43

def k0_off97 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off98 (k0_t9 : Fin k0_t9_loop.trips) (v173 : BitVec 32) : Fin 2 → Nat :=
  let c0_i32_52 : BitVec 32 := 0#32
  let c1_i32_54 : BitVec 32 := 1#32
  let arg35 : BitVec 32 := Scf.iv c0_i32_52 c1_i32_54 k0_t9
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk44 (k0_t9 : Fin k0_t9_loop.trips) (v173 : BitVec 32) : Prop :=
  (∀ a, (k0_off98 k0_t9 v173) a + S1x16.size a ≤ S256x128.size a)
theorem k0_off98_inb : ∀ (k0_t9 : Fin k0_t9_loop.trips) (v173 : BitVec 32) (k0_hw44 : k0_chk44 k0_t9 v173), ∀ a, (k0_off98 k0_t9 v173) a + S1x16.size a ≤ S256x128.size a := fun k0_t9 v173 k0_hw44 => k0_hw44

def k0_off99 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off100 (k0_t9 : Fin k0_t9_loop.trips) (v186 : BitVec 32) : Fin 2 → Nat :=
  let c0_i32_52 : BitVec 32 := 0#32
  let c1_i32_54 : BitVec 32 := 1#32
  let arg35 : BitVec 32 := Scf.iv c0_i32_52 c1_i32_54 k0_t9
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk45 (k0_t9 : Fin k0_t9_loop.trips) (v186 : BitVec 32) : Prop :=
  (∀ a, (k0_off100 k0_t9 v186) a + S1x16.size a ≤ S256x128.size a)
theorem k0_off100_inb : ∀ (k0_t9 : Fin k0_t9_loop.trips) (v186 : BitVec 32) (k0_hw45 : k0_chk45 k0_t9 v186), ∀ a, (k0_off100 k0_t9 v186) a + S1x16.size a ≤ S256x128.size a := fun k0_t9 v186 k0_hw45 => k0_hw45

def k0_off101 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off102 (k0_t9 : Fin k0_t9_loop.trips) (v199 : BitVec 32) : Fin 2 → Nat :=
  let c0_i32_52 : BitVec 32 := 0#32
  let c1_i32_54 : BitVec 32 := 1#32
  let arg35 : BitVec 32 := Scf.iv c0_i32_52 c1_i32_54 k0_t9
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk46 (k0_t9 : Fin k0_t9_loop.trips) (v199 : BitVec 32) : Prop :=
  (∀ a, (k0_off102 k0_t9 v199) a + S1x16.size a ≤ S256x128.size a)
theorem k0_off102_inb : ∀ (k0_t9 : Fin k0_t9_loop.trips) (v199 : BitVec 32) (k0_hw46 : k0_chk46 k0_t9 v199), ∀ a, (k0_off102 k0_t9 v199) a + S1x16.size a ≤ S256x128.size a := fun k0_t9 v199 k0_hw46 => k0_hw46

def k0_off103 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off104 (k0_t9 : Fin k0_t9_loop.trips) (v212 : BitVec 32) : Fin 2 → Nat :=
  let c0_i32_52 : BitVec 32 := 0#32
  let c1_i32_54 : BitVec 32 := 1#32
  let arg35 : BitVec 32 := Scf.iv c0_i32_52 c1_i32_54 k0_t9
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk47 (k0_t9 : Fin k0_t9_loop.trips) (v212 : BitVec 32) : Prop :=
  (∀ a, (k0_off104 k0_t9 v212) a + S1x16.size a ≤ S256x128.size a)
theorem k0_off104_inb : ∀ (k0_t9 : Fin k0_t9_loop.trips) (v212 : BitVec 32) (k0_hw47 : k0_chk47 k0_t9 v212), ∀ a, (k0_off104 k0_t9 v212) a + S1x16.size a ≤ S256x128.size a := fun k0_t9 v212 k0_hw47 => k0_hw47

def k0_off105 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off106 (k0_t9 : Fin k0_t9_loop.trips) (v225 : BitVec 32) : Fin 2 → Nat :=
  let c0_i32_52 : BitVec 32 := 0#32
  let c1_i32_54 : BitVec 32 := 1#32
  let arg35 : BitVec 32 := Scf.iv c0_i32_52 c1_i32_54 k0_t9
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk48 (k0_t9 : Fin k0_t9_loop.trips) (v225 : BitVec 32) : Prop :=
  (∀ a, (k0_off106 k0_t9 v225) a + S1x16.size a ≤ S256x128.size a)
theorem k0_off106_inb : ∀ (k0_t9 : Fin k0_t9_loop.trips) (v225 : BitVec 32) (k0_hw48 : k0_chk48 k0_t9 v225), ∀ a, (k0_off106 k0_t9 v225) a + S1x16.size a ≤ S256x128.size a := fun k0_t9 v225 k0_hw48 => k0_hw48

def k0_off107 (k0_t9 : Fin k0_t9_loop.trips) : Fin 1 → Nat :=
  let c0_i32_52 : BitVec 32 := 0#32
  let c1_i32_54 : BitVec 32 := 1#32
  let arg35 : BitVec 32 := Scf.iv c0_i32_52 c1_i32_54 k0_t9
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off108 (i : grid0.Coords) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c1_i32_11 : BitVec 32 := 1#32
  let arg34 : BitVec 32 := Scf.iv c0_i32_9 c1_i32_11 k0_t7
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t10_loop : Scf.Loop 32 :=
  let c0_i32_14 : BitVec 32 := 0#32
  let c2_i32_15 : BitVec 32 := 2#32
  let v6 : BitVec 32 := Scalar.addi c0_i32_14 c2_i32_15
  let c1_i32_16 : BitVec 32 := 1#32
  ⟨c0_i32_14, v6, c1_i32_16⟩
def k0_off109 (i : grid0.Coords) (k0_t10 : Fin k0_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_16 : BitVec 32 := 1#32
  let arg34 : BitVec 32 := Scf.iv c0_i32_14 c1_i32_16 k0_t10
  let c256_i32 : BitVec 32 := 256#32
  let v12 : BitVec 32 := Scalar.muli arg34 c256_i32
  let v13 : BitVec 32 := Scalar.addi v2 v12
  ![v13.toNat]
@[reducible] def k0_t11_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off110 (k0_t11 : Fin k0_t11_loop.trips) : Fin 1 → Nat :=
  let c0_i32_44 : BitVec 32 := 0#32
  let c1_i32_45 : BitVec 32 := 1#32
  let arg35 : BitVec 32 := Scf.iv c0_i32_44 c1_i32_45 k0_t11
  let c16_i32_57 : BitVec 32 := 16#32
  let v19 : BitVec 32 := Scalar.muli arg35 c16_i32_57
  let v20 : Index := Scalar.indexCast v19
  ![v20.toNat]
@[reducible] def k0_t12_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off111 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_57 : BitVec 32 := 16#32
  let v19 : BitVec 32 := Scalar.muli arg35 c16_i32_57
  let v20 : Index := Scalar.indexCast v19
  ![v20.toNat]
def k0_off112 (k0_t12 : Fin k0_t12_loop.trips) (v30 : BitVec 32) : Fin 2 → Nat :=
  let c0_i32_52 : BitVec 32 := 0#32
  let c1_i32_54 : BitVec 32 := 1#32
  let arg35 : BitVec 32 := Scf.iv c0_i32_52 c1_i32_54 k0_t12
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk49 (k0_t12 : Fin k0_t12_loop.trips) (v30 : BitVec 32) : Prop :=
  (∀ a, (k0_off112 k0_t12 v30) a + S1x16.size a ≤ S256x128.size a)
theorem k0_off112_inb : ∀ (k0_t12 : Fin k0_t12_loop.trips) (v30 : BitVec 32) (k0_hw49 : k0_chk49 k0_t12 v30), ∀ a, (k0_off112 k0_t12 v30) a + S1x16.size a ≤ S256x128.size a := fun k0_t12 v30 k0_hw49 => k0_hw49

def k0_off113 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off114 (k0_t12 : Fin k0_t12_loop.trips) (v43 : BitVec 32) : Fin 2 → Nat :=
  let c0_i32_52 : BitVec 32 := 0#32
  let c1_i32_54 : BitVec 32 := 1#32
  let arg35 : BitVec 32 := Scf.iv c0_i32_52 c1_i32_54 k0_t12
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk50 (k0_t12 : Fin k0_t12_loop.trips) (v43 : BitVec 32) : Prop :=
  (∀ a, (k0_off114 k0_t12 v43) a + S1x16.size a ≤ S256x128.size a)
theorem k0_off114_inb : ∀ (k0_t12 : Fin k0_t12_loop.trips) (v43 : BitVec 32) (k0_hw50 : k0_chk50 k0_t12 v43), ∀ a, (k0_off114 k0_t12 v43) a + S1x16.size a ≤ S256x128.size a := fun k0_t12 v43 k0_hw50 => k0_hw50

def k0_off115 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off116 (k0_t12 : Fin k0_t12_loop.trips) (v56 : BitVec 32) : Fin 2 → Nat :=
  let c0_i32_52 : BitVec 32 := 0#32
  let c1_i32_54 : BitVec 32 := 1#32
  let arg35 : BitVec 32 := Scf.iv c0_i32_52 c1_i32_54 k0_t12
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk51 (k0_t12 : Fin k0_t12_loop.trips) (v56 : BitVec 32) : Prop :=
  (∀ a, (k0_off116 k0_t12 v56) a + S1x16.size a ≤ S256x128.size a)
theorem k0_off116_inb : ∀ (k0_t12 : Fin k0_t12_loop.trips) (v56 : BitVec 32) (k0_hw51 : k0_chk51 k0_t12 v56), ∀ a, (k0_off116 k0_t12 v56) a + S1x16.size a ≤ S256x128.size a := fun k0_t12 v56 k0_hw51 => k0_hw51

def k0_off117 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off118 (k0_t12 : Fin k0_t12_loop.trips) (v69 : BitVec 32) : Fin 2 → Nat :=
  let c0_i32_52 : BitVec 32 := 0#32
  let c1_i32_54 : BitVec 32 := 1#32
  let arg35 : BitVec 32 := Scf.iv c0_i32_52 c1_i32_54 k0_t12
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk52 (k0_t12 : Fin k0_t12_loop.trips) (v69 : BitVec 32) : Prop :=
  (∀ a, (k0_off118 k0_t12 v69) a + S1x16.size a ≤ S256x128.size a)
theorem k0_off118_inb : ∀ (k0_t12 : Fin k0_t12_loop.trips) (v69 : BitVec 32) (k0_hw52 : k0_chk52 k0_t12 v69), ∀ a, (k0_off118 k0_t12 v69) a + S1x16.size a ≤ S256x128.size a := fun k0_t12 v69 k0_hw52 => k0_hw52

def k0_off119 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off120 (k0_t12 : Fin k0_t12_loop.trips) (v82 : BitVec 32) : Fin 2 → Nat :=
  let c0_i32_52 : BitVec 32 := 0#32
  let c1_i32_54 : BitVec 32 := 1#32
  let arg35 : BitVec 32 := Scf.iv c0_i32_52 c1_i32_54 k0_t12
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk53 (k0_t12 : Fin k0_t12_loop.trips) (v82 : BitVec 32) : Prop :=
  (∀ a, (k0_off120 k0_t12 v82) a + S1x16.size a ≤ S256x128.size a)
theorem k0_off120_inb : ∀ (k0_t12 : Fin k0_t12_loop.trips) (v82 : BitVec 32) (k0_hw53 : k0_chk53 k0_t12 v82), ∀ a, (k0_off120 k0_t12 v82) a + S1x16.size a ≤ S256x128.size a := fun k0_t12 v82 k0_hw53 => k0_hw53

def k0_off121 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off122 (k0_t12 : Fin k0_t12_loop.trips) (v95 : BitVec 32) : Fin 2 → Nat :=
  let c0_i32_52 : BitVec 32 := 0#32
  let c1_i32_54 : BitVec 32 := 1#32
  let arg35 : BitVec 32 := Scf.iv c0_i32_52 c1_i32_54 k0_t12
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk54 (k0_t12 : Fin k0_t12_loop.trips) (v95 : BitVec 32) : Prop :=
  (∀ a, (k0_off122 k0_t12 v95) a + S1x16.size a ≤ S256x128.size a)
theorem k0_off122_inb : ∀ (k0_t12 : Fin k0_t12_loop.trips) (v95 : BitVec 32) (k0_hw54 : k0_chk54 k0_t12 v95), ∀ a, (k0_off122 k0_t12 v95) a + S1x16.size a ≤ S256x128.size a := fun k0_t12 v95 k0_hw54 => k0_hw54

def k0_off123 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off124 (k0_t12 : Fin k0_t12_loop.trips) (v108 : BitVec 32) : Fin 2 → Nat :=
  let c0_i32_52 : BitVec 32 := 0#32
  let c1_i32_54 : BitVec 32 := 1#32
  let arg35 : BitVec 32 := Scf.iv c0_i32_52 c1_i32_54 k0_t12
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk55 (k0_t12 : Fin k0_t12_loop.trips) (v108 : BitVec 32) : Prop :=
  (∀ a, (k0_off124 k0_t12 v108) a + S1x16.size a ≤ S256x128.size a)
theorem k0_off124_inb : ∀ (k0_t12 : Fin k0_t12_loop.trips) (v108 : BitVec 32) (k0_hw55 : k0_chk55 k0_t12 v108), ∀ a, (k0_off124 k0_t12 v108) a + S1x16.size a ≤ S256x128.size a := fun k0_t12 v108 k0_hw55 => k0_hw55

def k0_off125 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off126 (k0_t12 : Fin k0_t12_loop.trips) (v121 : BitVec 32) : Fin 2 → Nat :=
  let c0_i32_52 : BitVec 32 := 0#32
  let c1_i32_54 : BitVec 32 := 1#32
  let arg35 : BitVec 32 := Scf.iv c0_i32_52 c1_i32_54 k0_t12
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk56 (k0_t12 : Fin k0_t12_loop.trips) (v121 : BitVec 32) : Prop :=
  (∀ a, (k0_off126 k0_t12 v121) a + S1x16.size a ≤ S256x128.size a)
theorem k0_off126_inb : ∀ (k0_t12 : Fin k0_t12_loop.trips) (v121 : BitVec 32) (k0_hw56 : k0_chk56 k0_t12 v121), ∀ a, (k0_off126 k0_t12 v121) a + S1x16.size a ≤ S256x128.size a := fun k0_t12 v121 k0_hw56 => k0_hw56

def k0_off127 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off128 (k0_t12 : Fin k0_t12_loop.trips) (v134 : BitVec 32) : Fin 2 → Nat :=
  let c0_i32_52 : BitVec 32 := 0#32
  let c1_i32_54 : BitVec 32 := 1#32
  let arg35 : BitVec 32 := Scf.iv c0_i32_52 c1_i32_54 k0_t12
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk57 (k0_t12 : Fin k0_t12_loop.trips) (v134 : BitVec 32) : Prop :=
  (∀ a, (k0_off128 k0_t12 v134) a + S1x16.size a ≤ S256x128.size a)
theorem k0_off128_inb : ∀ (k0_t12 : Fin k0_t12_loop.trips) (v134 : BitVec 32) (k0_hw57 : k0_chk57 k0_t12 v134), ∀ a, (k0_off128 k0_t12 v134) a + S1x16.size a ≤ S256x128.size a := fun k0_t12 v134 k0_hw57 => k0_hw57

def k0_off129 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off130 (k0_t12 : Fin k0_t12_loop.trips) (v147 : BitVec 32) : Fin 2 → Nat :=
  let c0_i32_52 : BitVec 32 := 0#32
  let c1_i32_54 : BitVec 32 := 1#32
  let arg35 : BitVec 32 := Scf.iv c0_i32_52 c1_i32_54 k0_t12
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk58 (k0_t12 : Fin k0_t12_loop.trips) (v147 : BitVec 32) : Prop :=
  (∀ a, (k0_off130 k0_t12 v147) a + S1x16.size a ≤ S256x128.size a)
theorem k0_off130_inb : ∀ (k0_t12 : Fin k0_t12_loop.trips) (v147 : BitVec 32) (k0_hw58 : k0_chk58 k0_t12 v147), ∀ a, (k0_off130 k0_t12 v147) a + S1x16.size a ≤ S256x128.size a := fun k0_t12 v147 k0_hw58 => k0_hw58

def k0_off131 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off132 (k0_t12 : Fin k0_t12_loop.trips) (v160 : BitVec 32) : Fin 2 → Nat :=
  let c0_i32_52 : BitVec 32 := 0#32
  let c1_i32_54 : BitVec 32 := 1#32
  let arg35 : BitVec 32 := Scf.iv c0_i32_52 c1_i32_54 k0_t12
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk59 (k0_t12 : Fin k0_t12_loop.trips) (v160 : BitVec 32) : Prop :=
  (∀ a, (k0_off132 k0_t12 v160) a + S1x16.size a ≤ S256x128.size a)
theorem k0_off132_inb : ∀ (k0_t12 : Fin k0_t12_loop.trips) (v160 : BitVec 32) (k0_hw59 : k0_chk59 k0_t12 v160), ∀ a, (k0_off132 k0_t12 v160) a + S1x16.size a ≤ S256x128.size a := fun k0_t12 v160 k0_hw59 => k0_hw59

def k0_off133 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off134 (k0_t12 : Fin k0_t12_loop.trips) (v173 : BitVec 32) : Fin 2 → Nat :=
  let c0_i32_52 : BitVec 32 := 0#32
  let c1_i32_54 : BitVec 32 := 1#32
  let arg35 : BitVec 32 := Scf.iv c0_i32_52 c1_i32_54 k0_t12
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk60 (k0_t12 : Fin k0_t12_loop.trips) (v173 : BitVec 32) : Prop :=
  (∀ a, (k0_off134 k0_t12 v173) a + S1x16.size a ≤ S256x128.size a)
theorem k0_off134_inb : ∀ (k0_t12 : Fin k0_t12_loop.trips) (v173 : BitVec 32) (k0_hw60 : k0_chk60 k0_t12 v173), ∀ a, (k0_off134 k0_t12 v173) a + S1x16.size a ≤ S256x128.size a := fun k0_t12 v173 k0_hw60 => k0_hw60

def k0_off135 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off136 (k0_t12 : Fin k0_t12_loop.trips) (v186 : BitVec 32) : Fin 2 → Nat :=
  let c0_i32_52 : BitVec 32 := 0#32
  let c1_i32_54 : BitVec 32 := 1#32
  let arg35 : BitVec 32 := Scf.iv c0_i32_52 c1_i32_54 k0_t12
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk61 (k0_t12 : Fin k0_t12_loop.trips) (v186 : BitVec 32) : Prop :=
  (∀ a, (k0_off136 k0_t12 v186) a + S1x16.size a ≤ S256x128.size a)
theorem k0_off136_inb : ∀ (k0_t12 : Fin k0_t12_loop.trips) (v186 : BitVec 32) (k0_hw61 : k0_chk61 k0_t12 v186), ∀ a, (k0_off136 k0_t12 v186) a + S1x16.size a ≤ S256x128.size a := fun k0_t12 v186 k0_hw61 => k0_hw61

def k0_off137 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off138 (k0_t12 : Fin k0_t12_loop.trips) (v199 : BitVec 32) : Fin 2 → Nat :=
  let c0_i32_52 : BitVec 32 := 0#32
  let c1_i32_54 : BitVec 32 := 1#32
  let arg35 : BitVec 32 := Scf.iv c0_i32_52 c1_i32_54 k0_t12
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk62 (k0_t12 : Fin k0_t12_loop.trips) (v199 : BitVec 32) : Prop :=
  (∀ a, (k0_off138 k0_t12 v199) a + S1x16.size a ≤ S256x128.size a)
theorem k0_off138_inb : ∀ (k0_t12 : Fin k0_t12_loop.trips) (v199 : BitVec 32) (k0_hw62 : k0_chk62 k0_t12 v199), ∀ a, (k0_off138 k0_t12 v199) a + S1x16.size a ≤ S256x128.size a := fun k0_t12 v199 k0_hw62 => k0_hw62

def k0_off139 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off140 (k0_t12 : Fin k0_t12_loop.trips) (v212 : BitVec 32) : Fin 2 → Nat :=
  let c0_i32_52 : BitVec 32 := 0#32
  let c1_i32_54 : BitVec 32 := 1#32
  let arg35 : BitVec 32 := Scf.iv c0_i32_52 c1_i32_54 k0_t12
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk63 (k0_t12 : Fin k0_t12_loop.trips) (v212 : BitVec 32) : Prop :=
  (∀ a, (k0_off140 k0_t12 v212) a + S1x16.size a ≤ S256x128.size a)
theorem k0_off140_inb : ∀ (k0_t12 : Fin k0_t12_loop.trips) (v212 : BitVec 32) (k0_hw63 : k0_chk63 k0_t12 v212), ∀ a, (k0_off140 k0_t12 v212) a + S1x16.size a ≤ S256x128.size a := fun k0_t12 v212 k0_hw63 => k0_hw63

def k0_off141 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off142 (k0_t12 : Fin k0_t12_loop.trips) (v225 : BitVec 32) : Fin 2 → Nat :=
  let c0_i32_52 : BitVec 32 := 0#32
  let c1_i32_54 : BitVec 32 := 1#32
  let arg35 : BitVec 32 := Scf.iv c0_i32_52 c1_i32_54 k0_t12
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk64 (k0_t12 : Fin k0_t12_loop.trips) (v225 : BitVec 32) : Prop :=
  (∀ a, (k0_off142 k0_t12 v225) a + S1x16.size a ≤ S256x128.size a)
theorem k0_off142_inb : ∀ (k0_t12 : Fin k0_t12_loop.trips) (v225 : BitVec 32) (k0_hw64 : k0_chk64 k0_t12 v225), ∀ a, (k0_off142 k0_t12 v225) a + S1x16.size a ≤ S256x128.size a := fun k0_t12 v225 k0_hw64 => k0_hw64

def k0_off143 (k0_t12 : Fin k0_t12_loop.trips) : Fin 1 → Nat :=
  let c0_i32_52 : BitVec 32 := 0#32
  let c1_i32_54 : BitVec 32 := 1#32
  let arg35 : BitVec 32 := Scf.iv c0_i32_52 c1_i32_54 k0_t12
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off144 (i : grid0.Coords) (k0_t10 : Fin k0_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_16 : BitVec 32 := 1#32
  let arg34 : BitVec 32 := Scf.iv c0_i32_14 c1_i32_16 k0_t10
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t13_loop : Scf.Loop 32 :=
  let c0_i32_19 : BitVec 32 := 0#32
  let c2_i32_20 : BitVec 32 := 2#32
  let v7 : BitVec 32 := Scalar.addi c0_i32_19 c2_i32_20
  let c1_i32_21 : BitVec 32 := 1#32
  ⟨c0_i32_19, v7, c1_i32_21⟩
def k0_off145 (i : grid0.Coords) (k0_t13 : Fin k0_t13_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c1_i32_21 : BitVec 32 := 1#32
  let arg34 : BitVec 32 := Scf.iv c0_i32_19 c1_i32_21 k0_t13
  let c256_i32 : BitVec 32 := 256#32
  let v12 : BitVec 32 := Scalar.muli arg34 c256_i32
  let v13 : BitVec 32 := Scalar.addi v2 v12
  ![v13.toNat]
@[reducible] def k0_t14_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off146 (k0_t14 : Fin k0_t14_loop.trips) : Fin 1 → Nat :=
  let c0_i32_44 : BitVec 32 := 0#32
  let c1_i32_45 : BitVec 32 := 1#32
  let arg35 : BitVec 32 := Scf.iv c0_i32_44 c1_i32_45 k0_t14
  let c16_i32_57 : BitVec 32 := 16#32
  let v19 : BitVec 32 := Scalar.muli arg35 c16_i32_57
  let v20 : Index := Scalar.indexCast v19
  ![v20.toNat]
@[reducible] def k0_t15_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off147 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_57 : BitVec 32 := 16#32
  let v19 : BitVec 32 := Scalar.muli arg35 c16_i32_57
  let v20 : Index := Scalar.indexCast v19
  ![v20.toNat]
def k0_off148 (k0_t15 : Fin k0_t15_loop.trips) (v30 : BitVec 32) : Fin 2 → Nat :=
  let c0_i32_52 : BitVec 32 := 0#32
  let c1_i32_54 : BitVec 32 := 1#32
  let arg35 : BitVec 32 := Scf.iv c0_i32_52 c1_i32_54 k0_t15
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk65 (k0_t15 : Fin k0_t15_loop.trips) (v30 : BitVec 32) : Prop :=
  (∀ a, (k0_off148 k0_t15 v30) a + S1x16.size a ≤ S256x128.size a)
theorem k0_off148_inb : ∀ (k0_t15 : Fin k0_t15_loop.trips) (v30 : BitVec 32) (k0_hw65 : k0_chk65 k0_t15 v30), ∀ a, (k0_off148 k0_t15 v30) a + S1x16.size a ≤ S256x128.size a := fun k0_t15 v30 k0_hw65 => k0_hw65

def k0_off149 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off150 (k0_t15 : Fin k0_t15_loop.trips) (v43 : BitVec 32) : Fin 2 → Nat :=
  let c0_i32_52 : BitVec 32 := 0#32
  let c1_i32_54 : BitVec 32 := 1#32
  let arg35 : BitVec 32 := Scf.iv c0_i32_52 c1_i32_54 k0_t15
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk66 (k0_t15 : Fin k0_t15_loop.trips) (v43 : BitVec 32) : Prop :=
  (∀ a, (k0_off150 k0_t15 v43) a + S1x16.size a ≤ S256x128.size a)
theorem k0_off150_inb : ∀ (k0_t15 : Fin k0_t15_loop.trips) (v43 : BitVec 32) (k0_hw66 : k0_chk66 k0_t15 v43), ∀ a, (k0_off150 k0_t15 v43) a + S1x16.size a ≤ S256x128.size a := fun k0_t15 v43 k0_hw66 => k0_hw66

def k0_off151 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off152 (k0_t15 : Fin k0_t15_loop.trips) (v56 : BitVec 32) : Fin 2 → Nat :=
  let c0_i32_52 : BitVec 32 := 0#32
  let c1_i32_54 : BitVec 32 := 1#32
  let arg35 : BitVec 32 := Scf.iv c0_i32_52 c1_i32_54 k0_t15
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk67 (k0_t15 : Fin k0_t15_loop.trips) (v56 : BitVec 32) : Prop :=
  (∀ a, (k0_off152 k0_t15 v56) a + S1x16.size a ≤ S256x128.size a)
theorem k0_off152_inb : ∀ (k0_t15 : Fin k0_t15_loop.trips) (v56 : BitVec 32) (k0_hw67 : k0_chk67 k0_t15 v56), ∀ a, (k0_off152 k0_t15 v56) a + S1x16.size a ≤ S256x128.size a := fun k0_t15 v56 k0_hw67 => k0_hw67

def k0_off153 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off154 (k0_t15 : Fin k0_t15_loop.trips) (v69 : BitVec 32) : Fin 2 → Nat :=
  let c0_i32_52 : BitVec 32 := 0#32
  let c1_i32_54 : BitVec 32 := 1#32
  let arg35 : BitVec 32 := Scf.iv c0_i32_52 c1_i32_54 k0_t15
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk68 (k0_t15 : Fin k0_t15_loop.trips) (v69 : BitVec 32) : Prop :=
  (∀ a, (k0_off154 k0_t15 v69) a + S1x16.size a ≤ S256x128.size a)
theorem k0_off154_inb : ∀ (k0_t15 : Fin k0_t15_loop.trips) (v69 : BitVec 32) (k0_hw68 : k0_chk68 k0_t15 v69), ∀ a, (k0_off154 k0_t15 v69) a + S1x16.size a ≤ S256x128.size a := fun k0_t15 v69 k0_hw68 => k0_hw68

def k0_off155 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off156 (k0_t15 : Fin k0_t15_loop.trips) (v82 : BitVec 32) : Fin 2 → Nat :=
  let c0_i32_52 : BitVec 32 := 0#32
  let c1_i32_54 : BitVec 32 := 1#32
  let arg35 : BitVec 32 := Scf.iv c0_i32_52 c1_i32_54 k0_t15
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk69 (k0_t15 : Fin k0_t15_loop.trips) (v82 : BitVec 32) : Prop :=
  (∀ a, (k0_off156 k0_t15 v82) a + S1x16.size a ≤ S256x128.size a)
theorem k0_off156_inb : ∀ (k0_t15 : Fin k0_t15_loop.trips) (v82 : BitVec 32) (k0_hw69 : k0_chk69 k0_t15 v82), ∀ a, (k0_off156 k0_t15 v82) a + S1x16.size a ≤ S256x128.size a := fun k0_t15 v82 k0_hw69 => k0_hw69

def k0_off157 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off158 (k0_t15 : Fin k0_t15_loop.trips) (v95 : BitVec 32) : Fin 2 → Nat :=
  let c0_i32_52 : BitVec 32 := 0#32
  let c1_i32_54 : BitVec 32 := 1#32
  let arg35 : BitVec 32 := Scf.iv c0_i32_52 c1_i32_54 k0_t15
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk70 (k0_t15 : Fin k0_t15_loop.trips) (v95 : BitVec 32) : Prop :=
  (∀ a, (k0_off158 k0_t15 v95) a + S1x16.size a ≤ S256x128.size a)
theorem k0_off158_inb : ∀ (k0_t15 : Fin k0_t15_loop.trips) (v95 : BitVec 32) (k0_hw70 : k0_chk70 k0_t15 v95), ∀ a, (k0_off158 k0_t15 v95) a + S1x16.size a ≤ S256x128.size a := fun k0_t15 v95 k0_hw70 => k0_hw70

def k0_off159 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off160 (k0_t15 : Fin k0_t15_loop.trips) (v108 : BitVec 32) : Fin 2 → Nat :=
  let c0_i32_52 : BitVec 32 := 0#32
  let c1_i32_54 : BitVec 32 := 1#32
  let arg35 : BitVec 32 := Scf.iv c0_i32_52 c1_i32_54 k0_t15
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk71 (k0_t15 : Fin k0_t15_loop.trips) (v108 : BitVec 32) : Prop :=
  (∀ a, (k0_off160 k0_t15 v108) a + S1x16.size a ≤ S256x128.size a)
theorem k0_off160_inb : ∀ (k0_t15 : Fin k0_t15_loop.trips) (v108 : BitVec 32) (k0_hw71 : k0_chk71 k0_t15 v108), ∀ a, (k0_off160 k0_t15 v108) a + S1x16.size a ≤ S256x128.size a := fun k0_t15 v108 k0_hw71 => k0_hw71

def k0_off161 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off162 (k0_t15 : Fin k0_t15_loop.trips) (v121 : BitVec 32) : Fin 2 → Nat :=
  let c0_i32_52 : BitVec 32 := 0#32
  let c1_i32_54 : BitVec 32 := 1#32
  let arg35 : BitVec 32 := Scf.iv c0_i32_52 c1_i32_54 k0_t15
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk72 (k0_t15 : Fin k0_t15_loop.trips) (v121 : BitVec 32) : Prop :=
  (∀ a, (k0_off162 k0_t15 v121) a + S1x16.size a ≤ S256x128.size a)
theorem k0_off162_inb : ∀ (k0_t15 : Fin k0_t15_loop.trips) (v121 : BitVec 32) (k0_hw72 : k0_chk72 k0_t15 v121), ∀ a, (k0_off162 k0_t15 v121) a + S1x16.size a ≤ S256x128.size a := fun k0_t15 v121 k0_hw72 => k0_hw72

def k0_off163 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off164 (k0_t15 : Fin k0_t15_loop.trips) (v134 : BitVec 32) : Fin 2 → Nat :=
  let c0_i32_52 : BitVec 32 := 0#32
  let c1_i32_54 : BitVec 32 := 1#32
  let arg35 : BitVec 32 := Scf.iv c0_i32_52 c1_i32_54 k0_t15
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk73 (k0_t15 : Fin k0_t15_loop.trips) (v134 : BitVec 32) : Prop :=
  (∀ a, (k0_off164 k0_t15 v134) a + S1x16.size a ≤ S256x128.size a)
theorem k0_off164_inb : ∀ (k0_t15 : Fin k0_t15_loop.trips) (v134 : BitVec 32) (k0_hw73 : k0_chk73 k0_t15 v134), ∀ a, (k0_off164 k0_t15 v134) a + S1x16.size a ≤ S256x128.size a := fun k0_t15 v134 k0_hw73 => k0_hw73

def k0_off165 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off166 (k0_t15 : Fin k0_t15_loop.trips) (v147 : BitVec 32) : Fin 2 → Nat :=
  let c0_i32_52 : BitVec 32 := 0#32
  let c1_i32_54 : BitVec 32 := 1#32
  let arg35 : BitVec 32 := Scf.iv c0_i32_52 c1_i32_54 k0_t15
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk74 (k0_t15 : Fin k0_t15_loop.trips) (v147 : BitVec 32) : Prop :=
  (∀ a, (k0_off166 k0_t15 v147) a + S1x16.size a ≤ S256x128.size a)
theorem k0_off166_inb : ∀ (k0_t15 : Fin k0_t15_loop.trips) (v147 : BitVec 32) (k0_hw74 : k0_chk74 k0_t15 v147), ∀ a, (k0_off166 k0_t15 v147) a + S1x16.size a ≤ S256x128.size a := fun k0_t15 v147 k0_hw74 => k0_hw74

def k0_off167 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off168 (k0_t15 : Fin k0_t15_loop.trips) (v160 : BitVec 32) : Fin 2 → Nat :=
  let c0_i32_52 : BitVec 32 := 0#32
  let c1_i32_54 : BitVec 32 := 1#32
  let arg35 : BitVec 32 := Scf.iv c0_i32_52 c1_i32_54 k0_t15
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk75 (k0_t15 : Fin k0_t15_loop.trips) (v160 : BitVec 32) : Prop :=
  (∀ a, (k0_off168 k0_t15 v160) a + S1x16.size a ≤ S256x128.size a)
theorem k0_off168_inb : ∀ (k0_t15 : Fin k0_t15_loop.trips) (v160 : BitVec 32) (k0_hw75 : k0_chk75 k0_t15 v160), ∀ a, (k0_off168 k0_t15 v160) a + S1x16.size a ≤ S256x128.size a := fun k0_t15 v160 k0_hw75 => k0_hw75

def k0_off169 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off170 (k0_t15 : Fin k0_t15_loop.trips) (v173 : BitVec 32) : Fin 2 → Nat :=
  let c0_i32_52 : BitVec 32 := 0#32
  let c1_i32_54 : BitVec 32 := 1#32
  let arg35 : BitVec 32 := Scf.iv c0_i32_52 c1_i32_54 k0_t15
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk76 (k0_t15 : Fin k0_t15_loop.trips) (v173 : BitVec 32) : Prop :=
  (∀ a, (k0_off170 k0_t15 v173) a + S1x16.size a ≤ S256x128.size a)
theorem k0_off170_inb : ∀ (k0_t15 : Fin k0_t15_loop.trips) (v173 : BitVec 32) (k0_hw76 : k0_chk76 k0_t15 v173), ∀ a, (k0_off170 k0_t15 v173) a + S1x16.size a ≤ S256x128.size a := fun k0_t15 v173 k0_hw76 => k0_hw76

def k0_off171 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off172 (k0_t15 : Fin k0_t15_loop.trips) (v186 : BitVec 32) : Fin 2 → Nat :=
  let c0_i32_52 : BitVec 32 := 0#32
  let c1_i32_54 : BitVec 32 := 1#32
  let arg35 : BitVec 32 := Scf.iv c0_i32_52 c1_i32_54 k0_t15
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk77 (k0_t15 : Fin k0_t15_loop.trips) (v186 : BitVec 32) : Prop :=
  (∀ a, (k0_off172 k0_t15 v186) a + S1x16.size a ≤ S256x128.size a)
theorem k0_off172_inb : ∀ (k0_t15 : Fin k0_t15_loop.trips) (v186 : BitVec 32) (k0_hw77 : k0_chk77 k0_t15 v186), ∀ a, (k0_off172 k0_t15 v186) a + S1x16.size a ≤ S256x128.size a := fun k0_t15 v186 k0_hw77 => k0_hw77

def k0_off173 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off174 (k0_t15 : Fin k0_t15_loop.trips) (v199 : BitVec 32) : Fin 2 → Nat :=
  let c0_i32_52 : BitVec 32 := 0#32
  let c1_i32_54 : BitVec 32 := 1#32
  let arg35 : BitVec 32 := Scf.iv c0_i32_52 c1_i32_54 k0_t15
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk78 (k0_t15 : Fin k0_t15_loop.trips) (v199 : BitVec 32) : Prop :=
  (∀ a, (k0_off174 k0_t15 v199) a + S1x16.size a ≤ S256x128.size a)
theorem k0_off174_inb : ∀ (k0_t15 : Fin k0_t15_loop.trips) (v199 : BitVec 32) (k0_hw78 : k0_chk78 k0_t15 v199), ∀ a, (k0_off174 k0_t15 v199) a + S1x16.size a ≤ S256x128.size a := fun k0_t15 v199 k0_hw78 => k0_hw78

def k0_off175 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off176 (k0_t15 : Fin k0_t15_loop.trips) (v212 : BitVec 32) : Fin 2 → Nat :=
  let c0_i32_52 : BitVec 32 := 0#32
  let c1_i32_54 : BitVec 32 := 1#32
  let arg35 : BitVec 32 := Scf.iv c0_i32_52 c1_i32_54 k0_t15
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk79 (k0_t15 : Fin k0_t15_loop.trips) (v212 : BitVec 32) : Prop :=
  (∀ a, (k0_off176 k0_t15 v212) a + S1x16.size a ≤ S256x128.size a)
theorem k0_off176_inb : ∀ (k0_t15 : Fin k0_t15_loop.trips) (v212 : BitVec 32) (k0_hw79 : k0_chk79 k0_t15 v212), ∀ a, (k0_off176 k0_t15 v212) a + S1x16.size a ≤ S256x128.size a := fun k0_t15 v212 k0_hw79 => k0_hw79

def k0_off177 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off178 (k0_t15 : Fin k0_t15_loop.trips) (v225 : BitVec 32) : Fin 2 → Nat :=
  let c0_i32_52 : BitVec 32 := 0#32
  let c1_i32_54 : BitVec 32 := 1#32
  let arg35 : BitVec 32 := Scf.iv c0_i32_52 c1_i32_54 k0_t15
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk80 (k0_t15 : Fin k0_t15_loop.trips) (v225 : BitVec 32) : Prop :=
  (∀ a, (k0_off178 k0_t15 v225) a + S1x16.size a ≤ S256x128.size a)
theorem k0_off178_inb : ∀ (k0_t15 : Fin k0_t15_loop.trips) (v225 : BitVec 32) (k0_hw80 : k0_chk80 k0_t15 v225), ∀ a, (k0_off178 k0_t15 v225) a + S1x16.size a ≤ S256x128.size a := fun k0_t15 v225 k0_hw80 => k0_hw80

def k0_off179 (k0_t15 : Fin k0_t15_loop.trips) : Fin 1 → Nat :=
  let c0_i32_52 : BitVec 32 := 0#32
  let c1_i32_54 : BitVec 32 := 1#32
  let arg35 : BitVec 32 := Scf.iv c0_i32_52 c1_i32_54 k0_t15
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off180 (i : grid0.Coords) (k0_t13 : Fin k0_t13_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c1_i32_21 : BitVec 32 := 1#32
  let arg34 : BitVec 32 := Scf.iv c0_i32_19 c1_i32_21 k0_t13
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t16_loop : Scf.Loop 32 :=
  let c0_i32_24 : BitVec 32 := 0#32
  let c2_i32_25 : BitVec 32 := 2#32
  let v8 : BitVec 32 := Scalar.addi c0_i32_24 c2_i32_25
  let c1_i32_26 : BitVec 32 := 1#32
  ⟨c0_i32_24, v8, c1_i32_26⟩
def k0_off181 (i : grid0.Coords) (k0_t16 : Fin k0_t16_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_26 : BitVec 32 := 1#32
  let arg34 : BitVec 32 := Scf.iv c0_i32_24 c1_i32_26 k0_t16
  let c256_i32 : BitVec 32 := 256#32
  let v12 : BitVec 32 := Scalar.muli arg34 c256_i32
  let v13 : BitVec 32 := Scalar.addi v2 v12
  ![v13.toNat]
@[reducible] def k0_t17_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off182 (k0_t17 : Fin k0_t17_loop.trips) : Fin 1 → Nat :=
  let c0_i32_44 : BitVec 32 := 0#32
  let c1_i32_45 : BitVec 32 := 1#32
  let arg35 : BitVec 32 := Scf.iv c0_i32_44 c1_i32_45 k0_t17
  let c16_i32_57 : BitVec 32 := 16#32
  let v19 : BitVec 32 := Scalar.muli arg35 c16_i32_57
  let v20 : Index := Scalar.indexCast v19
  ![v20.toNat]
@[reducible] def k0_t18_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off183 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_57 : BitVec 32 := 16#32
  let v19 : BitVec 32 := Scalar.muli arg35 c16_i32_57
  let v20 : Index := Scalar.indexCast v19
  ![v20.toNat]
def k0_off184 (k0_t18 : Fin k0_t18_loop.trips) (v30 : BitVec 32) : Fin 2 → Nat :=
  let c0_i32_52 : BitVec 32 := 0#32
  let c1_i32_54 : BitVec 32 := 1#32
  let arg35 : BitVec 32 := Scf.iv c0_i32_52 c1_i32_54 k0_t18
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk81 (k0_t18 : Fin k0_t18_loop.trips) (v30 : BitVec 32) : Prop :=
  (∀ a, (k0_off184 k0_t18 v30) a + S1x16.size a ≤ S256x128.size a)
theorem k0_off184_inb : ∀ (k0_t18 : Fin k0_t18_loop.trips) (v30 : BitVec 32) (k0_hw81 : k0_chk81 k0_t18 v30), ∀ a, (k0_off184 k0_t18 v30) a + S1x16.size a ≤ S256x128.size a := fun k0_t18 v30 k0_hw81 => k0_hw81

def k0_off185 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off186 (k0_t18 : Fin k0_t18_loop.trips) (v43 : BitVec 32) : Fin 2 → Nat :=
  let c0_i32_52 : BitVec 32 := 0#32
  let c1_i32_54 : BitVec 32 := 1#32
  let arg35 : BitVec 32 := Scf.iv c0_i32_52 c1_i32_54 k0_t18
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk82 (k0_t18 : Fin k0_t18_loop.trips) (v43 : BitVec 32) : Prop :=
  (∀ a, (k0_off186 k0_t18 v43) a + S1x16.size a ≤ S256x128.size a)
theorem k0_off186_inb : ∀ (k0_t18 : Fin k0_t18_loop.trips) (v43 : BitVec 32) (k0_hw82 : k0_chk82 k0_t18 v43), ∀ a, (k0_off186 k0_t18 v43) a + S1x16.size a ≤ S256x128.size a := fun k0_t18 v43 k0_hw82 => k0_hw82

def k0_off187 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off188 (k0_t18 : Fin k0_t18_loop.trips) (v56 : BitVec 32) : Fin 2 → Nat :=
  let c0_i32_52 : BitVec 32 := 0#32
  let c1_i32_54 : BitVec 32 := 1#32
  let arg35 : BitVec 32 := Scf.iv c0_i32_52 c1_i32_54 k0_t18
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk83 (k0_t18 : Fin k0_t18_loop.trips) (v56 : BitVec 32) : Prop :=
  (∀ a, (k0_off188 k0_t18 v56) a + S1x16.size a ≤ S256x128.size a)
theorem k0_off188_inb : ∀ (k0_t18 : Fin k0_t18_loop.trips) (v56 : BitVec 32) (k0_hw83 : k0_chk83 k0_t18 v56), ∀ a, (k0_off188 k0_t18 v56) a + S1x16.size a ≤ S256x128.size a := fun k0_t18 v56 k0_hw83 => k0_hw83

def k0_off189 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off190 (k0_t18 : Fin k0_t18_loop.trips) (v69 : BitVec 32) : Fin 2 → Nat :=
  let c0_i32_52 : BitVec 32 := 0#32
  let c1_i32_54 : BitVec 32 := 1#32
  let arg35 : BitVec 32 := Scf.iv c0_i32_52 c1_i32_54 k0_t18
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk84 (k0_t18 : Fin k0_t18_loop.trips) (v69 : BitVec 32) : Prop :=
  (∀ a, (k0_off190 k0_t18 v69) a + S1x16.size a ≤ S256x128.size a)
theorem k0_off190_inb : ∀ (k0_t18 : Fin k0_t18_loop.trips) (v69 : BitVec 32) (k0_hw84 : k0_chk84 k0_t18 v69), ∀ a, (k0_off190 k0_t18 v69) a + S1x16.size a ≤ S256x128.size a := fun k0_t18 v69 k0_hw84 => k0_hw84

def k0_off191 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off192 (k0_t18 : Fin k0_t18_loop.trips) (v82 : BitVec 32) : Fin 2 → Nat :=
  let c0_i32_52 : BitVec 32 := 0#32
  let c1_i32_54 : BitVec 32 := 1#32
  let arg35 : BitVec 32 := Scf.iv c0_i32_52 c1_i32_54 k0_t18
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk85 (k0_t18 : Fin k0_t18_loop.trips) (v82 : BitVec 32) : Prop :=
  (∀ a, (k0_off192 k0_t18 v82) a + S1x16.size a ≤ S256x128.size a)
theorem k0_off192_inb : ∀ (k0_t18 : Fin k0_t18_loop.trips) (v82 : BitVec 32) (k0_hw85 : k0_chk85 k0_t18 v82), ∀ a, (k0_off192 k0_t18 v82) a + S1x16.size a ≤ S256x128.size a := fun k0_t18 v82 k0_hw85 => k0_hw85

def k0_off193 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off194 (k0_t18 : Fin k0_t18_loop.trips) (v95 : BitVec 32) : Fin 2 → Nat :=
  let c0_i32_52 : BitVec 32 := 0#32
  let c1_i32_54 : BitVec 32 := 1#32
  let arg35 : BitVec 32 := Scf.iv c0_i32_52 c1_i32_54 k0_t18
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk86 (k0_t18 : Fin k0_t18_loop.trips) (v95 : BitVec 32) : Prop :=
  (∀ a, (k0_off194 k0_t18 v95) a + S1x16.size a ≤ S256x128.size a)
theorem k0_off194_inb : ∀ (k0_t18 : Fin k0_t18_loop.trips) (v95 : BitVec 32) (k0_hw86 : k0_chk86 k0_t18 v95), ∀ a, (k0_off194 k0_t18 v95) a + S1x16.size a ≤ S256x128.size a := fun k0_t18 v95 k0_hw86 => k0_hw86

def k0_off195 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off196 (k0_t18 : Fin k0_t18_loop.trips) (v108 : BitVec 32) : Fin 2 → Nat :=
  let c0_i32_52 : BitVec 32 := 0#32
  let c1_i32_54 : BitVec 32 := 1#32
  let arg35 : BitVec 32 := Scf.iv c0_i32_52 c1_i32_54 k0_t18
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk87 (k0_t18 : Fin k0_t18_loop.trips) (v108 : BitVec 32) : Prop :=
  (∀ a, (k0_off196 k0_t18 v108) a + S1x16.size a ≤ S256x128.size a)
theorem k0_off196_inb : ∀ (k0_t18 : Fin k0_t18_loop.trips) (v108 : BitVec 32) (k0_hw87 : k0_chk87 k0_t18 v108), ∀ a, (k0_off196 k0_t18 v108) a + S1x16.size a ≤ S256x128.size a := fun k0_t18 v108 k0_hw87 => k0_hw87

def k0_off197 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off198 (k0_t18 : Fin k0_t18_loop.trips) (v121 : BitVec 32) : Fin 2 → Nat :=
  let c0_i32_52 : BitVec 32 := 0#32
  let c1_i32_54 : BitVec 32 := 1#32
  let arg35 : BitVec 32 := Scf.iv c0_i32_52 c1_i32_54 k0_t18
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk88 (k0_t18 : Fin k0_t18_loop.trips) (v121 : BitVec 32) : Prop :=
  (∀ a, (k0_off198 k0_t18 v121) a + S1x16.size a ≤ S256x128.size a)
theorem k0_off198_inb : ∀ (k0_t18 : Fin k0_t18_loop.trips) (v121 : BitVec 32) (k0_hw88 : k0_chk88 k0_t18 v121), ∀ a, (k0_off198 k0_t18 v121) a + S1x16.size a ≤ S256x128.size a := fun k0_t18 v121 k0_hw88 => k0_hw88

def k0_off199 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off200 (k0_t18 : Fin k0_t18_loop.trips) (v134 : BitVec 32) : Fin 2 → Nat :=
  let c0_i32_52 : BitVec 32 := 0#32
  let c1_i32_54 : BitVec 32 := 1#32
  let arg35 : BitVec 32 := Scf.iv c0_i32_52 c1_i32_54 k0_t18
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk89 (k0_t18 : Fin k0_t18_loop.trips) (v134 : BitVec 32) : Prop :=
  (∀ a, (k0_off200 k0_t18 v134) a + S1x16.size a ≤ S256x128.size a)
theorem k0_off200_inb : ∀ (k0_t18 : Fin k0_t18_loop.trips) (v134 : BitVec 32) (k0_hw89 : k0_chk89 k0_t18 v134), ∀ a, (k0_off200 k0_t18 v134) a + S1x16.size a ≤ S256x128.size a := fun k0_t18 v134 k0_hw89 => k0_hw89

def k0_off201 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off202 (k0_t18 : Fin k0_t18_loop.trips) (v147 : BitVec 32) : Fin 2 → Nat :=
  let c0_i32_52 : BitVec 32 := 0#32
  let c1_i32_54 : BitVec 32 := 1#32
  let arg35 : BitVec 32 := Scf.iv c0_i32_52 c1_i32_54 k0_t18
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk90 (k0_t18 : Fin k0_t18_loop.trips) (v147 : BitVec 32) : Prop :=
  (∀ a, (k0_off202 k0_t18 v147) a + S1x16.size a ≤ S256x128.size a)
theorem k0_off202_inb : ∀ (k0_t18 : Fin k0_t18_loop.trips) (v147 : BitVec 32) (k0_hw90 : k0_chk90 k0_t18 v147), ∀ a, (k0_off202 k0_t18 v147) a + S1x16.size a ≤ S256x128.size a := fun k0_t18 v147 k0_hw90 => k0_hw90

def k0_off203 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off204 (k0_t18 : Fin k0_t18_loop.trips) (v160 : BitVec 32) : Fin 2 → Nat :=
  let c0_i32_52 : BitVec 32 := 0#32
  let c1_i32_54 : BitVec 32 := 1#32
  let arg35 : BitVec 32 := Scf.iv c0_i32_52 c1_i32_54 k0_t18
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk91 (k0_t18 : Fin k0_t18_loop.trips) (v160 : BitVec 32) : Prop :=
  (∀ a, (k0_off204 k0_t18 v160) a + S1x16.size a ≤ S256x128.size a)
theorem k0_off204_inb : ∀ (k0_t18 : Fin k0_t18_loop.trips) (v160 : BitVec 32) (k0_hw91 : k0_chk91 k0_t18 v160), ∀ a, (k0_off204 k0_t18 v160) a + S1x16.size a ≤ S256x128.size a := fun k0_t18 v160 k0_hw91 => k0_hw91

def k0_off205 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off206 (k0_t18 : Fin k0_t18_loop.trips) (v173 : BitVec 32) : Fin 2 → Nat :=
  let c0_i32_52 : BitVec 32 := 0#32
  let c1_i32_54 : BitVec 32 := 1#32
  let arg35 : BitVec 32 := Scf.iv c0_i32_52 c1_i32_54 k0_t18
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk92 (k0_t18 : Fin k0_t18_loop.trips) (v173 : BitVec 32) : Prop :=
  (∀ a, (k0_off206 k0_t18 v173) a + S1x16.size a ≤ S256x128.size a)
theorem k0_off206_inb : ∀ (k0_t18 : Fin k0_t18_loop.trips) (v173 : BitVec 32) (k0_hw92 : k0_chk92 k0_t18 v173), ∀ a, (k0_off206 k0_t18 v173) a + S1x16.size a ≤ S256x128.size a := fun k0_t18 v173 k0_hw92 => k0_hw92

def k0_off207 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off208 (k0_t18 : Fin k0_t18_loop.trips) (v186 : BitVec 32) : Fin 2 → Nat :=
  let c0_i32_52 : BitVec 32 := 0#32
  let c1_i32_54 : BitVec 32 := 1#32
  let arg35 : BitVec 32 := Scf.iv c0_i32_52 c1_i32_54 k0_t18
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk93 (k0_t18 : Fin k0_t18_loop.trips) (v186 : BitVec 32) : Prop :=
  (∀ a, (k0_off208 k0_t18 v186) a + S1x16.size a ≤ S256x128.size a)
theorem k0_off208_inb : ∀ (k0_t18 : Fin k0_t18_loop.trips) (v186 : BitVec 32) (k0_hw93 : k0_chk93 k0_t18 v186), ∀ a, (k0_off208 k0_t18 v186) a + S1x16.size a ≤ S256x128.size a := fun k0_t18 v186 k0_hw93 => k0_hw93

def k0_off209 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off210 (k0_t18 : Fin k0_t18_loop.trips) (v199 : BitVec 32) : Fin 2 → Nat :=
  let c0_i32_52 : BitVec 32 := 0#32
  let c1_i32_54 : BitVec 32 := 1#32
  let arg35 : BitVec 32 := Scf.iv c0_i32_52 c1_i32_54 k0_t18
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk94 (k0_t18 : Fin k0_t18_loop.trips) (v199 : BitVec 32) : Prop :=
  (∀ a, (k0_off210 k0_t18 v199) a + S1x16.size a ≤ S256x128.size a)
theorem k0_off210_inb : ∀ (k0_t18 : Fin k0_t18_loop.trips) (v199 : BitVec 32) (k0_hw94 : k0_chk94 k0_t18 v199), ∀ a, (k0_off210 k0_t18 v199) a + S1x16.size a ≤ S256x128.size a := fun k0_t18 v199 k0_hw94 => k0_hw94

def k0_off211 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off212 (k0_t18 : Fin k0_t18_loop.trips) (v212 : BitVec 32) : Fin 2 → Nat :=
  let c0_i32_52 : BitVec 32 := 0#32
  let c1_i32_54 : BitVec 32 := 1#32
  let arg35 : BitVec 32 := Scf.iv c0_i32_52 c1_i32_54 k0_t18
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk95 (k0_t18 : Fin k0_t18_loop.trips) (v212 : BitVec 32) : Prop :=
  (∀ a, (k0_off212 k0_t18 v212) a + S1x16.size a ≤ S256x128.size a)
theorem k0_off212_inb : ∀ (k0_t18 : Fin k0_t18_loop.trips) (v212 : BitVec 32) (k0_hw95 : k0_chk95 k0_t18 v212), ∀ a, (k0_off212 k0_t18 v212) a + S1x16.size a ≤ S256x128.size a := fun k0_t18 v212 k0_hw95 => k0_hw95

def k0_off213 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off214 (k0_t18 : Fin k0_t18_loop.trips) (v225 : BitVec 32) : Fin 2 → Nat :=
  let c0_i32_52 : BitVec 32 := 0#32
  let c1_i32_54 : BitVec 32 := 1#32
  let arg35 : BitVec 32 := Scf.iv c0_i32_52 c1_i32_54 k0_t18
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk96 (k0_t18 : Fin k0_t18_loop.trips) (v225 : BitVec 32) : Prop :=
  (∀ a, (k0_off214 k0_t18 v225) a + S1x16.size a ≤ S256x128.size a)
theorem k0_off214_inb : ∀ (k0_t18 : Fin k0_t18_loop.trips) (v225 : BitVec 32) (k0_hw96 : k0_chk96 k0_t18 v225), ∀ a, (k0_off214 k0_t18 v225) a + S1x16.size a ≤ S256x128.size a := fun k0_t18 v225 k0_hw96 => k0_hw96

def k0_off215 (k0_t18 : Fin k0_t18_loop.trips) : Fin 1 → Nat :=
  let c0_i32_52 : BitVec 32 := 0#32
  let c1_i32_54 : BitVec 32 := 1#32
  let arg35 : BitVec 32 := Scf.iv c0_i32_52 c1_i32_54 k0_t18
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off216 (i : grid0.Coords) (k0_t16 : Fin k0_t16_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_26 : BitVec 32 := 1#32
  let arg34 : BitVec 32 := Scf.iv c0_i32_24 c1_i32_26 k0_t16
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t19_loop : Scf.Loop 32 :=
  let c0_i32_29 : BitVec 32 := 0#32
  let c2_i32_30 : BitVec 32 := 2#32
  let v9 : BitVec 32 := Scalar.addi c0_i32_29 c2_i32_30
  let c1_i32_31 : BitVec 32 := 1#32
  ⟨c0_i32_29, v9, c1_i32_31⟩
def k0_off217 (i : grid0.Coords) (k0_t19 : Fin k0_t19_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_29 : BitVec 32 := 0#32
  let c1_i32_31 : BitVec 32 := 1#32
  let arg34 : BitVec 32 := Scf.iv c0_i32_29 c1_i32_31 k0_t19
  let c256_i32 : BitVec 32 := 256#32
  let v12 : BitVec 32 := Scalar.muli arg34 c256_i32
  let v13 : BitVec 32 := Scalar.addi v2 v12
  ![v13.toNat]
@[reducible] def k0_t20_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off218 (k0_t20 : Fin k0_t20_loop.trips) : Fin 1 → Nat :=
  let c0_i32_44 : BitVec 32 := 0#32
  let c1_i32_45 : BitVec 32 := 1#32
  let arg35 : BitVec 32 := Scf.iv c0_i32_44 c1_i32_45 k0_t20
  let c16_i32_57 : BitVec 32 := 16#32
  let v19 : BitVec 32 := Scalar.muli arg35 c16_i32_57
  let v20 : Index := Scalar.indexCast v19
  ![v20.toNat]
@[reducible] def k0_t21_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off219 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_57 : BitVec 32 := 16#32
  let v19 : BitVec 32 := Scalar.muli arg35 c16_i32_57
  let v20 : Index := Scalar.indexCast v19
  ![v20.toNat]
def k0_off220 (k0_t21 : Fin k0_t21_loop.trips) (v30 : BitVec 32) : Fin 2 → Nat :=
  let c0_i32_52 : BitVec 32 := 0#32
  let c1_i32_54 : BitVec 32 := 1#32
  let arg35 : BitVec 32 := Scf.iv c0_i32_52 c1_i32_54 k0_t21
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk97 (k0_t21 : Fin k0_t21_loop.trips) (v30 : BitVec 32) : Prop :=
  (∀ a, (k0_off220 k0_t21 v30) a + S1x16.size a ≤ S256x128.size a)
theorem k0_off220_inb : ∀ (k0_t21 : Fin k0_t21_loop.trips) (v30 : BitVec 32) (k0_hw97 : k0_chk97 k0_t21 v30), ∀ a, (k0_off220 k0_t21 v30) a + S1x16.size a ≤ S256x128.size a := fun k0_t21 v30 k0_hw97 => k0_hw97

def k0_off221 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off222 (k0_t21 : Fin k0_t21_loop.trips) (v43 : BitVec 32) : Fin 2 → Nat :=
  let c0_i32_52 : BitVec 32 := 0#32
  let c1_i32_54 : BitVec 32 := 1#32
  let arg35 : BitVec 32 := Scf.iv c0_i32_52 c1_i32_54 k0_t21
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk98 (k0_t21 : Fin k0_t21_loop.trips) (v43 : BitVec 32) : Prop :=
  (∀ a, (k0_off222 k0_t21 v43) a + S1x16.size a ≤ S256x128.size a)
theorem k0_off222_inb : ∀ (k0_t21 : Fin k0_t21_loop.trips) (v43 : BitVec 32) (k0_hw98 : k0_chk98 k0_t21 v43), ∀ a, (k0_off222 k0_t21 v43) a + S1x16.size a ≤ S256x128.size a := fun k0_t21 v43 k0_hw98 => k0_hw98

def k0_off223 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off224 (k0_t21 : Fin k0_t21_loop.trips) (v56 : BitVec 32) : Fin 2 → Nat :=
  let c0_i32_52 : BitVec 32 := 0#32
  let c1_i32_54 : BitVec 32 := 1#32
  let arg35 : BitVec 32 := Scf.iv c0_i32_52 c1_i32_54 k0_t21
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk99 (k0_t21 : Fin k0_t21_loop.trips) (v56 : BitVec 32) : Prop :=
  (∀ a, (k0_off224 k0_t21 v56) a + S1x16.size a ≤ S256x128.size a)
theorem k0_off224_inb : ∀ (k0_t21 : Fin k0_t21_loop.trips) (v56 : BitVec 32) (k0_hw99 : k0_chk99 k0_t21 v56), ∀ a, (k0_off224 k0_t21 v56) a + S1x16.size a ≤ S256x128.size a := fun k0_t21 v56 k0_hw99 => k0_hw99

def k0_off225 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off226 (k0_t21 : Fin k0_t21_loop.trips) (v69 : BitVec 32) : Fin 2 → Nat :=
  let c0_i32_52 : BitVec 32 := 0#32
  let c1_i32_54 : BitVec 32 := 1#32
  let arg35 : BitVec 32 := Scf.iv c0_i32_52 c1_i32_54 k0_t21
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk100 (k0_t21 : Fin k0_t21_loop.trips) (v69 : BitVec 32) : Prop :=
  (∀ a, (k0_off226 k0_t21 v69) a + S1x16.size a ≤ S256x128.size a)
theorem k0_off226_inb : ∀ (k0_t21 : Fin k0_t21_loop.trips) (v69 : BitVec 32) (k0_hw100 : k0_chk100 k0_t21 v69), ∀ a, (k0_off226 k0_t21 v69) a + S1x16.size a ≤ S256x128.size a := fun k0_t21 v69 k0_hw100 => k0_hw100

def k0_off227 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off228 (k0_t21 : Fin k0_t21_loop.trips) (v82 : BitVec 32) : Fin 2 → Nat :=
  let c0_i32_52 : BitVec 32 := 0#32
  let c1_i32_54 : BitVec 32 := 1#32
  let arg35 : BitVec 32 := Scf.iv c0_i32_52 c1_i32_54 k0_t21
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk101 (k0_t21 : Fin k0_t21_loop.trips) (v82 : BitVec 32) : Prop :=
  (∀ a, (k0_off228 k0_t21 v82) a + S1x16.size a ≤ S256x128.size a)
theorem k0_off228_inb : ∀ (k0_t21 : Fin k0_t21_loop.trips) (v82 : BitVec 32) (k0_hw101 : k0_chk101 k0_t21 v82), ∀ a, (k0_off228 k0_t21 v82) a + S1x16.size a ≤ S256x128.size a := fun k0_t21 v82 k0_hw101 => k0_hw101

def k0_off229 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off230 (k0_t21 : Fin k0_t21_loop.trips) (v95 : BitVec 32) : Fin 2 → Nat :=
  let c0_i32_52 : BitVec 32 := 0#32
  let c1_i32_54 : BitVec 32 := 1#32
  let arg35 : BitVec 32 := Scf.iv c0_i32_52 c1_i32_54 k0_t21
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk102 (k0_t21 : Fin k0_t21_loop.trips) (v95 : BitVec 32) : Prop :=
  (∀ a, (k0_off230 k0_t21 v95) a + S1x16.size a ≤ S256x128.size a)
theorem k0_off230_inb : ∀ (k0_t21 : Fin k0_t21_loop.trips) (v95 : BitVec 32) (k0_hw102 : k0_chk102 k0_t21 v95), ∀ a, (k0_off230 k0_t21 v95) a + S1x16.size a ≤ S256x128.size a := fun k0_t21 v95 k0_hw102 => k0_hw102

def k0_off231 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off232 (k0_t21 : Fin k0_t21_loop.trips) (v108 : BitVec 32) : Fin 2 → Nat :=
  let c0_i32_52 : BitVec 32 := 0#32
  let c1_i32_54 : BitVec 32 := 1#32
  let arg35 : BitVec 32 := Scf.iv c0_i32_52 c1_i32_54 k0_t21
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk103 (k0_t21 : Fin k0_t21_loop.trips) (v108 : BitVec 32) : Prop :=
  (∀ a, (k0_off232 k0_t21 v108) a + S1x16.size a ≤ S256x128.size a)
theorem k0_off232_inb : ∀ (k0_t21 : Fin k0_t21_loop.trips) (v108 : BitVec 32) (k0_hw103 : k0_chk103 k0_t21 v108), ∀ a, (k0_off232 k0_t21 v108) a + S1x16.size a ≤ S256x128.size a := fun k0_t21 v108 k0_hw103 => k0_hw103

def k0_off233 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off234 (k0_t21 : Fin k0_t21_loop.trips) (v121 : BitVec 32) : Fin 2 → Nat :=
  let c0_i32_52 : BitVec 32 := 0#32
  let c1_i32_54 : BitVec 32 := 1#32
  let arg35 : BitVec 32 := Scf.iv c0_i32_52 c1_i32_54 k0_t21
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk104 (k0_t21 : Fin k0_t21_loop.trips) (v121 : BitVec 32) : Prop :=
  (∀ a, (k0_off234 k0_t21 v121) a + S1x16.size a ≤ S256x128.size a)
theorem k0_off234_inb : ∀ (k0_t21 : Fin k0_t21_loop.trips) (v121 : BitVec 32) (k0_hw104 : k0_chk104 k0_t21 v121), ∀ a, (k0_off234 k0_t21 v121) a + S1x16.size a ≤ S256x128.size a := fun k0_t21 v121 k0_hw104 => k0_hw104

def k0_off235 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off236 (k0_t21 : Fin k0_t21_loop.trips) (v134 : BitVec 32) : Fin 2 → Nat :=
  let c0_i32_52 : BitVec 32 := 0#32
  let c1_i32_54 : BitVec 32 := 1#32
  let arg35 : BitVec 32 := Scf.iv c0_i32_52 c1_i32_54 k0_t21
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk105 (k0_t21 : Fin k0_t21_loop.trips) (v134 : BitVec 32) : Prop :=
  (∀ a, (k0_off236 k0_t21 v134) a + S1x16.size a ≤ S256x128.size a)
theorem k0_off236_inb : ∀ (k0_t21 : Fin k0_t21_loop.trips) (v134 : BitVec 32) (k0_hw105 : k0_chk105 k0_t21 v134), ∀ a, (k0_off236 k0_t21 v134) a + S1x16.size a ≤ S256x128.size a := fun k0_t21 v134 k0_hw105 => k0_hw105

def k0_off237 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off238 (k0_t21 : Fin k0_t21_loop.trips) (v147 : BitVec 32) : Fin 2 → Nat :=
  let c0_i32_52 : BitVec 32 := 0#32
  let c1_i32_54 : BitVec 32 := 1#32
  let arg35 : BitVec 32 := Scf.iv c0_i32_52 c1_i32_54 k0_t21
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk106 (k0_t21 : Fin k0_t21_loop.trips) (v147 : BitVec 32) : Prop :=
  (∀ a, (k0_off238 k0_t21 v147) a + S1x16.size a ≤ S256x128.size a)
theorem k0_off238_inb : ∀ (k0_t21 : Fin k0_t21_loop.trips) (v147 : BitVec 32) (k0_hw106 : k0_chk106 k0_t21 v147), ∀ a, (k0_off238 k0_t21 v147) a + S1x16.size a ≤ S256x128.size a := fun k0_t21 v147 k0_hw106 => k0_hw106

def k0_off239 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off240 (k0_t21 : Fin k0_t21_loop.trips) (v160 : BitVec 32) : Fin 2 → Nat :=
  let c0_i32_52 : BitVec 32 := 0#32
  let c1_i32_54 : BitVec 32 := 1#32
  let arg35 : BitVec 32 := Scf.iv c0_i32_52 c1_i32_54 k0_t21
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk107 (k0_t21 : Fin k0_t21_loop.trips) (v160 : BitVec 32) : Prop :=
  (∀ a, (k0_off240 k0_t21 v160) a + S1x16.size a ≤ S256x128.size a)
theorem k0_off240_inb : ∀ (k0_t21 : Fin k0_t21_loop.trips) (v160 : BitVec 32) (k0_hw107 : k0_chk107 k0_t21 v160), ∀ a, (k0_off240 k0_t21 v160) a + S1x16.size a ≤ S256x128.size a := fun k0_t21 v160 k0_hw107 => k0_hw107

def k0_off241 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off242 (k0_t21 : Fin k0_t21_loop.trips) (v173 : BitVec 32) : Fin 2 → Nat :=
  let c0_i32_52 : BitVec 32 := 0#32
  let c1_i32_54 : BitVec 32 := 1#32
  let arg35 : BitVec 32 := Scf.iv c0_i32_52 c1_i32_54 k0_t21
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk108 (k0_t21 : Fin k0_t21_loop.trips) (v173 : BitVec 32) : Prop :=
  (∀ a, (k0_off242 k0_t21 v173) a + S1x16.size a ≤ S256x128.size a)
theorem k0_off242_inb : ∀ (k0_t21 : Fin k0_t21_loop.trips) (v173 : BitVec 32) (k0_hw108 : k0_chk108 k0_t21 v173), ∀ a, (k0_off242 k0_t21 v173) a + S1x16.size a ≤ S256x128.size a := fun k0_t21 v173 k0_hw108 => k0_hw108

def k0_off243 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off244 (k0_t21 : Fin k0_t21_loop.trips) (v186 : BitVec 32) : Fin 2 → Nat :=
  let c0_i32_52 : BitVec 32 := 0#32
  let c1_i32_54 : BitVec 32 := 1#32
  let arg35 : BitVec 32 := Scf.iv c0_i32_52 c1_i32_54 k0_t21
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk109 (k0_t21 : Fin k0_t21_loop.trips) (v186 : BitVec 32) : Prop :=
  (∀ a, (k0_off244 k0_t21 v186) a + S1x16.size a ≤ S256x128.size a)
theorem k0_off244_inb : ∀ (k0_t21 : Fin k0_t21_loop.trips) (v186 : BitVec 32) (k0_hw109 : k0_chk109 k0_t21 v186), ∀ a, (k0_off244 k0_t21 v186) a + S1x16.size a ≤ S256x128.size a := fun k0_t21 v186 k0_hw109 => k0_hw109

def k0_off245 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off246 (k0_t21 : Fin k0_t21_loop.trips) (v199 : BitVec 32) : Fin 2 → Nat :=
  let c0_i32_52 : BitVec 32 := 0#32
  let c1_i32_54 : BitVec 32 := 1#32
  let arg35 : BitVec 32 := Scf.iv c0_i32_52 c1_i32_54 k0_t21
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk110 (k0_t21 : Fin k0_t21_loop.trips) (v199 : BitVec 32) : Prop :=
  (∀ a, (k0_off246 k0_t21 v199) a + S1x16.size a ≤ S256x128.size a)
theorem k0_off246_inb : ∀ (k0_t21 : Fin k0_t21_loop.trips) (v199 : BitVec 32) (k0_hw110 : k0_chk110 k0_t21 v199), ∀ a, (k0_off246 k0_t21 v199) a + S1x16.size a ≤ S256x128.size a := fun k0_t21 v199 k0_hw110 => k0_hw110

def k0_off247 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off248 (k0_t21 : Fin k0_t21_loop.trips) (v212 : BitVec 32) : Fin 2 → Nat :=
  let c0_i32_52 : BitVec 32 := 0#32
  let c1_i32_54 : BitVec 32 := 1#32
  let arg35 : BitVec 32 := Scf.iv c0_i32_52 c1_i32_54 k0_t21
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk111 (k0_t21 : Fin k0_t21_loop.trips) (v212 : BitVec 32) : Prop :=
  (∀ a, (k0_off248 k0_t21 v212) a + S1x16.size a ≤ S256x128.size a)
theorem k0_off248_inb : ∀ (k0_t21 : Fin k0_t21_loop.trips) (v212 : BitVec 32) (k0_hw111 : k0_chk111 k0_t21 v212), ∀ a, (k0_off248 k0_t21 v212) a + S1x16.size a ≤ S256x128.size a := fun k0_t21 v212 k0_hw111 => k0_hw111

def k0_off249 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off250 (k0_t21 : Fin k0_t21_loop.trips) (v225 : BitVec 32) : Fin 2 → Nat :=
  let c0_i32_52 : BitVec 32 := 0#32
  let c1_i32_54 : BitVec 32 := 1#32
  let arg35 : BitVec 32 := Scf.iv c0_i32_52 c1_i32_54 k0_t21
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk112 (k0_t21 : Fin k0_t21_loop.trips) (v225 : BitVec 32) : Prop :=
  (∀ a, (k0_off250 k0_t21 v225) a + S1x16.size a ≤ S256x128.size a)
theorem k0_off250_inb : ∀ (k0_t21 : Fin k0_t21_loop.trips) (v225 : BitVec 32) (k0_hw112 : k0_chk112 k0_t21 v225), ∀ a, (k0_off250 k0_t21 v225) a + S1x16.size a ≤ S256x128.size a := fun k0_t21 v225 k0_hw112 => k0_hw112

def k0_off251 (k0_t21 : Fin k0_t21_loop.trips) : Fin 1 → Nat :=
  let c0_i32_52 : BitVec 32 := 0#32
  let c1_i32_54 : BitVec 32 := 1#32
  let arg35 : BitVec 32 := Scf.iv c0_i32_52 c1_i32_54 k0_t21
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off252 (i : grid0.Coords) (k0_t19 : Fin k0_t19_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_29 : BitVec 32 := 0#32
  let c1_i32_31 : BitVec 32 := 1#32
  let arg34 : BitVec 32 := Scf.iv c0_i32_29 c1_i32_31 k0_t19
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t22_loop : Scf.Loop 32 :=
  let c0_i32_34 : BitVec 32 := 0#32
  let c2_i32_35 : BitVec 32 := 2#32
  let v10 : BitVec 32 := Scalar.addi c0_i32_34 c2_i32_35
  let c1_i32_36 : BitVec 32 := 1#32
  ⟨c0_i32_34, v10, c1_i32_36⟩
def k0_off253 (i : grid0.Coords) (k0_t22 : Fin k0_t22_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_34 : BitVec 32 := 0#32
  let c1_i32_36 : BitVec 32 := 1#32
  let arg34 : BitVec 32 := Scf.iv c0_i32_34 c1_i32_36 k0_t22
  let c256_i32 : BitVec 32 := 256#32
  let v12 : BitVec 32 := Scalar.muli arg34 c256_i32
  let v13 : BitVec 32 := Scalar.addi v2 v12
  ![v13.toNat]
@[reducible] def k0_t23_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off254 (k0_t23 : Fin k0_t23_loop.trips) : Fin 1 → Nat :=
  let c0_i32_44 : BitVec 32 := 0#32
  let c1_i32_45 : BitVec 32 := 1#32
  let arg35 : BitVec 32 := Scf.iv c0_i32_44 c1_i32_45 k0_t23
  let c16_i32_57 : BitVec 32 := 16#32
  let v19 : BitVec 32 := Scalar.muli arg35 c16_i32_57
  let v20 : Index := Scalar.indexCast v19
  ![v20.toNat]
@[reducible] def k0_t24_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off255 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_57 : BitVec 32 := 16#32
  let v19 : BitVec 32 := Scalar.muli arg35 c16_i32_57
  let v20 : Index := Scalar.indexCast v19
  ![v20.toNat]
def k0_off256 (k0_t24 : Fin k0_t24_loop.trips) (v30 : BitVec 32) : Fin 2 → Nat :=
  let c0_i32_52 : BitVec 32 := 0#32
  let c1_i32_54 : BitVec 32 := 1#32
  let arg35 : BitVec 32 := Scf.iv c0_i32_52 c1_i32_54 k0_t24
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk113 (k0_t24 : Fin k0_t24_loop.trips) (v30 : BitVec 32) : Prop :=
  (∀ a, (k0_off256 k0_t24 v30) a + S1x16.size a ≤ S256x128.size a)
theorem k0_off256_inb : ∀ (k0_t24 : Fin k0_t24_loop.trips) (v30 : BitVec 32) (k0_hw113 : k0_chk113 k0_t24 v30), ∀ a, (k0_off256 k0_t24 v30) a + S1x16.size a ≤ S256x128.size a := fun k0_t24 v30 k0_hw113 => k0_hw113

def k0_off257 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off258 (k0_t24 : Fin k0_t24_loop.trips) (v43 : BitVec 32) : Fin 2 → Nat :=
  let c0_i32_52 : BitVec 32 := 0#32
  let c1_i32_54 : BitVec 32 := 1#32
  let arg35 : BitVec 32 := Scf.iv c0_i32_52 c1_i32_54 k0_t24
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk114 (k0_t24 : Fin k0_t24_loop.trips) (v43 : BitVec 32) : Prop :=
  (∀ a, (k0_off258 k0_t24 v43) a + S1x16.size a ≤ S256x128.size a)
theorem k0_off258_inb : ∀ (k0_t24 : Fin k0_t24_loop.trips) (v43 : BitVec 32) (k0_hw114 : k0_chk114 k0_t24 v43), ∀ a, (k0_off258 k0_t24 v43) a + S1x16.size a ≤ S256x128.size a := fun k0_t24 v43 k0_hw114 => k0_hw114

def k0_off259 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off260 (k0_t24 : Fin k0_t24_loop.trips) (v56 : BitVec 32) : Fin 2 → Nat :=
  let c0_i32_52 : BitVec 32 := 0#32
  let c1_i32_54 : BitVec 32 := 1#32
  let arg35 : BitVec 32 := Scf.iv c0_i32_52 c1_i32_54 k0_t24
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk115 (k0_t24 : Fin k0_t24_loop.trips) (v56 : BitVec 32) : Prop :=
  (∀ a, (k0_off260 k0_t24 v56) a + S1x16.size a ≤ S256x128.size a)
theorem k0_off260_inb : ∀ (k0_t24 : Fin k0_t24_loop.trips) (v56 : BitVec 32) (k0_hw115 : k0_chk115 k0_t24 v56), ∀ a, (k0_off260 k0_t24 v56) a + S1x16.size a ≤ S256x128.size a := fun k0_t24 v56 k0_hw115 => k0_hw115

def k0_off261 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off262 (k0_t24 : Fin k0_t24_loop.trips) (v69 : BitVec 32) : Fin 2 → Nat :=
  let c0_i32_52 : BitVec 32 := 0#32
  let c1_i32_54 : BitVec 32 := 1#32
  let arg35 : BitVec 32 := Scf.iv c0_i32_52 c1_i32_54 k0_t24
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk116 (k0_t24 : Fin k0_t24_loop.trips) (v69 : BitVec 32) : Prop :=
  (∀ a, (k0_off262 k0_t24 v69) a + S1x16.size a ≤ S256x128.size a)
theorem k0_off262_inb : ∀ (k0_t24 : Fin k0_t24_loop.trips) (v69 : BitVec 32) (k0_hw116 : k0_chk116 k0_t24 v69), ∀ a, (k0_off262 k0_t24 v69) a + S1x16.size a ≤ S256x128.size a := fun k0_t24 v69 k0_hw116 => k0_hw116

def k0_off263 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off264 (k0_t24 : Fin k0_t24_loop.trips) (v82 : BitVec 32) : Fin 2 → Nat :=
  let c0_i32_52 : BitVec 32 := 0#32
  let c1_i32_54 : BitVec 32 := 1#32
  let arg35 : BitVec 32 := Scf.iv c0_i32_52 c1_i32_54 k0_t24
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk117 (k0_t24 : Fin k0_t24_loop.trips) (v82 : BitVec 32) : Prop :=
  (∀ a, (k0_off264 k0_t24 v82) a + S1x16.size a ≤ S256x128.size a)
theorem k0_off264_inb : ∀ (k0_t24 : Fin k0_t24_loop.trips) (v82 : BitVec 32) (k0_hw117 : k0_chk117 k0_t24 v82), ∀ a, (k0_off264 k0_t24 v82) a + S1x16.size a ≤ S256x128.size a := fun k0_t24 v82 k0_hw117 => k0_hw117

def k0_off265 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off266 (k0_t24 : Fin k0_t24_loop.trips) (v95 : BitVec 32) : Fin 2 → Nat :=
  let c0_i32_52 : BitVec 32 := 0#32
  let c1_i32_54 : BitVec 32 := 1#32
  let arg35 : BitVec 32 := Scf.iv c0_i32_52 c1_i32_54 k0_t24
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk118 (k0_t24 : Fin k0_t24_loop.trips) (v95 : BitVec 32) : Prop :=
  (∀ a, (k0_off266 k0_t24 v95) a + S1x16.size a ≤ S256x128.size a)
theorem k0_off266_inb : ∀ (k0_t24 : Fin k0_t24_loop.trips) (v95 : BitVec 32) (k0_hw118 : k0_chk118 k0_t24 v95), ∀ a, (k0_off266 k0_t24 v95) a + S1x16.size a ≤ S256x128.size a := fun k0_t24 v95 k0_hw118 => k0_hw118

def k0_off267 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off268 (k0_t24 : Fin k0_t24_loop.trips) (v108 : BitVec 32) : Fin 2 → Nat :=
  let c0_i32_52 : BitVec 32 := 0#32
  let c1_i32_54 : BitVec 32 := 1#32
  let arg35 : BitVec 32 := Scf.iv c0_i32_52 c1_i32_54 k0_t24
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk119 (k0_t24 : Fin k0_t24_loop.trips) (v108 : BitVec 32) : Prop :=
  (∀ a, (k0_off268 k0_t24 v108) a + S1x16.size a ≤ S256x128.size a)
theorem k0_off268_inb : ∀ (k0_t24 : Fin k0_t24_loop.trips) (v108 : BitVec 32) (k0_hw119 : k0_chk119 k0_t24 v108), ∀ a, (k0_off268 k0_t24 v108) a + S1x16.size a ≤ S256x128.size a := fun k0_t24 v108 k0_hw119 => k0_hw119

def k0_off269 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off270 (k0_t24 : Fin k0_t24_loop.trips) (v121 : BitVec 32) : Fin 2 → Nat :=
  let c0_i32_52 : BitVec 32 := 0#32
  let c1_i32_54 : BitVec 32 := 1#32
  let arg35 : BitVec 32 := Scf.iv c0_i32_52 c1_i32_54 k0_t24
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk120 (k0_t24 : Fin k0_t24_loop.trips) (v121 : BitVec 32) : Prop :=
  (∀ a, (k0_off270 k0_t24 v121) a + S1x16.size a ≤ S256x128.size a)
theorem k0_off270_inb : ∀ (k0_t24 : Fin k0_t24_loop.trips) (v121 : BitVec 32) (k0_hw120 : k0_chk120 k0_t24 v121), ∀ a, (k0_off270 k0_t24 v121) a + S1x16.size a ≤ S256x128.size a := fun k0_t24 v121 k0_hw120 => k0_hw120

def k0_off271 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off272 (k0_t24 : Fin k0_t24_loop.trips) (v134 : BitVec 32) : Fin 2 → Nat :=
  let c0_i32_52 : BitVec 32 := 0#32
  let c1_i32_54 : BitVec 32 := 1#32
  let arg35 : BitVec 32 := Scf.iv c0_i32_52 c1_i32_54 k0_t24
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk121 (k0_t24 : Fin k0_t24_loop.trips) (v134 : BitVec 32) : Prop :=
  (∀ a, (k0_off272 k0_t24 v134) a + S1x16.size a ≤ S256x128.size a)
theorem k0_off272_inb : ∀ (k0_t24 : Fin k0_t24_loop.trips) (v134 : BitVec 32) (k0_hw121 : k0_chk121 k0_t24 v134), ∀ a, (k0_off272 k0_t24 v134) a + S1x16.size a ≤ S256x128.size a := fun k0_t24 v134 k0_hw121 => k0_hw121

def k0_off273 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off274 (k0_t24 : Fin k0_t24_loop.trips) (v147 : BitVec 32) : Fin 2 → Nat :=
  let c0_i32_52 : BitVec 32 := 0#32
  let c1_i32_54 : BitVec 32 := 1#32
  let arg35 : BitVec 32 := Scf.iv c0_i32_52 c1_i32_54 k0_t24
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk122 (k0_t24 : Fin k0_t24_loop.trips) (v147 : BitVec 32) : Prop :=
  (∀ a, (k0_off274 k0_t24 v147) a + S1x16.size a ≤ S256x128.size a)
theorem k0_off274_inb : ∀ (k0_t24 : Fin k0_t24_loop.trips) (v147 : BitVec 32) (k0_hw122 : k0_chk122 k0_t24 v147), ∀ a, (k0_off274 k0_t24 v147) a + S1x16.size a ≤ S256x128.size a := fun k0_t24 v147 k0_hw122 => k0_hw122

def k0_off275 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off276 (k0_t24 : Fin k0_t24_loop.trips) (v160 : BitVec 32) : Fin 2 → Nat :=
  let c0_i32_52 : BitVec 32 := 0#32
  let c1_i32_54 : BitVec 32 := 1#32
  let arg35 : BitVec 32 := Scf.iv c0_i32_52 c1_i32_54 k0_t24
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk123 (k0_t24 : Fin k0_t24_loop.trips) (v160 : BitVec 32) : Prop :=
  (∀ a, (k0_off276 k0_t24 v160) a + S1x16.size a ≤ S256x128.size a)
theorem k0_off276_inb : ∀ (k0_t24 : Fin k0_t24_loop.trips) (v160 : BitVec 32) (k0_hw123 : k0_chk123 k0_t24 v160), ∀ a, (k0_off276 k0_t24 v160) a + S1x16.size a ≤ S256x128.size a := fun k0_t24 v160 k0_hw123 => k0_hw123

def k0_off277 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off278 (k0_t24 : Fin k0_t24_loop.trips) (v173 : BitVec 32) : Fin 2 → Nat :=
  let c0_i32_52 : BitVec 32 := 0#32
  let c1_i32_54 : BitVec 32 := 1#32
  let arg35 : BitVec 32 := Scf.iv c0_i32_52 c1_i32_54 k0_t24
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk124 (k0_t24 : Fin k0_t24_loop.trips) (v173 : BitVec 32) : Prop :=
  (∀ a, (k0_off278 k0_t24 v173) a + S1x16.size a ≤ S256x128.size a)
theorem k0_off278_inb : ∀ (k0_t24 : Fin k0_t24_loop.trips) (v173 : BitVec 32) (k0_hw124 : k0_chk124 k0_t24 v173), ∀ a, (k0_off278 k0_t24 v173) a + S1x16.size a ≤ S256x128.size a := fun k0_t24 v173 k0_hw124 => k0_hw124

def k0_off279 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off280 (k0_t24 : Fin k0_t24_loop.trips) (v186 : BitVec 32) : Fin 2 → Nat :=
  let c0_i32_52 : BitVec 32 := 0#32
  let c1_i32_54 : BitVec 32 := 1#32
  let arg35 : BitVec 32 := Scf.iv c0_i32_52 c1_i32_54 k0_t24
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk125 (k0_t24 : Fin k0_t24_loop.trips) (v186 : BitVec 32) : Prop :=
  (∀ a, (k0_off280 k0_t24 v186) a + S1x16.size a ≤ S256x128.size a)
theorem k0_off280_inb : ∀ (k0_t24 : Fin k0_t24_loop.trips) (v186 : BitVec 32) (k0_hw125 : k0_chk125 k0_t24 v186), ∀ a, (k0_off280 k0_t24 v186) a + S1x16.size a ≤ S256x128.size a := fun k0_t24 v186 k0_hw125 => k0_hw125

def k0_off281 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off282 (k0_t24 : Fin k0_t24_loop.trips) (v199 : BitVec 32) : Fin 2 → Nat :=
  let c0_i32_52 : BitVec 32 := 0#32
  let c1_i32_54 : BitVec 32 := 1#32
  let arg35 : BitVec 32 := Scf.iv c0_i32_52 c1_i32_54 k0_t24
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk126 (k0_t24 : Fin k0_t24_loop.trips) (v199 : BitVec 32) : Prop :=
  (∀ a, (k0_off282 k0_t24 v199) a + S1x16.size a ≤ S256x128.size a)
theorem k0_off282_inb : ∀ (k0_t24 : Fin k0_t24_loop.trips) (v199 : BitVec 32) (k0_hw126 : k0_chk126 k0_t24 v199), ∀ a, (k0_off282 k0_t24 v199) a + S1x16.size a ≤ S256x128.size a := fun k0_t24 v199 k0_hw126 => k0_hw126

def k0_off283 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off284 (k0_t24 : Fin k0_t24_loop.trips) (v212 : BitVec 32) : Fin 2 → Nat :=
  let c0_i32_52 : BitVec 32 := 0#32
  let c1_i32_54 : BitVec 32 := 1#32
  let arg35 : BitVec 32 := Scf.iv c0_i32_52 c1_i32_54 k0_t24
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk127 (k0_t24 : Fin k0_t24_loop.trips) (v212 : BitVec 32) : Prop :=
  (∀ a, (k0_off284 k0_t24 v212) a + S1x16.size a ≤ S256x128.size a)
theorem k0_off284_inb : ∀ (k0_t24 : Fin k0_t24_loop.trips) (v212 : BitVec 32) (k0_hw127 : k0_chk127 k0_t24 v212), ∀ a, (k0_off284 k0_t24 v212) a + S1x16.size a ≤ S256x128.size a := fun k0_t24 v212 k0_hw127 => k0_hw127

def k0_off285 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off286 (k0_t24 : Fin k0_t24_loop.trips) (v225 : BitVec 32) : Fin 2 → Nat :=
  let c0_i32_52 : BitVec 32 := 0#32
  let c1_i32_54 : BitVec 32 := 1#32
  let arg35 : BitVec 32 := Scf.iv c0_i32_52 c1_i32_54 k0_t24
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk128 (k0_t24 : Fin k0_t24_loop.trips) (v225 : BitVec 32) : Prop :=
  (∀ a, (k0_off286 k0_t24 v225) a + S1x16.size a ≤ S256x128.size a)
theorem k0_off286_inb : ∀ (k0_t24 : Fin k0_t24_loop.trips) (v225 : BitVec 32) (k0_hw128 : k0_chk128 k0_t24 v225), ∀ a, (k0_off286 k0_t24 v225) a + S1x16.size a ≤ S256x128.size a := fun k0_t24 v225 k0_hw128 => k0_hw128

def k0_off287 (k0_t24 : Fin k0_t24_loop.trips) : Fin 1 → Nat :=
  let c0_i32_52 : BitVec 32 := 0#32
  let c1_i32_54 : BitVec 32 := 1#32
  let arg35 : BitVec 32 := Scf.iv c0_i32_52 c1_i32_54 k0_t24
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off288 (i : grid0.Coords) (k0_t22 : Fin k0_t22_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_34 : BitVec 32 := 0#32
  let c1_i32_36 : BitVec 32 := 1#32
  let arg34 : BitVec 32 := Scf.iv c0_i32_34 c1_i32_36 k0_t22
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
@[reducible] def k0_t25_loop : Scf.Loop 32 :=
  let c0_i32_39 : BitVec 32 := 0#32
  let c2_i32_40 : BitVec 32 := 2#32
  let v11 : BitVec 32 := Scalar.addi c0_i32_39 c2_i32_40
  let c1_i32_41 : BitVec 32 := 1#32
  ⟨c0_i32_39, v11, c1_i32_41⟩
def k0_off289 (i : grid0.Coords) (k0_t25 : Fin k0_t25_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_39 : BitVec 32 := 0#32
  let c1_i32_41 : BitVec 32 := 1#32
  let arg34 : BitVec 32 := Scf.iv c0_i32_39 c1_i32_41 k0_t25
  let c256_i32 : BitVec 32 := 256#32
  let v12 : BitVec 32 := Scalar.muli arg34 c256_i32
  let v13 : BitVec 32 := Scalar.addi v2 v12
  ![v13.toNat]
@[reducible] def k0_t26_loop : Scf.Loop 32 :=
  let c0_i32_44 : BitVec 32 := 0#32
  let c16_i32 : BitVec 32 := 16#32
  let v14 : BitVec 32 := Scalar.addi c0_i32_44 c16_i32
  let c1_i32_45 : BitVec 32 := 1#32
  ⟨c0_i32_44, v14, c1_i32_45⟩
def k0_off290 (k0_t26 : Fin k0_t26_loop.trips) : Fin 1 → Nat :=
  let c0_i32_44 : BitVec 32 := 0#32
  let c1_i32_45 : BitVec 32 := 1#32
  let arg35 : BitVec 32 := Scf.iv c0_i32_44 c1_i32_45 k0_t26
  let c16_i32_57 : BitVec 32 := 16#32
  let v19 : BitVec 32 := Scalar.muli arg35 c16_i32_57
  let v20 : Index := Scalar.indexCast v19
  ![v20.toNat]
@[reducible] def k0_t27_loop : Scf.Loop 32 :=
  let c0_i32_52 : BitVec 32 := 0#32
  let c16_i32_53 : BitVec 32 := 16#32
  let v17 : BitVec 32 := Scalar.addi c0_i32_52 c16_i32_53
  let c1_i32_54 : BitVec 32 := 1#32
  ⟨c0_i32_52, v17, c1_i32_54⟩
def k0_off291 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_57 : BitVec 32 := 16#32
  let v19 : BitVec 32 := Scalar.muli arg35 c16_i32_57
  let v20 : Index := Scalar.indexCast v19
  ![v20.toNat]
def k0_off292 (k0_t27 : Fin k0_t27_loop.trips) (v30 : BitVec 32) : Fin 2 → Nat :=
  let c0_i32_52 : BitVec 32 := 0#32
  let c1_i32_54 : BitVec 32 := 1#32
  let arg35 : BitVec 32 := Scf.iv c0_i32_52 c1_i32_54 k0_t27
  let c16_i32_59 : BitVec 32 := 16#32
  let v27 : BitVec 32 := Scalar.muli arg35 c16_i32_59
  let c0_i32_60 : BitVec 32 := 0#32
  let v28 : BitVec 32 := Scalar.addi v27 c0_i32_60
  let v31 : Index := Scalar.indexCast v28
  let v32 : Index := Scalar.indexCast v30
  ![v31.toNat, v32.toNat]

def k0_chk129 (k0_t27 : Fin k0_t27_loop.trips) (v30 : BitVec 32) : Prop :=
  (∀ a, (k0_off292 k0_t27 v30) a + S1x16.size a ≤ S256x128.size a)
theorem k0_off292_inb : ∀ (k0_t27 : Fin k0_t27_loop.trips) (v30 : BitVec 32) (k0_hw129 : k0_chk129 k0_t27 v30), ∀ a, (k0_off292 k0_t27 v30) a + S1x16.size a ≤ S256x128.size a := fun k0_t27 v30 k0_hw129 => k0_hw129

def k0_off293 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_59 : BitVec 32 := 16#32
  let v27 : BitVec 32 := Scalar.muli arg35 c16_i32_59
  let c0_i32_60 : BitVec 32 := 0#32
  let v28 : BitVec 32 := Scalar.addi v27 c0_i32_60
  let c16_i32_61 : BitVec 32 := 16#32
  let v35 : BitVec 32 := Scalar.muli v28 c16_i32_61
  let v36 : Index := Scalar.indexCast v35
  ![v36.toNat]
def k0_off294 (k0_t27 : Fin k0_t27_loop.trips) (v43 : BitVec 32) : Fin 2 → Nat :=
  let c0_i32_52 : BitVec 32 := 0#32
  let c1_i32_54 : BitVec 32 := 1#32
  let arg35 : BitVec 32 := Scf.iv c0_i32_52 c1_i32_54 k0_t27
  let c16_i32_62 : BitVec 32 := 16#32
  let v40 : BitVec 32 := Scalar.muli arg35 c16_i32_62
  let c1_i32_63 : BitVec 32 := 1#32
  let v41 : BitVec 32 := Scalar.addi v40 c1_i32_63
  let v44 : Index := Scalar.indexCast v41
  let v45 : Index := Scalar.indexCast v43
  ![v44.toNat, v45.toNat]

def k0_chk130 (k0_t27 : Fin k0_t27_loop.trips) (v43 : BitVec 32) : Prop :=
  (∀ a, (k0_off294 k0_t27 v43) a + S1x16.size a ≤ S256x128.size a)
theorem k0_off294_inb : ∀ (k0_t27 : Fin k0_t27_loop.trips) (v43 : BitVec 32) (k0_hw130 : k0_chk130 k0_t27 v43), ∀ a, (k0_off294 k0_t27 v43) a + S1x16.size a ≤ S256x128.size a := fun k0_t27 v43 k0_hw130 => k0_hw130

def k0_off295 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_62 : BitVec 32 := 16#32
  let v40 : BitVec 32 := Scalar.muli arg35 c16_i32_62
  let c1_i32_63 : BitVec 32 := 1#32
  let v41 : BitVec 32 := Scalar.addi v40 c1_i32_63
  let c16_i32_64 : BitVec 32 := 16#32
  let v48 : BitVec 32 := Scalar.muli v41 c16_i32_64
  let v49 : Index := Scalar.indexCast v48
  ![v49.toNat]
def k0_off296 (k0_t27 : Fin k0_t27_loop.trips) (v56 : BitVec 32) : Fin 2 → Nat :=
  let c0_i32_52 : BitVec 32 := 0#32
  let c1_i32_54 : BitVec 32 := 1#32
  let arg35 : BitVec 32 := Scf.iv c0_i32_52 c1_i32_54 k0_t27
  let c16_i32_65 : BitVec 32 := 16#32
  let v53 : BitVec 32 := Scalar.muli arg35 c16_i32_65
  let c2_i32_66 : BitVec 32 := 2#32
  let v54 : BitVec 32 := Scalar.addi v53 c2_i32_66
  let v57 : Index := Scalar.indexCast v54
  let v58 : Index := Scalar.indexCast v56
  ![v57.toNat, v58.toNat]

def k0_chk131 (k0_t27 : Fin k0_t27_loop.trips) (v56 : BitVec 32) : Prop :=
  (∀ a, (k0_off296 k0_t27 v56) a + S1x16.size a ≤ S256x128.size a)
theorem k0_off296_inb : ∀ (k0_t27 : Fin k0_t27_loop.trips) (v56 : BitVec 32) (k0_hw131 : k0_chk131 k0_t27 v56), ∀ a, (k0_off296 k0_t27 v56) a + S1x16.size a ≤ S256x128.size a := fun k0_t27 v56 k0_hw131 => k0_hw131

def k0_off297 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_65 : BitVec 32 := 16#32
  let v53 : BitVec 32 := Scalar.muli arg35 c16_i32_65
  let c2_i32_66 : BitVec 32 := 2#32
  let v54 : BitVec 32 := Scalar.addi v53 c2_i32_66
  let c16_i32_67 : BitVec 32 := 16#32
  let v61 : BitVec 32 := Scalar.muli v54 c16_i32_67
  let v62 : Index := Scalar.indexCast v61
  ![v62.toNat]
def k0_off298 (k0_t27 : Fin k0_t27_loop.trips) (v69 : BitVec 32) : Fin 2 → Nat :=
  let c0_i32_52 : BitVec 32 := 0#32
  let c1_i32_54 : BitVec 32 := 1#32
  let arg35 : BitVec 32 := Scf.iv c0_i32_52 c1_i32_54 k0_t27
  let c16_i32_68 : BitVec 32 := 16#32
  let v66 : BitVec 32 := Scalar.muli arg35 c16_i32_68
  let c3_i32 : BitVec 32 := 3#32
  let v67 : BitVec 32 := Scalar.addi v66 c3_i32
  let v70 : Index := Scalar.indexCast v67
  let v71 : Index := Scalar.indexCast v69
  ![v70.toNat, v71.toNat]

def k0_chk132 (k0_t27 : Fin k0_t27_loop.trips) (v69 : BitVec 32) : Prop :=
  (∀ a, (k0_off298 k0_t27 v69) a + S1x16.size a ≤ S256x128.size a)
theorem k0_off298_inb : ∀ (k0_t27 : Fin k0_t27_loop.trips) (v69 : BitVec 32) (k0_hw132 : k0_chk132 k0_t27 v69), ∀ a, (k0_off298 k0_t27 v69) a + S1x16.size a ≤ S256x128.size a := fun k0_t27 v69 k0_hw132 => k0_hw132

def k0_off299 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_68 : BitVec 32 := 16#32
  let v66 : BitVec 32 := Scalar.muli arg35 c16_i32_68
  let c3_i32 : BitVec 32 := 3#32
  let v67 : BitVec 32 := Scalar.addi v66 c3_i32
  let c16_i32_69 : BitVec 32 := 16#32
  let v74 : BitVec 32 := Scalar.muli v67 c16_i32_69
  let v75 : Index := Scalar.indexCast v74
  ![v75.toNat]
def k0_off300 (k0_t27 : Fin k0_t27_loop.trips) (v82 : BitVec 32) : Fin 2 → Nat :=
  let c0_i32_52 : BitVec 32 := 0#32
  let c1_i32_54 : BitVec 32 := 1#32
  let arg35 : BitVec 32 := Scf.iv c0_i32_52 c1_i32_54 k0_t27
  let c16_i32_70 : BitVec 32 := 16#32
  let v79 : BitVec 32 := Scalar.muli arg35 c16_i32_70
  let c4_i32 : BitVec 32 := 4#32
  let v80 : BitVec 32 := Scalar.addi v79 c4_i32
  let v83 : Index := Scalar.indexCast v80
  let v84 : Index := Scalar.indexCast v82
  ![v83.toNat, v84.toNat]

def k0_chk133 (k0_t27 : Fin k0_t27_loop.trips) (v82 : BitVec 32) : Prop :=
  (∀ a, (k0_off300 k0_t27 v82) a + S1x16.size a ≤ S256x128.size a)
theorem k0_off300_inb : ∀ (k0_t27 : Fin k0_t27_loop.trips) (v82 : BitVec 32) (k0_hw133 : k0_chk133 k0_t27 v82), ∀ a, (k0_off300 k0_t27 v82) a + S1x16.size a ≤ S256x128.size a := fun k0_t27 v82 k0_hw133 => k0_hw133

def k0_off301 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_70 : BitVec 32 := 16#32
  let v79 : BitVec 32 := Scalar.muli arg35 c16_i32_70
  let c4_i32 : BitVec 32 := 4#32
  let v80 : BitVec 32 := Scalar.addi v79 c4_i32
  let c16_i32_71 : BitVec 32 := 16#32
  let v87 : BitVec 32 := Scalar.muli v80 c16_i32_71
  let v88 : Index := Scalar.indexCast v87
  ![v88.toNat]
def k0_off302 (k0_t27 : Fin k0_t27_loop.trips) (v95 : BitVec 32) : Fin 2 → Nat :=
  let c0_i32_52 : BitVec 32 := 0#32
  let c1_i32_54 : BitVec 32 := 1#32
  let arg35 : BitVec 32 := Scf.iv c0_i32_52 c1_i32_54 k0_t27
  let c16_i32_72 : BitVec 32 := 16#32
  let v92 : BitVec 32 := Scalar.muli arg35 c16_i32_72
  let c5_i32 : BitVec 32 := 5#32
  let v93 : BitVec 32 := Scalar.addi v92 c5_i32
  let v96 : Index := Scalar.indexCast v93
  let v97 : Index := Scalar.indexCast v95
  ![v96.toNat, v97.toNat]

def k0_chk134 (k0_t27 : Fin k0_t27_loop.trips) (v95 : BitVec 32) : Prop :=
  (∀ a, (k0_off302 k0_t27 v95) a + S1x16.size a ≤ S256x128.size a)
theorem k0_off302_inb : ∀ (k0_t27 : Fin k0_t27_loop.trips) (v95 : BitVec 32) (k0_hw134 : k0_chk134 k0_t27 v95), ∀ a, (k0_off302 k0_t27 v95) a + S1x16.size a ≤ S256x128.size a := fun k0_t27 v95 k0_hw134 => k0_hw134

def k0_off303 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_72 : BitVec 32 := 16#32
  let v92 : BitVec 32 := Scalar.muli arg35 c16_i32_72
  let c5_i32 : BitVec 32 := 5#32
  let v93 : BitVec 32 := Scalar.addi v92 c5_i32
  let c16_i32_73 : BitVec 32 := 16#32
  let v100 : BitVec 32 := Scalar.muli v93 c16_i32_73
  let v101 : Index := Scalar.indexCast v100
  ![v101.toNat]
def k0_off304 (k0_t27 : Fin k0_t27_loop.trips) (v108 : BitVec 32) : Fin 2 → Nat :=
  let c0_i32_52 : BitVec 32 := 0#32
  let c1_i32_54 : BitVec 32 := 1#32
  let arg35 : BitVec 32 := Scf.iv c0_i32_52 c1_i32_54 k0_t27
  let c16_i32_74 : BitVec 32 := 16#32
  let v105 : BitVec 32 := Scalar.muli arg35 c16_i32_74
  let c6_i32 : BitVec 32 := 6#32
  let v106 : BitVec 32 := Scalar.addi v105 c6_i32
  let v109 : Index := Scalar.indexCast v106
  let v110 : Index := Scalar.indexCast v108
  ![v109.toNat, v110.toNat]

def k0_chk135 (k0_t27 : Fin k0_t27_loop.trips) (v108 : BitVec 32) : Prop :=
  (∀ a, (k0_off304 k0_t27 v108) a + S1x16.size a ≤ S256x128.size a)
theorem k0_off304_inb : ∀ (k0_t27 : Fin k0_t27_loop.trips) (v108 : BitVec 32) (k0_hw135 : k0_chk135 k0_t27 v108), ∀ a, (k0_off304 k0_t27 v108) a + S1x16.size a ≤ S256x128.size a := fun k0_t27 v108 k0_hw135 => k0_hw135

def k0_off305 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_74 : BitVec 32 := 16#32
  let v105 : BitVec 32 := Scalar.muli arg35 c16_i32_74
  let c6_i32 : BitVec 32 := 6#32
  let v106 : BitVec 32 := Scalar.addi v105 c6_i32
  let c16_i32_75 : BitVec 32 := 16#32
  let v113 : BitVec 32 := Scalar.muli v106 c16_i32_75
  let v114 : Index := Scalar.indexCast v113
  ![v114.toNat]
def k0_off306 (k0_t27 : Fin k0_t27_loop.trips) (v121 : BitVec 32) : Fin 2 → Nat :=
  let c0_i32_52 : BitVec 32 := 0#32
  let c1_i32_54 : BitVec 32 := 1#32
  let arg35 : BitVec 32 := Scf.iv c0_i32_52 c1_i32_54 k0_t27
  let c16_i32_76 : BitVec 32 := 16#32
  let v118 : BitVec 32 := Scalar.muli arg35 c16_i32_76
  let c7_i32_77 : BitVec 32 := 7#32
  let v119 : BitVec 32 := Scalar.addi v118 c7_i32_77
  let v122 : Index := Scalar.indexCast v119
  let v123 : Index := Scalar.indexCast v121
  ![v122.toNat, v123.toNat]

def k0_chk136 (k0_t27 : Fin k0_t27_loop.trips) (v121 : BitVec 32) : Prop :=
  (∀ a, (k0_off306 k0_t27 v121) a + S1x16.size a ≤ S256x128.size a)
theorem k0_off306_inb : ∀ (k0_t27 : Fin k0_t27_loop.trips) (v121 : BitVec 32) (k0_hw136 : k0_chk136 k0_t27 v121), ∀ a, (k0_off306 k0_t27 v121) a + S1x16.size a ≤ S256x128.size a := fun k0_t27 v121 k0_hw136 => k0_hw136

def k0_off307 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_76 : BitVec 32 := 16#32
  let v118 : BitVec 32 := Scalar.muli arg35 c16_i32_76
  let c7_i32_77 : BitVec 32 := 7#32
  let v119 : BitVec 32 := Scalar.addi v118 c7_i32_77
  let c16_i32_78 : BitVec 32 := 16#32
  let v126 : BitVec 32 := Scalar.muli v119 c16_i32_78
  let v127 : Index := Scalar.indexCast v126
  ![v127.toNat]
def k0_off308 (k0_t27 : Fin k0_t27_loop.trips) (v134 : BitVec 32) : Fin 2 → Nat :=
  let c0_i32_52 : BitVec 32 := 0#32
  let c1_i32_54 : BitVec 32 := 1#32
  let arg35 : BitVec 32 := Scf.iv c0_i32_52 c1_i32_54 k0_t27
  let c16_i32_79 : BitVec 32 := 16#32
  let v131 : BitVec 32 := Scalar.muli arg35 c16_i32_79
  let c8_i32 : BitVec 32 := 8#32
  let v132 : BitVec 32 := Scalar.addi v131 c8_i32
  let v135 : Index := Scalar.indexCast v132
  let v136 : Index := Scalar.indexCast v134
  ![v135.toNat, v136.toNat]

def k0_chk137 (k0_t27 : Fin k0_t27_loop.trips) (v134 : BitVec 32) : Prop :=
  (∀ a, (k0_off308 k0_t27 v134) a + S1x16.size a ≤ S256x128.size a)
theorem k0_off308_inb : ∀ (k0_t27 : Fin k0_t27_loop.trips) (v134 : BitVec 32) (k0_hw137 : k0_chk137 k0_t27 v134), ∀ a, (k0_off308 k0_t27 v134) a + S1x16.size a ≤ S256x128.size a := fun k0_t27 v134 k0_hw137 => k0_hw137

def k0_off309 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_79 : BitVec 32 := 16#32
  let v131 : BitVec 32 := Scalar.muli arg35 c16_i32_79
  let c8_i32 : BitVec 32 := 8#32
  let v132 : BitVec 32 := Scalar.addi v131 c8_i32
  let c16_i32_80 : BitVec 32 := 16#32
  let v139 : BitVec 32 := Scalar.muli v132 c16_i32_80
  let v140 : Index := Scalar.indexCast v139
  ![v140.toNat]
def k0_off310 (k0_t27 : Fin k0_t27_loop.trips) (v147 : BitVec 32) : Fin 2 → Nat :=
  let c0_i32_52 : BitVec 32 := 0#32
  let c1_i32_54 : BitVec 32 := 1#32
  let arg35 : BitVec 32 := Scf.iv c0_i32_52 c1_i32_54 k0_t27
  let c16_i32_81 : BitVec 32 := 16#32
  let v144 : BitVec 32 := Scalar.muli arg35 c16_i32_81
  let c9_i32 : BitVec 32 := 9#32
  let v145 : BitVec 32 := Scalar.addi v144 c9_i32
  let v148 : Index := Scalar.indexCast v145
  let v149 : Index := Scalar.indexCast v147
  ![v148.toNat, v149.toNat]

def k0_chk138 (k0_t27 : Fin k0_t27_loop.trips) (v147 : BitVec 32) : Prop :=
  (∀ a, (k0_off310 k0_t27 v147) a + S1x16.size a ≤ S256x128.size a)
theorem k0_off310_inb : ∀ (k0_t27 : Fin k0_t27_loop.trips) (v147 : BitVec 32) (k0_hw138 : k0_chk138 k0_t27 v147), ∀ a, (k0_off310 k0_t27 v147) a + S1x16.size a ≤ S256x128.size a := fun k0_t27 v147 k0_hw138 => k0_hw138

def k0_off311 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_81 : BitVec 32 := 16#32
  let v144 : BitVec 32 := Scalar.muli arg35 c16_i32_81
  let c9_i32 : BitVec 32 := 9#32
  let v145 : BitVec 32 := Scalar.addi v144 c9_i32
  let c16_i32_82 : BitVec 32 := 16#32
  let v152 : BitVec 32 := Scalar.muli v145 c16_i32_82
  let v153 : Index := Scalar.indexCast v152
  ![v153.toNat]
def k0_off312 (k0_t27 : Fin k0_t27_loop.trips) (v160 : BitVec 32) : Fin 2 → Nat :=
  let c0_i32_52 : BitVec 32 := 0#32
  let c1_i32_54 : BitVec 32 := 1#32
  let arg35 : BitVec 32 := Scf.iv c0_i32_52 c1_i32_54 k0_t27
  let c16_i32_83 : BitVec 32 := 16#32
  let v157 : BitVec 32 := Scalar.muli arg35 c16_i32_83
  let c10_i32 : BitVec 32 := 10#32
  let v158 : BitVec 32 := Scalar.addi v157 c10_i32
  let v161 : Index := Scalar.indexCast v158
  let v162 : Index := Scalar.indexCast v160
  ![v161.toNat, v162.toNat]

def k0_chk139 (k0_t27 : Fin k0_t27_loop.trips) (v160 : BitVec 32) : Prop :=
  (∀ a, (k0_off312 k0_t27 v160) a + S1x16.size a ≤ S256x128.size a)
theorem k0_off312_inb : ∀ (k0_t27 : Fin k0_t27_loop.trips) (v160 : BitVec 32) (k0_hw139 : k0_chk139 k0_t27 v160), ∀ a, (k0_off312 k0_t27 v160) a + S1x16.size a ≤ S256x128.size a := fun k0_t27 v160 k0_hw139 => k0_hw139

def k0_off313 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_83 : BitVec 32 := 16#32
  let v157 : BitVec 32 := Scalar.muli arg35 c16_i32_83
  let c10_i32 : BitVec 32 := 10#32
  let v158 : BitVec 32 := Scalar.addi v157 c10_i32
  let c16_i32_84 : BitVec 32 := 16#32
  let v165 : BitVec 32 := Scalar.muli v158 c16_i32_84
  let v166 : Index := Scalar.indexCast v165
  ![v166.toNat]
def k0_off314 (k0_t27 : Fin k0_t27_loop.trips) (v173 : BitVec 32) : Fin 2 → Nat :=
  let c0_i32_52 : BitVec 32 := 0#32
  let c1_i32_54 : BitVec 32 := 1#32
  let arg35 : BitVec 32 := Scf.iv c0_i32_52 c1_i32_54 k0_t27
  let c16_i32_85 : BitVec 32 := 16#32
  let v170 : BitVec 32 := Scalar.muli arg35 c16_i32_85
  let c11_i32 : BitVec 32 := 11#32
  let v171 : BitVec 32 := Scalar.addi v170 c11_i32
  let v174 : Index := Scalar.indexCast v171
  let v175 : Index := Scalar.indexCast v173
  ![v174.toNat, v175.toNat]

def k0_chk140 (k0_t27 : Fin k0_t27_loop.trips) (v173 : BitVec 32) : Prop :=
  (∀ a, (k0_off314 k0_t27 v173) a + S1x16.size a ≤ S256x128.size a)
theorem k0_off314_inb : ∀ (k0_t27 : Fin k0_t27_loop.trips) (v173 : BitVec 32) (k0_hw140 : k0_chk140 k0_t27 v173), ∀ a, (k0_off314 k0_t27 v173) a + S1x16.size a ≤ S256x128.size a := fun k0_t27 v173 k0_hw140 => k0_hw140

def k0_off315 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_85 : BitVec 32 := 16#32
  let v170 : BitVec 32 := Scalar.muli arg35 c16_i32_85
  let c11_i32 : BitVec 32 := 11#32
  let v171 : BitVec 32 := Scalar.addi v170 c11_i32
  let c16_i32_86 : BitVec 32 := 16#32
  let v178 : BitVec 32 := Scalar.muli v171 c16_i32_86
  let v179 : Index := Scalar.indexCast v178
  ![v179.toNat]
def k0_off316 (k0_t27 : Fin k0_t27_loop.trips) (v186 : BitVec 32) : Fin 2 → Nat :=
  let c0_i32_52 : BitVec 32 := 0#32
  let c1_i32_54 : BitVec 32 := 1#32
  let arg35 : BitVec 32 := Scf.iv c0_i32_52 c1_i32_54 k0_t27
  let c16_i32_87 : BitVec 32 := 16#32
  let v183 : BitVec 32 := Scalar.muli arg35 c16_i32_87
  let c12_i32 : BitVec 32 := 12#32
  let v184 : BitVec 32 := Scalar.addi v183 c12_i32
  let v187 : Index := Scalar.indexCast v184
  let v188 : Index := Scalar.indexCast v186
  ![v187.toNat, v188.toNat]

def k0_chk141 (k0_t27 : Fin k0_t27_loop.trips) (v186 : BitVec 32) : Prop :=
  (∀ a, (k0_off316 k0_t27 v186) a + S1x16.size a ≤ S256x128.size a)
theorem k0_off316_inb : ∀ (k0_t27 : Fin k0_t27_loop.trips) (v186 : BitVec 32) (k0_hw141 : k0_chk141 k0_t27 v186), ∀ a, (k0_off316 k0_t27 v186) a + S1x16.size a ≤ S256x128.size a := fun k0_t27 v186 k0_hw141 => k0_hw141

def k0_off317 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_87 : BitVec 32 := 16#32
  let v183 : BitVec 32 := Scalar.muli arg35 c16_i32_87
  let c12_i32 : BitVec 32 := 12#32
  let v184 : BitVec 32 := Scalar.addi v183 c12_i32
  let c16_i32_88 : BitVec 32 := 16#32
  let v191 : BitVec 32 := Scalar.muli v184 c16_i32_88
  let v192 : Index := Scalar.indexCast v191
  ![v192.toNat]
def k0_off318 (k0_t27 : Fin k0_t27_loop.trips) (v199 : BitVec 32) : Fin 2 → Nat :=
  let c0_i32_52 : BitVec 32 := 0#32
  let c1_i32_54 : BitVec 32 := 1#32
  let arg35 : BitVec 32 := Scf.iv c0_i32_52 c1_i32_54 k0_t27
  let c16_i32_89 : BitVec 32 := 16#32
  let v196 : BitVec 32 := Scalar.muli arg35 c16_i32_89
  let c13_i32 : BitVec 32 := 13#32
  let v197 : BitVec 32 := Scalar.addi v196 c13_i32
  let v200 : Index := Scalar.indexCast v197
  let v201 : Index := Scalar.indexCast v199
  ![v200.toNat, v201.toNat]

def k0_chk142 (k0_t27 : Fin k0_t27_loop.trips) (v199 : BitVec 32) : Prop :=
  (∀ a, (k0_off318 k0_t27 v199) a + S1x16.size a ≤ S256x128.size a)
theorem k0_off318_inb : ∀ (k0_t27 : Fin k0_t27_loop.trips) (v199 : BitVec 32) (k0_hw142 : k0_chk142 k0_t27 v199), ∀ a, (k0_off318 k0_t27 v199) a + S1x16.size a ≤ S256x128.size a := fun k0_t27 v199 k0_hw142 => k0_hw142

def k0_off319 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_89 : BitVec 32 := 16#32
  let v196 : BitVec 32 := Scalar.muli arg35 c16_i32_89
  let c13_i32 : BitVec 32 := 13#32
  let v197 : BitVec 32 := Scalar.addi v196 c13_i32
  let c16_i32_90 : BitVec 32 := 16#32
  let v204 : BitVec 32 := Scalar.muli v197 c16_i32_90
  let v205 : Index := Scalar.indexCast v204
  ![v205.toNat]
def k0_off320 (k0_t27 : Fin k0_t27_loop.trips) (v212 : BitVec 32) : Fin 2 → Nat :=
  let c0_i32_52 : BitVec 32 := 0#32
  let c1_i32_54 : BitVec 32 := 1#32
  let arg35 : BitVec 32 := Scf.iv c0_i32_52 c1_i32_54 k0_t27
  let c16_i32_91 : BitVec 32 := 16#32
  let v209 : BitVec 32 := Scalar.muli arg35 c16_i32_91
  let c14_i32 : BitVec 32 := 14#32
  let v210 : BitVec 32 := Scalar.addi v209 c14_i32
  let v213 : Index := Scalar.indexCast v210
  let v214 : Index := Scalar.indexCast v212
  ![v213.toNat, v214.toNat]

def k0_chk143 (k0_t27 : Fin k0_t27_loop.trips) (v212 : BitVec 32) : Prop :=
  (∀ a, (k0_off320 k0_t27 v212) a + S1x16.size a ≤ S256x128.size a)
theorem k0_off320_inb : ∀ (k0_t27 : Fin k0_t27_loop.trips) (v212 : BitVec 32) (k0_hw143 : k0_chk143 k0_t27 v212), ∀ a, (k0_off320 k0_t27 v212) a + S1x16.size a ≤ S256x128.size a := fun k0_t27 v212 k0_hw143 => k0_hw143

def k0_off321 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_91 : BitVec 32 := 16#32
  let v209 : BitVec 32 := Scalar.muli arg35 c16_i32_91
  let c14_i32 : BitVec 32 := 14#32
  let v210 : BitVec 32 := Scalar.addi v209 c14_i32
  let c16_i32_92 : BitVec 32 := 16#32
  let v217 : BitVec 32 := Scalar.muli v210 c16_i32_92
  let v218 : Index := Scalar.indexCast v217
  ![v218.toNat]
def k0_off322 (k0_t27 : Fin k0_t27_loop.trips) (v225 : BitVec 32) : Fin 2 → Nat :=
  let c0_i32_52 : BitVec 32 := 0#32
  let c1_i32_54 : BitVec 32 := 1#32
  let arg35 : BitVec 32 := Scf.iv c0_i32_52 c1_i32_54 k0_t27
  let c16_i32_93 : BitVec 32 := 16#32
  let v222 : BitVec 32 := Scalar.muli arg35 c16_i32_93
  let c15_i32 : BitVec 32 := 15#32
  let v223 : BitVec 32 := Scalar.addi v222 c15_i32
  let v226 : Index := Scalar.indexCast v223
  let v227 : Index := Scalar.indexCast v225
  ![v226.toNat, v227.toNat]

def k0_chk144 (k0_t27 : Fin k0_t27_loop.trips) (v225 : BitVec 32) : Prop :=
  (∀ a, (k0_off322 k0_t27 v225) a + S1x16.size a ≤ S256x128.size a)
theorem k0_off322_inb : ∀ (k0_t27 : Fin k0_t27_loop.trips) (v225 : BitVec 32) (k0_hw144 : k0_chk144 k0_t27 v225), ∀ a, (k0_off322 k0_t27 v225) a + S1x16.size a ≤ S256x128.size a := fun k0_t27 v225 k0_hw144 => k0_hw144

def k0_off323 (k0_t27 : Fin k0_t27_loop.trips) : Fin 1 → Nat :=
  let c0_i32_52 : BitVec 32 := 0#32
  let c1_i32_54 : BitVec 32 := 1#32
  let arg35 : BitVec 32 := Scf.iv c0_i32_52 c1_i32_54 k0_t27
  let c16_i32_93 : BitVec 32 := 16#32
  let v222 : BitVec 32 := Scalar.muli arg35 c16_i32_93
  let c15_i32 : BitVec 32 := 15#32
  let v223 : BitVec 32 := Scalar.addi v222 c15_i32
  let c16_i32_94 : BitVec 32 := 16#32
  let v230 : BitVec 32 := Scalar.muli v223 c16_i32_94
  let v231 : Index := Scalar.indexCast v230
  ![v231.toNat]
def k0_off324 (i : grid0.Coords) (k0_t25 : Fin k0_t25_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_39 : BitVec 32 := 0#32
  let c1_i32_41 : BitVec 32 := 1#32
  let arg34 : BitVec 32 := Scf.iv c0_i32_39 c1_i32_41 k0_t25
  let c256_i32 : BitVec 32 := 256#32
  let v12 : BitVec 32 := Scalar.muli arg34 c256_i32
  let v13 : BitVec 32 := Scalar.addi v2 v12
  let c16_i32_56 : BitVec 32 := 16#32
  let v18 : BitVec 32 := Scalar.muli v13 c16_i32_56
  ![v18.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S62x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S40x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S40x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S40x40 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S40x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S40x40 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S40x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x40 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S1x2048 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x62 : Shape := ⟨2, ![16384, 62]⟩
abbrev S16384 : Shape := ⟨1, ![16384]⟩
abbrev S1000x5 : Shape := ⟨2, ![1000, 5]⟩
abbrev S100000x8 : Shape := ⟨2, ![100000, 8]⟩
abbrev S26x8 : Shape := ⟨2, ![26, 8]⟩
abbrev S40x128 : Shape := ⟨2, ![40, 128]⟩
abbrev S40 : Shape := ⟨1, ![40]⟩
abbrev S40x40 : Shape := ⟨2, ![40, 40]⟩
abbrev S1x40 : Shape := ⟨2, ![1, 40]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x5 : Shape := ⟨2, ![16384, 5]⟩
abbrev S16384x8 : Shape := ⟨2, ![16384, 8]⟩
abbrev S16384x66 : Shape := ⟨2, ![16384, 66]⟩
abbrev S16384x128 : Shape := ⟨2, ![16384, 128]⟩
abbrev S128x40 : Shape := ⟨2, ![128, 40]⟩
abbrev S16384x40 : Shape := ⟨2, ![16384, 40]⟩
abbrev S40x1 : Shape := ⟨2, ![40, 1]⟩

abbrev nBuf : Space → Nat
  | .hbm => 265
  | .vmem => 0
  | .smem => 0
  | _ => 0

abbrev hbmTy0_0 (i : Nat) : BufTy := match i % 128 with
  | 0 => ⟨S16384x62, .f32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S16384, .i32⟩
  | 9 => ⟨S16384, .i32⟩
  | 10 => ⟨S1000x5, .f32⟩
  | 11 => ⟨S1000x5, .f32⟩
  | 12 => ⟨S100000x8, .f32⟩
  | 13 => ⟨S100000x8, .f32⟩
  | 14 => ⟨S100000x8, .f32⟩
  | 15 => ⟨S100000x8, .f32⟩
  | 16 => ⟨S100000x8, .f32⟩
  | 17 => ⟨S100000x8, .f32⟩
  | 18 => ⟨S26x8, .f32⟩
  | 19 => ⟨S40x128, .f32⟩
  | 20 => ⟨S40, .f32⟩
  | 21 => ⟨S40x40, .f32⟩
  | 22 => ⟨S40, .f32⟩
  | 23 => ⟨S40x40, .f32⟩
  | 24 => ⟨S40, .f32⟩
  | 25 => ⟨S1x40, .f32⟩
  | 26 => ⟨S1, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x5, .f32⟩
  | 46 => ⟨S16384x5, .i1⟩
  | 47 => ⟨S_, .f32⟩
  | 48 => ⟨S16384x5, .f32⟩
  | 49 => ⟨S16384x5, .f32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S1, .i32⟩
  | 59 => ⟨S_, .i32⟩
  | 60 => ⟨S16384x1, .i32⟩
  | 61 => ⟨S16384x1, .i1⟩
  | 62 => ⟨S1x1, .i32⟩
  | 63 => ⟨S16384x1, .i32⟩
  | 64 => ⟨S16384x1, .i1⟩
  | 65 => ⟨S16384x1, .i1⟩
  | 66 => ⟨S_, .i1⟩
  | 67 => ⟨S16384, .i1⟩
  | 68 => ⟨S16384x5, .f32⟩
  | 69 => ⟨S16384x5, .i1⟩
  | 70 => ⟨S_, .f32⟩
  | 71 => ⟨S16384x5, .f32⟩
  | 72 => ⟨S16384x5, .f32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x8, .f32⟩
  | 92 => ⟨S16384x8, .i1⟩
  | 93 => ⟨S_, .f32⟩
  | 94 => ⟨S16384x8, .f32⟩
  | 95 => ⟨S16384x8, .f32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S1, .i32⟩
  | 105 => ⟨S_, .i32⟩
  | 106 => ⟨S16384x1, .i32⟩
  | 107 => ⟨S16384x1, .i1⟩
  | 108 => ⟨S1x1, .i32⟩
  | 109 => ⟨S16384x1, .i32⟩
  | 110 => ⟨S16384x1, .i1⟩
  | 111 => ⟨S16384x1, .i1⟩
  | 112 => ⟨S_, .i1⟩
  | 113 => ⟨S16384, .i1⟩
  | 114 => ⟨S16384x8, .f32⟩
  | 115 => ⟨S16384x8, .i1⟩
  | 116 => ⟨S_, .f32⟩
  | 117 => ⟨S16384x8, .f32⟩
  | 118 => ⟨S16384x8, .f32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S1, .i32⟩
  | _ => ⟨S16384x62, .f32⟩

abbrev hbmTy0_1 (i : Nat) : BufTy := match i % 128 with
  | 0 => ⟨S_, .i32⟩
  | 1 => ⟨S16384x1, .i32⟩
  | 2 => ⟨S16384x1, .i1⟩
  | 3 => ⟨S1x1, .i32⟩
  | 4 => ⟨S16384x1, .i32⟩
  | 5 => ⟨S16384x1, .i1⟩
  | 6 => ⟨S16384x1, .i1⟩
  | 7 => ⟨S_, .i1⟩
  | 8 => ⟨S16384, .i1⟩
  | 9 => ⟨S16384x8, .f32⟩
  | 10 => ⟨S16384x8, .i1⟩
  | 11 => ⟨S_, .f32⟩
  | 12 => ⟨S16384x8, .f32⟩
  | 13 => ⟨S16384x8, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x8, .f32⟩
  | 33 => ⟨S16384x8, .i1⟩
  | 34 => ⟨S_, .f32⟩
  | 35 => ⟨S16384x8, .f32⟩
  | 36 => ⟨S16384x8, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S1, .i32⟩
  | 46 => ⟨S_, .i32⟩
  | 47 => ⟨S16384x1, .i32⟩
  | 48 => ⟨S16384x1, .i1⟩
  | 49 => ⟨S1x1, .i32⟩
  | 50 => ⟨S16384x1, .i32⟩
  | 51 => ⟨S16384x1, .i1⟩
  | 52 => ⟨S16384x1, .i1⟩
  | 53 => ⟨S_, .i1⟩
  | 54 => ⟨S16384, .i1⟩
  | 55 => ⟨S16384x8, .f32⟩
  | 56 => ⟨S16384x8, .i1⟩
  | 57 => ⟨S_, .f32⟩
  | 58 => ⟨S16384x8, .f32⟩
  | 59 => ⟨S16384x8, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x8, .f32⟩
  | 79 => ⟨S16384x8, .i1⟩
  | 80 => ⟨S_, .f32⟩
  | 81 => ⟨S16384x8, .f32⟩
  | 82 => ⟨S16384x8, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x8, .f32⟩
  | 102 => ⟨S16384x8, .i1⟩
  | 103 => ⟨S_, .f32⟩
  | 104 => ⟨S16384x8, .f32⟩
  | 105 => ⟨S16384x8, .f32⟩
  | 106 => ⟨S16384x66, .f32⟩
  | 107 => ⟨S16384x128, .f32⟩
  | 108 => ⟨S128x40, .f32⟩
  | 109 => ⟨S16384x40, .f32⟩
  | 110 => ⟨S1x40, .f32⟩
  | 111 => ⟨S16384x40, .f32⟩
  | 112 => ⟨S16384x40, .f32⟩
  | 113 => ⟨S_, .f32⟩
  | 114 => ⟨S16384x40, .f32⟩
  | 115 => ⟨S16384x40, .f32⟩
  | 116 => ⟨S40x40, .f32⟩
  | 117 => ⟨S16384x40, .f32⟩
  | 118 => ⟨S1x40, .f32⟩
  | 119 => ⟨S16384x40, .f32⟩
  | 120 => ⟨S16384x40, .f32⟩
  | 121 => ⟨S_, .f32⟩
  | 122 => ⟨S16384x40, .f32⟩
  | 123 => ⟨S16384x40, .f32⟩
  | 124 => ⟨S40x40, .f32⟩
  | 125 => ⟨S16384x40, .f32⟩
  | 126 => ⟨S1x40, .f32⟩
  | 127 => ⟨S16384x40, .f32⟩
  | _ => ⟨S16384x62, .f32⟩

abbrev hbmTy0_2 (i : Nat) : BufTy := match i % 128 with
  | 0 => ⟨S16384x40, .f32⟩
  | 1 => ⟨S_, .f32⟩
  | 2 => ⟨S16384x40, .f32⟩
  | 3 => ⟨S16384x40, .f32⟩
  | 4 => ⟨S40x1, .f32⟩
  | 5 => ⟨S16384x1, .f32⟩
  | 6 => ⟨S1x1, .f32⟩
  | 7 => ⟨S16384x1, .f32⟩
  | 8 => ⟨S16384x1, .f32⟩
  | _ => ⟨S16384x62, .f32⟩

abbrev hbmTy (i : Nat) : BufTy := match i / 128 with
  | 0 => hbmTy0_0 i
  | 1 => hbmTy0_1 i
  | 2 => hbmTy0_2 i
  | _ => ⟨S16384x62, .f32⟩

abbrev bufTy : (tb : Table) → Fin (tcTables nBuf tb) → BufTy
  | .hbm, ⟨i, _⟩ => hbmTy i
  | _, _ => ⟨S16384x62, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v0 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v1 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v2 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v3 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v4 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v5 : Ref sig .tc := ⟨.hbm, 164, rfl⟩
abbrev main_call6_c : Ref sig .tc := ⟨.hbm, 165, rfl⟩
abbrev main_call6_v0 : Ref sig .tc := ⟨.hbm, 166, rfl⟩
abbrev main_call6_v1 : Ref sig .tc := ⟨.hbm, 167, rfl⟩
abbrev main_call6_c_0 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_v5 : Ref sig .tc := ⟨.hbm, 172, rfl⟩
abbrev main_call6_c_1 : Ref sig .tc := ⟨.hbm, 173, rfl⟩
abbrev main_call6_c_2 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_call6_v11 : Ref sig .tc := ⟨.hbm, 180, rfl⟩
abbrev main_call6_c_3 : Ref sig .tc := ⟨.hbm, 181, rfl⟩
abbrev main_call6_v12 : Ref sig .tc := ⟨.hbm, 182, rfl⟩
abbrev main_call6_v13 : Ref sig .tc := ⟨.hbm, 183, rfl⟩
abbrev main_call6_v14 : Ref sig .tc := ⟨.hbm, 184, rfl⟩
abbrev main_call6_cst : Ref sig .tc := ⟨.hbm, 185, rfl⟩
abbrev main_call6_v15 : Ref sig .tc := ⟨.hbm, 186, rfl⟩
abbrev main_v6 : Ref sig .tc := ⟨.hbm, 187, rfl⟩
abbrev main_call7_c : Ref sig .tc := ⟨.hbm, 188, rfl⟩
abbrev main_call7_v0 : Ref sig .tc := ⟨.hbm, 189, rfl⟩
abbrev main_call7_v1 : Ref sig .tc := ⟨.hbm, 190, rfl⟩
abbrev main_call7_c_0 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_call7_v5 : Ref sig .tc := ⟨.hbm, 195, rfl⟩
abbrev main_call7_c_1 : Ref sig .tc := ⟨.hbm, 196, rfl⟩
abbrev main_call7_c_2 : Ref sig .tc := ⟨.hbm, 197, rfl⟩
abbrev main_call7_v6 : Ref sig .tc := ⟨.hbm, 198, rfl⟩
abbrev main_call7_v7 : Ref sig .tc := ⟨.hbm, 199, rfl⟩
abbrev main_call7_v8 : Ref sig .tc := ⟨.hbm, 200, rfl⟩
abbrev main_call7_v9 : Ref sig .tc := ⟨.hbm, 201, rfl⟩
abbrev main_call7_v10 : Ref sig .tc := ⟨.hbm, 202, rfl⟩
abbrev main_call7_v11 : Ref sig .tc := ⟨.hbm, 203, rfl⟩
abbrev main_call7_c_3 : Ref sig .tc := ⟨.hbm, 204, rfl⟩
abbrev main_call7_v12 : Ref sig .tc := ⟨.hbm, 205, rfl⟩
abbrev main_call7_v13 : Ref sig .tc := ⟨.hbm, 206, rfl⟩
abbrev main_call7_v14 : Ref sig .tc := ⟨.hbm, 207, rfl⟩
abbrev main_call7_cst : Ref sig .tc := ⟨.hbm, 208, rfl⟩
abbrev main_call7_v15 : Ref sig .tc := ⟨.hbm, 209, rfl⟩
abbrev main_v7 : Ref sig .tc := ⟨.hbm, 210, rfl⟩
abbrev main_call8_c : Ref sig .tc := ⟨.hbm, 211, rfl⟩
abbrev main_call8_v0 : Ref sig .tc := ⟨.hbm, 212, rfl⟩
abbrev main_call8_v1 : Ref sig .tc := ⟨.hbm, 213, rfl⟩
abbrev main_call8_c_0 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_call8_v5 : Ref sig .tc := ⟨.hbm, 218, rfl⟩
abbrev main_call8_c_1 : Ref sig .tc := ⟨.hbm, 219, rfl⟩
abbrev main_call8_c_2 : Ref sig .tc := ⟨.hbm, 220, rfl⟩
abbrev main_call8_v6 : Ref sig .tc := ⟨.hbm, 221, rfl⟩
abbrev main_call8_v7 : Ref sig .tc := ⟨.hbm, 222, rfl⟩
abbrev main_call8_v8 : Ref sig .tc := ⟨.hbm, 223, rfl⟩
abbrev main_call8_v9 : Ref sig .tc := ⟨.hbm, 224, rfl⟩
abbrev main_call8_v10 : Ref sig .tc := ⟨.hbm, 225, rfl⟩
abbrev main_call8_v11 : Ref sig .tc := ⟨.hbm, 226, rfl⟩
abbrev main_call8_c_3 : Ref sig .tc := ⟨.hbm, 227, rfl⟩
abbrev main_call8_v12 : Ref sig .tc := ⟨.hbm, 228, rfl⟩
abbrev main_call8_v13 : Ref sig .tc := ⟨.hbm, 229, rfl⟩
abbrev main_call8_v14 : Ref sig .tc := ⟨.hbm, 230, rfl⟩
abbrev main_call8_cst : Ref sig .tc := ⟨.hbm, 231, rfl⟩
abbrev main_call8_v15 : Ref sig .tc := ⟨.hbm, 232, rfl⟩
abbrev main_v8 : Ref sig .tc := ⟨.hbm, 233, rfl⟩
abbrev main_v9 : Ref sig .tc := ⟨.hbm, 234, rfl⟩
abbrev main_v10 : Ref sig .tc := ⟨.hbm, 235, rfl⟩
abbrev main_v11 : Ref sig .tc := ⟨.hbm, 236, rfl⟩
abbrev main_v12 : Ref sig .tc := ⟨.hbm, 237, rfl⟩
abbrev main_v13 : Ref sig .tc := ⟨.hbm, 238, rfl⟩
abbrev main_v14 : Ref sig .tc := ⟨.hbm, 239, rfl⟩
abbrev main_v15 : Ref sig .tc := ⟨.hbm, 240, rfl⟩
abbrev main_call9_cst : Ref sig .tc := ⟨.hbm, 241, rfl⟩
abbrev main_call9_v0 : Ref sig .tc := ⟨.hbm, 242, rfl⟩
abbrev main_v16 : Ref sig .tc := ⟨.hbm, 243, rfl⟩
abbrev main_v17 : Ref sig .tc := ⟨.hbm, 244, rfl⟩
abbrev main_v18 : Ref sig .tc := ⟨.hbm, 245, rfl⟩
abbrev main_v19 : Ref sig .tc := ⟨.hbm, 246, rfl⟩
abbrev main_v20 : Ref sig .tc := ⟨.hbm, 247, rfl⟩
abbrev main_v21 : Ref sig .tc := ⟨.hbm, 248, rfl⟩
abbrev main_call10_cst : Ref sig .tc := ⟨.hbm, 249, rfl⟩
abbrev main_call10_v0 : Ref sig .tc := ⟨.hbm, 250, rfl⟩
abbrev main_v22 : Ref sig .tc := ⟨.hbm, 251, rfl⟩
abbrev main_v23 : Ref sig .tc := ⟨.hbm, 252, rfl⟩
abbrev main_v24 : Ref sig .tc := ⟨.hbm, 253, rfl⟩
abbrev main_v25 : Ref sig .tc := ⟨.hbm, 254, rfl⟩
abbrev main_v26 : Ref sig .tc := ⟨.hbm, 255, rfl⟩
abbrev main_v27 : Ref sig .tc := ⟨.hbm, 256, rfl⟩
abbrev main_call11_cst : Ref sig .tc := ⟨.hbm, 257, rfl⟩
abbrev main_call11_v0 : Ref sig .tc := ⟨.hbm, 258, rfl⟩
abbrev main_v28 : Ref sig .tc := ⟨.hbm, 259, rfl⟩
abbrev main_v29 : Ref sig .tc := ⟨.hbm, 260, rfl⟩
abbrev main_v30 : Ref sig .tc := ⟨.hbm, 261, rfl⟩
abbrev main_v31 : Ref sig .tc := ⟨.hbm, 262, rfl⟩
abbrev main_v32 : Ref sig .tc := ⟨.hbm, 263, rfl⟩
abbrev main_v33 : Ref sig .tc := ⟨.hbm, 264, rfl⟩

abbrev nD : Nat := 1
abbrev τ : Topo := Topo.v7x

variable {F : FTy → Type} [FloatOps F]
-- ==== Proof.Lanes.lean ====
/-
  One table's work on one tile, written once. The kernel prints the same text nine times, once for each table, under
  nine sets of names; `chunk` below is that text with the identifier array, the table, the output and the two copies'
  semaphores as parameters, the unrolled sixteen lanes of the extraction loop written by `lanesFrom`. Each printed loop
  IS an instance of it (`kernel_eq`), by unfolding.
-/
module

public import proofs.«01_k».proof.Defs
public import proofs.«01_k».proof.Proof.Gen.KernelIdeal
public import proofs.«01_k».proof.Proof.Gen.KernelIdeal.Skeleton
public import Idealize.ShloMosaic.Lib.SparseCore.Ops

@[expose] public section

noncomputable section

namespace Cert.Proof.Tile

open Cert.KernelIdeal Cert.KernelIdeal.Gen
open Idealize.ShloMosaic Idealize.SL.Sem

variable {F : FTy → Type} [FloatOps F]

/-- The programs of the tile at grid point `i`. -/
abbrev TP (F : FTy → Type) (i : grid0.Coords) (α : Type) : Type 1 :=
  Prog (TpuEff nD τ sig (Elt F) Λ₀ (.scVector ((i 0).castLE hcore0) ((i 1).castLE hsub0))) α

/-- Where lane `l` of trip `t` reads its record: row `16 t + l` of the gathered rows, from lane `v`. -/
def rowOff (t : Fin k0_t3_loop.trips) (l : Nat) (v : BitVec 32) : Fin 2 → Nat :=
  ![(Scalar.indexCast (Scalar.addi (Scalar.muli (Scf.iv 0#32 1#32 t) 16#32) (BitVec.ofNat 32 l))).toNat, (Scalar.indexCast v).toNat]

/-- What the kernel checks of `v` before the load at `rowOff`. -/
def rowChk (t : Fin k0_t3_loop.trips) (l : Nat) (v : BitVec 32) : Prop :=
  (∀ a, rowOff t l v a + S1x16.size a ≤ S256x128.size a)

/-- Whether the check passes, as the kernel decides it. -/
instance rowChk.dec (t : Fin k0_t3_loop.trips) (l : Nat) (v : BitVec 32) : Decidable (rowChk t l v) :=
  decidable_of_iff' _ (Iff.of_eq (rowChk.eq_1 t l v))

/-- Where lane `l` of trip `t` puts its record: sixteen elements from `(16 t + l) * 16`. -/
def recOff (t : Fin k0_t3_loop.trips) (l : Nat) : Fin 1 → Nat :=
  ![(Scalar.indexCast (Scalar.muli (Scalar.addi (Scalar.muli (Scf.iv 0#32 1#32 t) 16#32) (BitVec.ofNat 32 l)) 16#32)).toNat]

theorem slices_lane (l : Nat) (h : l < 16) : S16.Slices ![l] S1 :=
  ⟨rfl, fun a => by
    match a with
    | 0 => show l + 1 ≤ 16; omega⟩

theorem trips3 : k0_t3_loop.trips = 16 := by decide

theorem iv_eq (t : Nat) : (Scf.iv 0#32 1#32 t : BitVec 32) = BitVec.ofNat 32 t := by
  simp [Scf.iv]

theorem recOff_val (t : Fin k0_t3_loop.trips) (l : Nat) (hl : l < 16) : recOff t l = ![(16 * t.val + l) * 16] := by
  have ht : t.val < 16 := trips3 ▸ t.isLt
  unfold recOff
  rw [iv_eq]
  congr 1
  simp [Scalar.indexCast, Scalar.muli, Scalar.addi, IntOp.muli, IntOp.addi, BitVec.toNat_ofNat]
  omega

theorem recOff_inb (t : Fin k0_t3_loop.trips) (l : Nat) (hl : l < 16) : ∀ a, recOff t l a + S16.size a ≤ S4096.size a := by
  have ht : t.val < 16 := trips3 ▸ t.isLt
  intro a
  rw [recOff_val t l hl]
  match a with
  | 0 => show (16 * t.val + l) * 16 + 16 ≤ 4096; omega

section Programs

variable (i : grid0.Coords)
  (ids : Memref sig .scVector .vmem S256 .i32) (hids : ids.IsWhole) (rid : Memref sig .scVector .vmem S256 .i32) (hrid : rid.IsWhole)
  (rows : Memref sig .scVector .vmem S256x128 .f32) (hrows : rows.IsWhole) (obuf : Memref sig .scVector .vmem S4096 .f32) (hobuf : obuf.IsWhole)

/-- One lane of the extraction: the record's first lane read off the vector `w`, checked, the record loaded and stored. -/
def lane (t : Fin k0_t3_loop.trips) (w : IVec S16 32) (l : Nat) (hl : l < 16) : TP F i PUnit := do
  let v : BitVec 32 := extractAt ![0] (extractStridedSlice S1 ![l] w (slices_lane l hl)) inpos_S1_p0
  have hv : rowChk t l v := (← Prog.lift (TpuEff.assume (rowChk t l v) (rowChk.dec t l v))).down
  let x : Vec F S1x16 .f32 ← Prog.lift (.load rows (Rect.unit (s := S256x128) (rowOff t l v) S1x16.size hv).toLoadRect (View.loadsAt_vmem h_S1x16))
  let _y : Vec F S16 .f32 ← Prog.lift (.load obuf (Rect.unit (s := S4096) (recOff t l) S16.size (recOff_inb t l hl)).toLoadRect (View.loadsAt_vmem h_S16))
  Prog.lift (.store obuf (Rect.unit (s := S4096) (recOff t l) S16.size (recOff_inb t l hl)) (k0_pay5 x) Finset.univ (View.stores_vmem_bits_univ h_S16 rfl) (.inl rfl))

/-- The lanes from `16 - n` on. -/
def lanesFrom (t : Fin k0_t3_loop.trips) (w : IVec S16 32) : (n : Nat) → n ≤ 16 → TP F i PUnit
  | 0, _ => pure ⟨⟩
  | n + 1, h => lane i rows obuf t w (15 - n) (by omega) >>= fun _ => lanesFrom t w n (by omega)

/-- A trip of the extraction loop: sixteen identifiers loaded, their records' first lanes computed, the sixteen lanes. -/
def extract (t : Fin k0_t3_loop.trips) : TP F i PUnit := do
  let v21 : Vec F S16 .i32 ← Prog.lift (.load ids (Rect.unit (s := S256) (k0_off3 t) S16.size (k0_off3_inb t)).toLoadRect (View.loadsAt_vmem h_S16))
  lanesFrom i rows obuf t (k0_pay3 v21) 16 (Nat.le_refl _)

/-- A trip of the loop that turns identifiers into row numbers. -/
def rowIds (t : Fin k0_t2_loop.trips) : TP F i PUnit := do
  let v21 : Vec F S16 .i32 ← Prog.lift (.load ids (Rect.unit (s := S256) (k0_off2 t) S16.size (k0_off2_inb t)).toLoadRect (View.loadsAt_vmem h_S16))
  let _v : Vec F S16 .i32 ← Prog.lift (.load rid (Rect.unit (s := S256) (k0_off2 t) S16.size (k0_off2_inb t)).toLoadRect (View.loadsAt_vmem h_S16))
  Prog.lift (.store rid (Rect.unit (s := S256) (k0_off2 t) S16.size (k0_off2_inb t)) (k0_pay1 v21) Finset.univ (View.stores_vmem_bits_univ h_S16 rfl) (.inl rfl))

variable (gs : DmaSems sig S_)
  (idA : Memref sig .scVector .hbm S16384 .i32) {R : Nat} (tab : Memref sig .scVector .hbm ⟨2, ![R, 128]⟩ .f32) (hg : Shape.Gathers ⟨2, ![R, 128]⟩ 0 S256x128) (hr : Shape.StreamRows ⟨2, ![R, 128]⟩ 0)
  (hin : ∀ a, (![0, 0] : Fin 2 → Nat) a + (⟨2, ![R, 128]⟩ : Shape).size a ≤ (⟨2, ![R, 128]⟩ : Shape).size a)
  (out : Memref sig .scVector .hbm S262144 .f32) (sA sB : DmaSems sig S_)

/-- One chunk of 256 identifiers of one table: fetched, turned into row numbers, their rows gathered, the records picked
    out of the rows, and written back. -/
def chunk (t : Fin k0_t1_loop.trips) : TP F i PUnit := do
  Prog.lift (.enqueueDma (idA.slice (Rect.unit (s := S16384) (k0_off1 i t) S256.size (k0_off1_inb i t)) (fun _ => rfl)) (.here ids) (.dma sA.sem)
    (View.wordExact_bits rfl) hids.wordExact ⟨Or.inl rfl, trivial⟩)
  Prog.lift (.waitDma2 sA.sem (idA.slice (Rect.unit (s := S16384) (k0_off1 i t) S256.size (k0_off1_inb i t)) (fun _ => rfl)) ids (View.wordExact_bits rfl) hids.wordExact)
  Scf.Loop.for k0_t2_loop k0_t2_ok ⟨⟩ (fun t _ => rowIds i ids rid t)
  SparseCore.enqueueIndirectGather rfl (tab.slice (Rect.unit (s := ⟨2, ![R, 128]⟩) ![0, 0] (⟨2, ![R, 128]⟩ : Shape).size hin) (fun _ => rfl)) rows hg rid rfl gs.sem
    (View.wordExact_bits rfl) rfl (Or.inl rfl) hr
  SparseCore.waitIndirectGather gs.sem (tab.slice (Rect.unit (s := ⟨2, ![R, 128]⟩) ![0, 0] (⟨2, ![R, 128]⟩ : Shape).size hin) (fun _ => rfl)) rows
    (View.wordExact_bits rfl) hrows.wordExact
  Scf.Loop.for k0_t3_loop k0_t3_ok ⟨⟩ (fun t _ => extract i ids rows obuf t)
  Prog.lift (.enqueueDma obuf (.here (out.slice (Rect.unit (s := S262144) (k0_off36 i t) S4096.size (k0_off36_inb i t)) (fun _ => rfl))) (.dma sB.sem)
    hobuf.wordExact (View.wordExact_bits rfl) ⟨Or.inl rfl, trivial⟩)
  Prog.lift (.waitDma2 sB.sem obuf (out.slice (Rect.unit (s := S262144) (k0_off36 i t) S4096.size (k0_off36_inb i t)) (fun _ => rfl)) hobuf.wordExact (View.wordExact_bits rfl))

/-- One table's work on the tile: its two chunks. -/
def table : TP F i PUnit :=
  Scf.Loop.for k0_t1_loop k0_t1_ok ⟨⟩ (fun t _ => chunk i ids hids rid rows hrows obuf hobuf gs idA tab hg hr hin out sA sB t)

end Programs

set_option maxRecDepth 65536 in
set_option maxHeartbeats 4000000 in
/-- The first seven tables. -/
theorem part46_eq (i : grid0.Coords) (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S16384 .i32) (harg5 : arg5.IsWhole) (arg6 : Memref sig .scVector .hbm S16384 .i32) (harg6 : arg6.IsWhole) (arg7 : Memref sig .scVector .hbm S16384 .i32) (harg7 : arg7.IsWhole) (arg8 : Memref sig .scVector .hbm S16384 .i32) (harg8 : arg8.IsWhole) (arg9 : Memref sig .scVector .hbm S16384 .i32) (harg9 : arg9.IsWhole) (arg10 : Memref sig .scVector .hbm S16384 .i32) (harg10 : arg10.IsWhole) (arg11 : Memref sig .scVector .hbm S125x128 .f32) (harg11 : arg11.IsWhole) (arg12 : Memref sig .scVector .hbm S125x128 .f32) (harg12 : arg12.IsWhole) (arg13 : Memref sig .scVector .hbm S12500x128 .f32) (harg13 : arg13.IsWhole) (arg14 : Memref sig .scVector .hbm S12500x128 .f32) (harg14 : arg14.IsWhole) (arg15 : Memref sig .scVector .hbm S12500x128 .f32) (harg15 : arg15.IsWhole) (arg16 : Memref sig .scVector .hbm S12500x128 .f32) (harg16 : arg16.IsWhole) (arg17 : Memref sig .scVector .hbm S12500x128 .f32) (harg17 : arg17.IsWhole) (arg18 : Memref sig .scVector .hbm S12500x128 .f32) (harg18 : arg18.IsWhole) (arg19 : Memref sig .scVector .hbm S4x128 .f32) (harg19 : arg19.IsWhole) (arg20 : Memref sig .scVector .hbm S262144 .f32) (harg20 : arg20.IsWhole) (arg21 : Memref sig .scVector .hbm S262144 .f32) (harg21 : arg21.IsWhole) (arg22 : Memref sig .scVector .hbm S262144 .f32) (harg22 : arg22.IsWhole) (arg23 : Memref sig .scVector .hbm S262144 .f32) (harg23 : arg23.IsWhole) (arg24 : Memref sig .scVector .hbm S262144 .f32) (harg24 : arg24.IsWhole) (arg25 : Memref sig .scVector .hbm S262144 .f32) (harg25 : arg25.IsWhole) (arg26 : Memref sig .scVector .hbm S262144 .f32) (harg26 : arg26.IsWhole) (arg27 : Memref sig .scVector .hbm S262144 .f32) (harg27 : arg27.IsWhole) (arg28 : Memref sig .scVector .hbm S262144 .f32) (harg28 : arg28.IsWhole) (arg29 : Memref sig .scVector .vmem S256 .i32) (harg29 : arg29.IsWhole) (arg30 : Memref sig .scVector .vmem S256 .i32) (harg30 : arg30.IsWhole) (arg31 : Memref sig .scVector .vmem S256x128 .f32) (harg31 : arg31.IsWhole) (arg32 : Memref sig .scVector .vmem S4096 .f32) (harg32 : arg32.IsWhole) (arg33 : DmaSems sig S_) (v19_r0 : DmaSems sig S_) (v19_r1 : DmaSems sig S_) (v19_r2 : DmaSems sig S_) (v19_r3 : DmaSems sig S_) (v19_r4 : DmaSems sig S_) (v19_r5 : DmaSems sig S_) (v19_r6 : DmaSems sig S_) (v19_r7 : DmaSems sig S_) (v19_r8 : DmaSems sig S_) (v19_r9 : DmaSems sig S_) (v19_r10 : DmaSems sig S_) (v19_r11 : DmaSems sig S_) (v19_r12 : DmaSems sig S_) (v19_r13 : DmaSems sig S_) (v19_r14 : DmaSems sig S_) (v19_r15 : DmaSems sig S_) (v19_r16 : DmaSems sig S_) (v19_r17 : DmaSems sig S_) :
    k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 v19_r0 v19_r1 v19_r2 v19_r3 v19_r4 v19_r5 v19_r6 v19_r7 v19_r8 v19_r9 v19_r10 v19_r11 v19_r12 v19_r13 v19_r14 v19_r15 v19_r16 v19_r17 = (do
      table i arg29 harg29 arg30 arg31 harg31 arg32 harg32 arg33 arg2 arg11 gathers_S125x128_S256x128 (by decide) inb_S125x128_S125x128_0_0 arg20 v19_r0 v19_r1
      table i arg29 harg29 arg30 arg31 harg31 arg32 harg32 arg33 arg3 arg12 gathers_S125x128_S256x128 (by decide) inb_S125x128_S125x128_0_0 arg21 v19_r2 v19_r3
      table i arg29 harg29 arg30 arg31 harg31 arg32 harg32 arg33 arg4 arg13 gathers_S12500x128_S256x128 (by decide) inb_S12500x128_S12500x128_0_0 arg22 v19_r4 v19_r5
      table i arg29 harg29 arg30 arg31 harg31 arg32 harg32 arg33 arg5 arg14 gathers_S12500x128_S256x128 (by decide) inb_S12500x128_S12500x128_0_0 arg23 v19_r6 v19_r7
      table i arg29 harg29 arg30 arg31 harg31 arg32 harg32 arg33 arg6 arg15 gathers_S12500x128_S256x128 (by decide) inb_S12500x128_S12500x128_0_0 arg24 v19_r8 v19_r9
      table i arg29 harg29 arg30 arg31 harg31 arg32 harg32 arg33 arg7 arg16 gathers_S12500x128_S256x128 (by decide) inb_S12500x128_S12500x128_0_0 arg25 v19_r10 v19_r11
      table i arg29 harg29 arg30 arg31 harg31 arg32 harg32 arg33 arg8 arg17 gathers_S12500x128_S256x128 (by decide) inb_S12500x128_S12500x128_0_0 arg26 v19_r12 v19_r13
      pure ⟨Scalar.muli (Scalar.addi (Scalar.muli (BitVec.ofNat 32 (i 1).val) 2#32) (BitVec.ofNat 32 (i 0).val)) 512#32, 0#32⟩) := by
  rfl

set_option maxRecDepth 65536 in
set_option maxHeartbeats 4000000 in
/-- The printed tile kernel is the nine tables' work, one after another. -/
theorem kernel_eq (i : grid0.Coords) (arg2 : Memref sig .scVector .hbm S16384 .i32) (harg2 : arg2.IsWhole) (arg3 : Memref sig .scVector .hbm S16384 .i32) (harg3 : arg3.IsWhole) (arg4 : Memref sig .scVector .hbm S16384 .i32) (harg4 : arg4.IsWhole) (arg5 : Memref sig .scVector .hbm S16384 .i32) (harg5 : arg5.IsWhole) (arg6 : Memref sig .scVector .hbm S16384 .i32) (harg6 : arg6.IsWhole) (arg7 : Memref sig .scVector .hbm S16384 .i32) (harg7 : arg7.IsWhole) (arg8 : Memref sig .scVector .hbm S16384 .i32) (harg8 : arg8.IsWhole) (arg9 : Memref sig .scVector .hbm S16384 .i32) (harg9 : arg9.IsWhole) (arg10 : Memref sig .scVector .hbm S16384 .i32) (harg10 : arg10.IsWhole) (arg11 : Memref sig .scVector .hbm S125x128 .f32) (harg11 : arg11.IsWhole) (arg12 : Memref sig .scVector .hbm S125x128 .f32) (harg12 : arg12.IsWhole) (arg13 : Memref sig .scVector .hbm S12500x128 .f32) (harg13 : arg13.IsWhole) (arg14 : Memref sig .scVector .hbm S12500x128 .f32) (harg14 : arg14.IsWhole) (arg15 : Memref sig .scVector .hbm S12500x128 .f32) (harg15 : arg15.IsWhole) (arg16 : Memref sig .scVector .hbm S12500x128 .f32) (harg16 : arg16.IsWhole) (arg17 : Memref sig .scVector .hbm S12500x128 .f32) (harg17 : arg17.IsWhole) (arg18 : Memref sig .scVector .hbm S12500x128 .f32) (harg18 : arg18.IsWhole) (arg19 : Memref sig .scVector .hbm S4x128 .f32) (harg19 : arg19.IsWhole) (arg20 : Memref sig .scVector .hbm S262144 .f32) (harg20 : arg20.IsWhole) (arg21 : Memref sig .scVector .hbm S262144 .f32) (harg21 : arg21.IsWhole) (arg22 : Memref sig .scVector .hbm S262144 .f32) (harg22 : arg22.IsWhole) (arg23 : Memref sig .scVector .hbm S262144 .f32) (harg23 : arg23.IsWhole) (arg24 : Memref sig .scVector .hbm S262144 .f32) (harg24 : arg24.IsWhole) (arg25 : Memref sig .scVector .hbm S262144 .f32) (harg25 : arg25.IsWhole) (arg26 : Memref sig .scVector .hbm S262144 .f32) (harg26 : arg26.IsWhole) (arg27 : Memref sig .scVector .hbm S262144 .f32) (harg27 : arg27.IsWhole) (arg28 : Memref sig .scVector .hbm S262144 .f32) (harg28 : arg28.IsWhole) (arg29 : Memref sig .scVector .vmem S256 .i32) (harg29 : arg29.IsWhole) (arg30 : Memref sig .scVector .vmem S256 .i32) (harg30 : arg30.IsWhole) (arg31 : Memref sig .scVector .vmem S256x128 .f32) (harg31 : arg31.IsWhole) (arg32 : Memref sig .scVector .vmem S4096 .f32) (harg32 : arg32.IsWhole) (arg33 : DmaSems sig S_) (v19_r0 : DmaSems sig S_) (v19_r1 : DmaSems sig S_) (v19_r2 : DmaSems sig S_) (v19_r3 : DmaSems sig S_) (v19_r4 : DmaSems sig S_) (v19_r5 : DmaSems sig S_) (v19_r6 : DmaSems sig S_) (v19_r7 : DmaSems sig S_) (v19_r8 : DmaSems sig S_) (v19_r9 : DmaSems sig S_) (v19_r10 : DmaSems sig S_) (v19_r11 : DmaSems sig S_) (v19_r12 : DmaSems sig S_) (v19_r13 : DmaSems sig S_) (v19_r14 : DmaSems sig S_) (v19_r15 : DmaSems sig S_) (v19_r16 : DmaSems sig S_) (v19_r17 : DmaSems sig S_) :
    cc0_k (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 v19_r0 v19_r1 v19_r2 v19_r3 v19_r4 v19_r5 v19_r6 v19_r7 v19_r8 v19_r9 v19_r10 v19_r11 v19_r12 v19_r13 v19_r14 v19_r15 v19_r16 v19_r17 = (do
      table i arg29 harg29 arg30 arg31 harg31 arg32 harg32 arg33 arg2 arg11 gathers_S125x128_S256x128 (by decide) inb_S125x128_S125x128_0_0 arg20 v19_r0 v19_r1
      table i arg29 harg29 arg30 arg31 harg31 arg32 harg32 arg33 arg3 arg12 gathers_S125x128_S256x128 (by decide) inb_S125x128_S125x128_0_0 arg21 v19_r2 v19_r3
      table i arg29 harg29 arg30 arg31 harg31 arg32 harg32 arg33 arg4 arg13 gathers_S12500x128_S256x128 (by decide) inb_S12500x128_S12500x128_0_0 arg22 v19_r4 v19_r5
      table i arg29 harg29 arg30 arg31 harg31 arg32 harg32 arg33 arg5 arg14 gathers_S12500x128_S256x128 (by decide) inb_S12500x128_S12500x128_0_0 arg23 v19_r6 v19_r7
      table i arg29 harg29 arg30 arg31 harg31 arg32 harg32 arg33 arg6 arg15 gathers_S12500x128_S256x128 (by decide) inb_S12500x128_S12500x128_0_0 arg24 v19_r8 v19_r9
      table i arg29 harg29 arg30 arg31 harg31 arg32 harg32 arg33 arg7 arg16 gathers_S12500x128_S256x128 (by decide) inb_S12500x128_S12500x128_0_0 arg25 v19_r10 v19_r11
      table i arg29 harg29 arg30 arg31 harg31 arg32 harg32 arg33 arg8 arg17 gathers_S12500x128_S256x128 (by decide) inb_S12500x128_S12500x128_0_0 arg26 v19_r12 v19_r13
      table i arg29 harg29 arg30 arg31 harg31 arg32 harg32 arg33 arg9 arg18 gathers_S12500x128_S256x128 (by decide) inb_S12500x128_S12500x128_0_0 arg27 v19_r14 v19_r15
      table i arg29 harg29 arg30 arg31 harg31 arg32 harg32 arg33 arg10 arg19 gathers_S4x128_S256x128 (by decide) inb_S4x128_S4x128_0_0 arg28 v19_r16 v19_r17
      pure ⟨⟩) := by
  unfold cc0_k
  rw [part46_eq]
  simp only [bind_assoc, pure_bind]
  rfl

end Cert.Proof.Tile

end
-- ==== Proof.Setup.lean ====
/-
  The launch as the theorem about SparseCore programs sees it: the configuration, the body table, the ghost state — the
  rounds of the SparseCore handshakes, the rounds of the TensorCore pipeline's staging cells, and the counters the local
  transfers draw on — and the thread of a tile.
-/
module

public import proofs.«01_k».proof.Proof.Lanes
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Tactic

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The program's labels: its own and the pipeline's. -/
abbrev ΛP (F : FTy → Type) [FloatOps F] : Labels := Pipeline.Sig Λ₀ (Fin 1) fun p => (pcfgs (F := F) p).Adm
/-- The SparseCore configuration. -/
abbrev K (F : FTy → Type) [FloatOps F] : SparseCore.Cfg τ sig (ΛP F) 1 := sc (F := F)
/-- The TensorCore side's body table. -/
abbrev D (F : FTy → Type) [FloatOps F] : Defs nD τ sig (Elt F) (ΛP F) := Pipeline.defs pcfgs defs₀
/-- No recursion among the kernel's own labels. -/
abbrev 𝒱₀ : Variants := Variants.none
/-- The bounds of the lifted table. -/
abbrev 𝒱 : Variants := 𝒱₀.lift

theorem facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := URounds (GSem nD τ sig) Unit
/-- The user's ghost state. -/
abbrev UU : Type := UH × (UP × Counters)
/-- The machine's resources. -/
abbrev MM (F : FTy → Type) : Type := MT nD τ sig (HIx 1) (Elt F) ℕ UU ℕ

/-- The handshakes' rounds in the machine's resources. -/
abbrev EH : Emb UH (MM F) := embL
/-- The pipeline's rounds in the machine's resources. -/
def EP : Emb UP (MM F) :=
  ((Emb.inl : Emb UP (UP × Counters)).trans (Emb.inr : Emb (UP × Counters) UU)).trans (uEmb (nD := nD) (τ := τ) (sig := sig) (Ix := HIx 1) (Val := Elt F) (Name := ℕ) (U := UU) (Lvl := ℕ)).toEmb

instance EP_landsIn : (EP : Emb UP (MM F)).LandsIn (upEmb : UEmb _ (MM F)) := by unfold EP; infer_instance

/-- The SparseCore of grid point `i`. -/
abbrev cV (i : grid0.Coords) : Fin τ.nSC := (i 0).castLE hcore0
/-- The tile of grid point `i`. -/
abbrev jV (i : grid0.Coords) : Fin τ.nSub := (i 1).castLE hsub0
/-- The thread of grid point `i` on device `d`. -/
abbrev thr (d : Dev nD) (i : grid0.Coords) : Thread nD τ := V d (cV i) (jV i)

/-- What a memref's view holds, on thread `c`, at share `q`. -/
abbrev mem (c : Thread nD τ) {sp : Space} {s : Shape} {e : EltTy} (m : Memref sig c.2.kind sp s e) (q : PosShare TreeShare) (f : Buf (Elt F) (m.view.loc c)) : sProp (MM F) :=
  m.view.loc c ↦[m.view.set]{q} f

end Cert.Proof.Tile

end
-- ==== Proof.Vec.lean ====
/-
  Index facts of the tile's loops: a vector of sixteen stored into a one-dimensional buffer, and what the loops' stored
  vectors are, element by element.
-/
module

public import proofs.«01_k».proof.Proof.Setup
public import Idealize.ShloMosaic.Lib.Writes

@[expose] public section

noncomputable section

namespace Cert.Proof.Tile

open Cert.KernelIdeal Cert.KernelIdeal.Gen
open Idealize.ShloMosaic Idealize.SL.Sem

variable {F : FTy → Type} [FloatOps F]

section Store

variable {κ : Kind} {sp : Space} {N : ℕ} {e : EltTy}

/-- Sixteen elements stored from `o` on: read back among them, the stored element; -/
theorem read_store_hit (v : View sig κ sp (⟨1, ![N]⟩ : Shape) e) (off : Fin 1 → ℕ) (inb : ∀ a, off a + S16.size a ≤ (⟨1, ![N]⟩ : Shape).size a)
    (f : v.ty.Contents (Elt F)) (w : S16.Idx → Elt F e) (y : (⟨1, ![N]⟩ : Shape).Idx) (x : S16.Idx) (h : (y 0).val = off 0 + (x 0).val) :
    v.read (Elt F) ((v.slice (Rect.unit (s := ⟨1, ![N]⟩) off S16.size inb)).write (Elt F) f w Finset.univ) y = w x := by
  have hy : (Rect.unit (s := ⟨1, ![N]⟩) off S16.size inb).emb x = y :=
    Rect.emb_eq_of_coords (Rect.unit (s := ⟨1, ![N]⟩) off S16.size inb) x y fun a => by
      match a with
      | 0 => show (y 0).val = off 0 + 1 * (x 0).val; omega
  rw [← hy]
  exact v.read_slice_write_emb (Val := Elt F) (Rect.unit (s := ⟨1, ![N]⟩) off S16.size inb) f w (x := x) (Finset.mem_univ _)

/-- read back elsewhere, what was there. -/
theorem read_store_miss (v : View sig κ sp (⟨1, ![N]⟩ : Shape) e) (off : Fin 1 → ℕ) (inb : ∀ a, off a + S16.size a ≤ (⟨1, ![N]⟩ : Shape).size a)
    (f : v.ty.Contents (Elt F)) (w : S16.Idx → Elt F e) (y : (⟨1, ![N]⟩ : Shape).Idx) (h : (y 0).val < off 0 ∨ off 0 + 16 ≤ (y 0).val) :
    v.read (Elt F) ((v.slice (Rect.unit (s := ⟨1, ![N]⟩) off S16.size inb)).write (Elt F) f w Finset.univ) y = v.read (Elt F) f y :=
  v.read_slice_write_of_not_mem (Val := Elt F) (Rect.unit (s := ⟨1, ![N]⟩) off S16.size inb) f w Finset.univ
    (by rw [Rect.map_emb_univ]; exact Rect.not_mem_set_of_axis (Rect.unit (s := ⟨1, ![N]⟩) off S16.size inb) y 0 (off 0) 16 rfl rfl rfl h)

end Store

theorem trips2 : k0_t2_loop.trips = 16 := by decide
theorem trips1 : k0_t1_loop.trips = 2 := by decide

theorem off2_val (t : Fin k0_t2_loop.trips) : k0_off2 t = ![16 * t.val] := by
  have ht : t.val < 16 := trips2 ▸ t.isLt
  unfold k0_off2
  simp only [iv_eq]
  congr 1
  simp [Scalar.indexCast, Scalar.muli, IntOp.muli, BitVec.toNat_ofNat]
  omega

theorem off3_val (t : Fin k0_t3_loop.trips) : k0_off3 t = ![16 * t.val] := by
  have ht : t.val < 16 := trips3 ▸ t.isLt
  unfold k0_off3
  simp only [iv_eq]
  congr 1
  simp [Scalar.indexCast, Scalar.muli, IntOp.muli, BitVec.toNat_ofNat]
  omega

/-- Where a tile's chunk of identifiers starts. -/
def chunkLo (i : grid0.Coords) (t : ℕ) : ℕ := ((i 1).val * 2 + (i 0).val) * 512 + t * 256

theorem chunkLo_lt (i : grid0.Coords) (t : ℕ) (ht : t < 2) : chunkLo i t + 256 ≤ 16384 := by
  have h0 : (i 0).val < 2 := (i 0).isLt
  have h1 : (i 1).val < 16 := (i 1).isLt
  unfold chunkLo; omega

theorem off1_val (i : grid0.Coords) (t : Fin k0_t1_loop.trips) : k0_off1 i t = ![chunkLo i t.val] := by
  have ht : t.val < 2 := trips1 ▸ t.isLt
  have h0 : (i 0).val < 2 := (i 0).isLt
  have h1 : (i 1).val < 16 := (i 1).isLt
  unfold k0_off1 chunkLo
  simp only [iv_eq]
  congr 1
  simp [Scalar.indexCast, Scalar.muli, Scalar.addi, IntOp.muli, IntOp.addi, BitVec.toNat_ofNat]
  omega

theorem off36_val (i : grid0.Coords) (t : Fin k0_t1_loop.trips) : k0_off36 i t = ![chunkLo i t.val * 16] := by
  have ht : t.val < 2 := trips1 ▸ t.isLt
  have h0 : (i 0).val < 2 := (i 0).isLt
  have h1 : (i 1).val < 16 := (i 1).isLt
  unfold k0_off36 chunkLo
  simp only [iv_eq]
  congr 1
  simp [Scalar.indexCast, Scalar.muli, Scalar.addi, IntOp.muli, IntOp.addi, BitVec.toNat_ofNat]
  omega

/-- The row number of an identifier. -/
def rowNo (b : BitVec 32) : BitVec 32 := IntOp.shrsi .vector b 3#32
/-- The first lane of an identifier's record in its row. -/
def lane0 (b : BitVec 32) : BitVec 32 := IntOp.muli (IntOp.andi b 7#32) 16#32

theorem pay1_apply (v : Vec F S16 .i32) (x : S16.Idx) : k0_pay1 v x = rowNo (v x) := by
  unfold k0_pay1
  simp only [shapeCast_self]
  rfl

theorem pay3_apply (v : Vec F S16 .i32) (x : S16.Idx) : k0_pay3 v x = lane0 (v x) := by
  unfold k0_pay3
  simp only [shapeCast_self]
  rfl

theorem pay5_apply (v : Vec F S1x16 .f32) (x : S16.Idx) : k0_pay5 v x = v (Fin.cons ⟨0, Nat.one_pos⟩ x) := by
  unfold k0_pay5
  simp only [shapeCast_self]
  exact shapeCast_dropUnit_apply ![16] v _ x

theorem lane0_toNat (b : BitVec 32) : (lane0 b).toNat = 16 * (b.toNat % 8) := by
  unfold lane0 IntOp.muli IntOp.andi
  have h : (b &&& 7#32).toNat = b.toNat % 8 := by
    rw [BitVec.toNat_and]; exact Nat.and_two_pow_sub_one_eq_mod b.toNat 3
  rw [BitVec.toNat_mul, h]
  show (b.toNat % 8 * 16) % 4294967296 = _
  omega

theorem rowNo_toNat (b : BitVec 32) (hb : b.toNat < 2 ^ 31) : (rowNo b).toNat = b.toNat / 8 := by
  unfold rowNo IntOp.shrsi
  rw [if_pos (by decide)]
  have hm : b.msb = false := by rw [BitVec.msb_eq_false_iff_two_mul_lt]; omega
  show (b.sshiftRight 3).toNat = _
  rw [BitVec.sshiftRight_eq_of_msb_false hm, BitVec.toNat_ushiftRight, Nat.shiftRight_eq_div_pow]

end Cert.Proof.Tile

end
-- ==== Proof.Loops.lean ====
/-
  The two inner loops of a chunk, with what they leave: `rowIds` turns 256 identifiers into row numbers, `extract` picks
  each identifier's record of sixteen values out of its gathered row.
-/
module

public import proofs.«01_k».proof.Proof.Vec

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (i : grid0.Coords)

/-- The weakest precondition of a tile's program. -/
abbrev twp {α : Type} (p : TP F i α) (Q : α → sProp (MM F)) : sProp (MM F) :=
  wp frame (wpE (defs₀ (F := F)) 𝒱₀ (thr d i) none) Set.univ p Q

section Ops

variable {α : Type} {Q : α → sProp (MM F)} {s : Shape} {e : EltTy}

/-- Loading through a rectangle of a buffer held on its view. -/
theorem twp_load (m : Memref sig .scVector .vmem s e) (r : Rect s) (hl : m.view.LoadsAt r.toLoadRect) (q : PosShare TreeShare) (f : Buf (Elt F) (m.view.loc (thr d i)))
    (k : (r.shape.Idx → Elt F e) → TP F i α) :
    mem (thr d i) m q f ⊢ iprop((mem (thr d i) m q f -∗ twp d i (k ((m.access r).read (Elt F) f)) Q) -∗ twp d i (Prog.lift (.load m r.toLoadRect hl) >>= k) Q) :=
  wp_load_rect (defs := defs₀ (F := F)) (Γ := .empty) (Λ := Λ₀) (U := UU) (Name := ℕ) (Lvl := ℕ) (Ix := HIx 1) (Val := Elt F) 𝒱₀ (thr d i) none Set.univ (m := m) (r := r) (hl := hl) (k := k) (Q := Q) (q := q) (f := f) (S := m.view.set) (View.set_slice_subset _ _)

/-- Storing through a rectangle of a buffer held on its view. -/
theorem twp_store (m : Memref sig .scVector .vmem s e) (r : Rect s) (w : r.shape.Idx → Elt F e) (hx : (m.access r).Stores Finset.univ) (hm : (Finset.univ : Finset r.shape.Idx) = Finset.univ ∨ ∀ a, r.stride a = 1)
    (f : Buf (Elt F) (m.view.loc (thr d i))) (Q : PUnit → sProp (MM F)) :
    mem (thr d i) m fullShare f ⊢ iprop((mem (thr d i) m fullShare ((m.access r).write (Elt F) f w Finset.univ) -∗ Q ⟨⟩) -∗ twp d i (Prog.lift (.store m r w Finset.univ hx hm)) Q) := by
  have h := wp_store (defs := defs₀ (F := F)) (Γ := .empty) 𝒱₀ (thr d i) none Set.univ (m := m) (r := r) (w := w) (Mk := Finset.univ) (hx := hx) (hm := hm) (k := fun x => .ret x) (f := f) (Q := Q)
    (S := m.view.set) (View.set_slice_subset _ _)
  exact h.trans (wand_mono_left (wand_mono_right (le_wp_ret _ _ _ _ _)))

/-- A check that passes. -/
theorem twp_assume {P : Prop} {dec : Decidable P} (h : P) (k : PLift P → TP F i α) :
    twp d i (k ⟨h⟩) Q ⊢ twp d i (Prog.lift (.assume P dec) >>= k) Q :=
  wp_assume 𝒱₀ (thr d i) none Set.univ h

end Ops

variable (ids : Memref sig .scVector .vmem S256 .i32) (rid : Memref sig .scVector .vmem S256 .i32)
  (rows : Memref sig .scVector .vmem S256x128 .f32) (obuf : Memref sig .scVector .vmem S4096 .f32)

/-- The index of element `n` of a list of 256. -/
abbrev ix256 (n : ℕ) (h : n < 256) : S256.Idx := fun a => match a with | 0 => ⟨n, h⟩

/-- The row-number list once the first `n` entries are written: those are the identifiers' row numbers. -/
def RidTo (iv : S256.Idx → BitVec 32) (n : ℕ) (g : S256.Idx → BitVec 32) : Prop :=
  ∀ x : S256.Idx, (x 0).val < n → g x = rowNo (iv x)

/-- The rectangle of trip `t` of the row-number loop. -/
abbrev r2 (t : Fin k0_t2_loop.trips) : Rect S256 := Rect.unit (s := S256) (k0_off2 t) S16.size (k0_off2_inb t)

/-- One trip's store adds the sixteen entries after the first `16 t`. -/
theorem ridTo_step (fI : ids.view.ty.Contents (Elt F)) (g : rid.view.ty.Contents (Elt F)) (t : Fin k0_t2_loop.trips)
    (hg : RidTo (ids.view.read (Elt F) fI) (16 * t.val) (rid.view.read (Elt F) g)) :
    RidTo (ids.view.read (Elt F) fI) (16 * (t.val + 1))
      (rid.view.read (Elt F) ((rid.access (r2 t)).write (Elt F) g (k0_pay1 (F := F) ((ids.access (r2 t)).read (Elt F) fI)) Finset.univ)) := by
  have ht : t.val < 16 := trips2 ▸ t.isLt
  intro x hx
  by_cases hlt : (x 0).val < 16 * t.val
  · refine (read_store_miss rid.view (k0_off2 t) (k0_off2_inb t) g _ x ?_).trans (hg x hlt)
    rw [off2_val]; exact Or.inl hlt
  · refine (read_store_hit rid.view (k0_off2 t) (k0_off2_inb t) g _ x (fun a => match a with | 0 => ⟨(x 0).val - 16 * t.val, ?_⟩) ?_).trans ?_
    · show _ < 16; omega
    · rw [off2_val]; show _ = 16 * t.val + ((x 0).val - 16 * t.val); omega
    · rw [pay1_apply]
      congr 1
      refine congrArg (ids.view.read (Elt F) fI) (a₁ := (r2 t).emb _) (funext fun a => ?_)
      match a with
      | 0 => apply Fin.ext; show k0_off2 t 0 + 1 * ((x 0).val - 16 * t.val) = _; rw [off2_val]; show 16 * t.val + 1 * ((x 0).val - 16 * t.val) = _; omega

/-- What the row-number loop holds before trip `k`. -/
def ridInv (fI : Buf (Elt F) (ids.view.loc (thr d i))) (k : ℕ) : sProp (MM F) :=
  iprop(mem (thr d i) ids fullShare fI ∗ ∃ g, ⌜RidTo (ids.view.read (Elt F) fI) (16 * k) (rid.view.read (Elt F) g)⌝ ∗ mem (thr d i) rid fullShare g)

/-- One trip of the row-number loop. -/
theorem rowIds_wp (fI : Buf (Elt F) (ids.view.loc (thr d i))) (t : Fin k0_t2_loop.trips) :
    ridInv d i ids rid fI t.val ⊢ twp d i (rowIds i ids rid t) (fun _ => ridInv d i ids rid fI (t.val + 1)) := by
  have ht : t.val < 16 := trips2 ▸ t.isLt
  unfold ridInv rowIds
  iintro ⟨HI, ⟨%g, %hg, HR⟩⟩
  iapply (twp_load d i ids _ _ _ _ _) $$ HI
  iintro HI
  iapply (twp_load d i rid _ _ _ _ _) $$ HR
  iintro HR
  iapply (twp_store d i rid _ _ _ _ _ _) $$ HR
  iintro HR
  isplitl [HI]; · iexact HI
  iexists _
  isplitr
  · ipureintro; exact ridTo_step ids rid fI g t hg
  · iexact HR

/-! ## The extraction loop -/

/-- Element `n` of the records of 256 identifiers, out of their gathered rows: lane `16 (id mod 8) + n mod 16` of row `n / 16`. -/
def recAt (iv : S256.Idx → BitVec 32) (rv : S256x128.Idx → F .f32) (n : ℕ) (h : n < 4096) : F .f32 :=
  rv (fun a => match a with
    | 0 => ⟨n / 16, show n / 16 < 256 by omega⟩
    | 1 => ⟨16 * ((iv (ix256 (n / 16) (by omega))).toNat % 8) + n % 16, show _ < 128 by omega⟩)

/-- The record buffer once the first `n` records are in. -/
def ExtTo (iv : S256.Idx → BitVec 32) (rv : S256x128.Idx → F .f32) (n : ℕ) (g : S4096.Idx → F .f32) : Prop :=
  ∀ x : S4096.Idx, (x 0).val < 16 * n → g x = recAt iv rv (x 0).val (x 0).isLt

/-- What the lanes of the extraction loop hold. -/
def extInv (iv : S256.Idx → BitVec 32) (fR : Buf (Elt F) (rows.view.loc (thr d i))) (n : ℕ) : sProp (MM F) :=
  iprop(mem (thr d i) rows fullShare fR ∗ ∃ g, ⌜ExtTo iv (rows.view.read (Elt F) fR) n (obuf.view.read (Elt F) g)⌝ ∗ mem (thr d i) obuf fullShare g)

/-- The element the kernel takes of the vector of first lanes. -/
theorem lane_scalar (w : IVec S16 32) (l : ℕ) (hl : l < 16) :
    extractAt ![0] (extractStridedSlice S1 ![l] w (slices_lane l hl)) inpos_S1_p0 = w (fun a => match a with | 0 => ⟨l, hl⟩) := by
  refine extractStridedSlice_apply _ w (slices_lane l hl) _ _ fun a => ?_
  match a with
  | 0 => rfl

theorem rowOff_val (t : Fin k0_t3_loop.trips) (l : ℕ) (hl : l < 16) (v : BitVec 32) : rowOff t l v = ![16 * t.val + l, v.toNat] := by
  have ht : t.val < 16 := trips3 ▸ t.isLt
  unfold rowOff
  rw [iv_eq]
  congr 1
  simp [Scalar.indexCast, Scalar.muli, Scalar.addi, IntOp.muli, IntOp.addi, BitVec.toNat_ofNat]
  omega

theorem rowChk_of (t : Fin k0_t3_loop.trips) (l : ℕ) (hl : l < 16) (b : BitVec 32) : rowChk t l (lane0 b) := by
  have ht : t.val < 16 := trips3 ▸ t.isLt
  intro a
  rw [rowOff_val t l hl, lane0_toNat]
  match a with
  | 0 => show 16 * t.val + l + 1 ≤ 256; omega
  | 1 => show 16 * (b.toNat % 8) + 16 ≤ 128; omega

/-- One lane's store adds one record. -/
theorem extTo_step (iv : S256.Idx → BitVec 32) (fR : rows.view.ty.Contents (Elt F)) (g : obuf.view.ty.Contents (Elt F)) (t : Fin k0_t3_loop.trips) (l : ℕ) (hl : l < 16) (n : ℕ) (hn : n = 16 * t.val + l) (hn' : n < 256)
    (b : BitVec 32) (hb : b = iv (ix256 n hn')) (hv : rowChk t l (lane0 b))
    (hg : ExtTo iv (rows.view.read (Elt F) fR) n (obuf.view.read (Elt F) g)) :
    ExtTo iv (rows.view.read (Elt F) fR) (n + 1)
      (obuf.view.read (Elt F) ((obuf.access (Rect.unit (s := S4096) (recOff t l) S16.size (recOff_inb t l hl))).write (Elt F) g
        (k0_pay5 (F := F) ((rows.access (Rect.unit (s := S256x128) (rowOff t l (lane0 b)) S1x16.size hv)).read (Elt F) fR)) Finset.univ)) := by
  intro x hx
  by_cases hlt : (x 0).val < 16 * n
  · refine (read_store_miss obuf.view (recOff t l) (recOff_inb t l hl) g _ x ?_).trans (hg x hlt)
    rw [recOff_val t l hl]; left; show (x 0).val < (16 * t.val + l) * 16; omega
  · refine (read_store_hit obuf.view (recOff t l) (recOff_inb t l hl) g _ x (fun a => match a with | 0 => ⟨(x 0).val - 16 * n, ?_⟩) ?_).trans ?_
    · show _ < 16; omega
    · rw [recOff_val t l hl]; show _ = (16 * t.val + l) * 16 + ((x 0).val - 16 * n); omega
    · rw [pay5_apply]
      have hq : (x 0).val / 16 = n := by omega
      have hm : (x 0).val % 16 = (x 0).val - 16 * n := by omega
      unfold recAt
      refine congrArg (rows.view.read (Elt F) fR) (a₁ := (Rect.unit (s := S256x128) (rowOff t l (lane0 b)) S1x16.size hv).emb _) (funext fun a => ?_)
      have hix : ix256 ((x 0).val / 16) (by omega) = ix256 n hn' := by
        have hgen : ∀ (m : ℕ) (hm : m < 256), m = n → ix256 m hm = ix256 n hn' := by rintro m _ rfl; rfl
        exact hgen _ _ hq
      match a with
      | 0 =>
        apply Fin.ext; show rowOff t l (lane0 b) 0 + 1 * 0 = (x 0).val / 16; rw [rowOff_val t l hl, hq, hn]; rfl
      | 1 =>
        apply Fin.ext; show rowOff t l (lane0 b) 1 + 1 * ((x 0).val - 16 * n) = 16 * ((iv (ix256 ((x 0).val / 16) _)).toNat % 8) + (x 0).val % 16
        rw [hix, rowOff_val t l hl, hm, ← hb]
        show (lane0 b).toNat + _ = _
        rw [lane0_toNat]; omega

/-- A lane once its record's first lane `v` is known. -/
def laneAt (t : Fin k0_t3_loop.trips) (l : ℕ) (hl : l < 16) (v : BitVec 32) : TP F i PUnit :=
  Prog.lift (TpuEff.assume (rowChk t l v) (rowChk.dec t l v)) >>= fun hv =>
  Prog.lift (.load rows (Rect.unit (s := S256x128) (rowOff t l v) S1x16.size hv.down).toLoadRect (View.loadsAt_vmem h_S1x16)) >>= fun x =>
  Prog.lift (.load obuf (Rect.unit (s := S4096) (recOff t l) S16.size (recOff_inb t l hl)).toLoadRect (View.loadsAt_vmem h_S16)) >>= fun _ =>
  Prog.lift (.store obuf (Rect.unit (s := S4096) (recOff t l) S16.size (recOff_inb t l hl)) (k0_pay5 x) Finset.univ (View.stores_vmem_bits_univ h_S16 rfl) (.inl rfl))

/-- One lane. -/
theorem lane_wp (iv : S256.Idx → BitVec 32) (fR : Buf (Elt F) (rows.view.loc (thr d i))) (t : Fin k0_t3_loop.trips) (w : IVec S16 32) (l : ℕ) (hl : l < 16)
    (n : ℕ) (hn : n = 16 * t.val + l) (hn' : n < 256) (hw : w (fun a => match a with | 0 => ⟨l, hl⟩) = lane0 (iv (ix256 n hn'))) :
    extInv d i rows obuf iv fR n ⊢ twp d i (lane i rows obuf t w l hl) (fun _ => extInv d i rows obuf iv fR (n + 1)) := by
  unfold extInv
  rw [show lane i rows obuf t w l hl = laneAt i rows obuf t l hl (extractAt ![0] (extractStridedSlice S1 ![l] w (slices_lane l hl)) inpos_S1_p0) from rfl, lane_scalar w l hl, hw]
  unfold laneAt
  iintro ⟨HR, ⟨%g, %hg, HO⟩⟩
  iapply (twp_assume d i (rowChk_of t l hl _) _)
  iapply (twp_load d i rows _ _ _ _ _) $$ HR
  iintro HR
  iapply (twp_load d i obuf _ _ _ _ _) $$ HO
  iintro HO
  iapply (twp_store d i obuf _ _ _ _ _ _) $$ HO
  iintro HO
  isplitl [HR]; · iexact HR
  iexists _
  isplitr
  · ipureintro; exact extTo_step rows obuf iv fR g t l hl n hn hn' _ rfl (rowChk_of t l hl _) hg
  · iexact HO

/-- The lanes from `16 - n` on. -/
theorem lanesFrom_wp (iv : S256.Idx → BitVec 32) (fR : Buf (Elt F) (rows.view.loc (thr d i))) (t : Fin k0_t3_loop.trips) (w : IVec S16 32)
    (hw : ∀ (l : ℕ) (hl : l < 16) (hn : 16 * t.val + l < 256), w (fun a => match a with | 0 => ⟨l, hl⟩) = lane0 (iv (ix256 (16 * t.val + l) hn))) (n : ℕ) (h : n ≤ 16) :
    extInv d i rows obuf iv fR (16 * t.val + (16 - n)) ⊢ twp d i (lanesFrom i rows obuf t w n h) (fun _ => extInv d i rows obuf iv fR (16 * (t.val + 1))) := by
  have ht : t.val < 16 := trips3 ▸ t.isLt
  induction n with
  | zero => exact le_wp_ret frame (wpE (defs₀ (F := F)) 𝒱₀ (thr d i) none) Set.univ PUnit.unit (fun _ => extInv d i rows obuf iv fR (16 * (t.val + 1)))
  | succ n ih =>
    have e : 16 * t.val + (16 - (n + 1)) = 16 * t.val + (15 - n) := by omega
    have e' : 16 * t.val + (15 - n) + 1 = 16 * t.val + (16 - n) := by omega
    rw [e]
    unfold lanesFrom twp
    rw [wp_bind]
    exact (lane_wp d i rows obuf iv fR t w (15 - n) (by omega) _ rfl (by omega) (hw _ _ _)).trans (wp_mono _ _ _ (fun _ => by rw [e']; exact ih (by omega)))

/-- What the extraction loop holds before trip `k`. -/
def trip3Inv (fI : Buf (Elt F) (ids.view.loc (thr d i))) (fR : Buf (Elt F) (rows.view.loc (thr d i))) (k : ℕ) : sProp (MM F) :=
  iprop(mem (thr d i) ids fullShare fI ∗ extInv d i rows obuf (ids.view.read (Elt F) fI) fR (16 * k))

/-- One trip of the extraction loop. -/
theorem extract_wp (fI : Buf (Elt F) (ids.view.loc (thr d i))) (fR : Buf (Elt F) (rows.view.loc (thr d i))) (t : Fin k0_t3_loop.trips) :
    trip3Inv d i ids rows obuf fI fR t.val ⊢ twp d i (extract i ids rows obuf t) (fun _ => trip3Inv d i ids rows obuf fI fR (t.val + 1)) := by
  have ht : t.val < 16 := trips3 ▸ t.isLt
  unfold trip3Inv extract
  iintro ⟨HI, HE⟩
  iapply (twp_load d i ids _ _ _ _ _) $$ HI
  iintro HI
  iapply (wp_frame_l) $$ [HI HE]
  isplitl [HI]; · iexact HI
  iapply (lanesFrom_wp d i rows obuf (ids.view.read (Elt F) fI) fR t _ ?_ 16 (Nat.le_refl _)) $$ HE
  intro l hl hn
  rw [pay3_apply]
  congr 1
  refine congrArg (ids.view.read (Elt F) fI) (a₁ := (Rect.unit (s := S256) (k0_off3 t) S16.size (k0_off3_inb t)).emb _) (funext fun a => ?_)
  match a with
  | 0 => apply Fin.ext; show k0_off3 t 0 + 1 * l = _; rw [off3_val]; show 16 * t.val + 1 * l = 16 * t.val + l; omega

end Cert.Proof.Tile

end
-- ==== Proof.Chunk.lean ====
/-
  One chunk of 256 identifiers, run: the identifiers fetched, turned into row numbers, their rows gathered, the records
  picked out of the rows and written back. What it leaves in the output's slice is what `recs` says: element `n` of a
  table's output is lane `n mod 16` of the record of identifier `n / 16`.
-/
module

public import proofs.«01_k».proof.Proof.Loops

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-- The index of identifier `n`. -/
abbrev ix16384 (n : ℕ) (h : n < 16384) : S16384.Idx := fun a => match a with | 0 => ⟨n, h⟩

/-- A table's output: element `n` is lane `n mod 16` of the record of identifier `n / 16`, eight records lying in a row. -/
def recs {α : Type} {R : ℕ} (iv : S16384.Idx → BitVec 32) (tv : (⟨2, ![R, 128]⟩ : Shape).Idx → α) (hlt : ∀ b, (iv b).toNat < 8 * R) : S262144.Idx → α := fun n =>
  have hn : (n 0).val < 262144 := (n 0).isLt
  have h := hlt (ix16384 ((n 0).val / 16) (by omega))
  tv (fun a => match a with
    | 0 => ⟨(iv (ix16384 ((n 0).val / 16) (by omega))).toNat / 8, show _ < R by omega⟩
    | 1 => ⟨16 * ((iv (ix16384 ((n 0).val / 16) (by omega))).toNat % 8) + (n 0).val % 16, show _ < 128 by omega⟩)

/-- What a row gather into 256 rows delivers. -/
theorem gather_apply {α : EltTy} {F : FTy → Type} {R : ℕ} (hg : Shape.Gathers ⟨2, ![R, 128]⟩ 0 S256x128) (g : (⟨2, ![R, 128]⟩ : Shape).Idx → Elt F α)
    (r : Fin (S256x128.size hg.axis') → Fin ((⟨2, ![R, 128]⟩ : Shape).size hg.axis)) (x : S256x128.Idx) :
    SparseCore.gatherPayload hg g r x = g (fun a => match a with | 0 => r (x 0) | 1 => x 1) := by
  refine congrArg g (funext fun a => ?_)
  match a with
  | 0 => exact hg.idx_axis r x
  | 1 => exact Fin.ext (hg.idx_of_ne r x 1 Nat.one_ne_zero)

variable {F : FTy → Type} [FloatOps F]

/-- The rows a list of 256 row numbers names. -/
theorem rows_apply {R : ℕ} (g : S256.Idx → Elt F .i32) (hn : S256.numel = 256) (h : ∀ x, (g x).toNat < R) (k : Fin 256) :
    SparseCore.rows (F := F) g hn h k = ⟨(g (ix256 k.val k.isLt)).toNat, h _⟩ := by
  have e : S256.rowMajor.symm (k.cast hn.symm) = ix256 k.val k.isLt := by
    rw [Equiv.symm_apply_eq]
    apply Fin.ext
    rw [Shape.rowMajor_val_one]; rfl
  unfold SparseCore.rows
  simp only [e]

variable (d : Dev nD) (i : grid0.Coords)

section Ops

variable {α : Type} {Q : α → sProp (MM F)} {s : Shape} {e : EltTy} {sp sp' : Space}

/-- A transfer between two of the thread's buffers, issued. -/
theorem twp_dma (src : Memref sig .scVector sp s e) (dst : Memref sig .scVector sp' s e) (sm : DmaSem sig)
    (hsrc : src.view.WordExact) (hdst : dst.view.WordExact) (hsem : DmaTarget.Typed (nD := nD) (τ := τ) (p := .scVector ((i 0).castLE hcore0) ((i 1).castLE hsub0)) sp (.dma sm) (.here dst))
    (k : PUnit → TP F i α) (q : PosShare TreeShare) (fs : Buf (Elt F) (src.view.loc (thr d i))) (fd : Buf (Elt F) (dst.view.loc (thr d i))) (hs : 0 < s.numel) :
    iprop(mem (thr d i) src q fs ∗ mem (thr d i) dst fullShare fd ∗ semVal (thr d i, .dma sm) 0)
      ⊢ iprop((Transfers.Flight countersEmb (thr d i) (.dma sm) (default : HIx 1) dst.view.dmaCredit
            iprop(mem (thr d i) dst fullShare (dst.view.write (Elt F) fd (src.view.read (Elt F) fs) Finset.univ) ∗ mem (thr d i) src q fs)
          -∗ twp d i (k ⟨⟩) Q)
        -∗ twp d i (Prog.lift (.enqueueDma src (.here dst) (.dma sm) hsrc hdst hsem) >>= k) Q) :=
  Transfers.wp_dmaLocal (defs := defs₀ (F := F)) (U := UU) (Name := ℕ) (Lvl := ℕ) (Ix := HIx 1) (Val := Elt F) countersEmb 𝒱₀ (thr d i) none
    (src := src) (via := .same) (dst := dst) (sm := .dma sm) (hsrc := hsrc) (hdst := hdst) (hsem := hsem) (k := k) (q := q) (fs := fs) (fd := fd) (Sd := dst.view.set) (Q := Q)
    (default : HIx 1) dst.view.dmaCredit rfl (View.dmaCredit_pos _ hs) (Finset.Subset.refl _)

/-- The wait for it. -/
theorem twp_wait {s' : Shape} {e' : EltTy} (srcw : Memref sig .scVector sp' s' e') (dstw : Memref sig .scVector sp s e) (sm : DmaSem sig) (hsrc : srcw.view.WordExact) (hdst : dstw.view.WordExact)
    (k : PUnit → TP F i α) (D : sProp (MM F)) (O : CellTallies nD τ sig (HIx 1)) (W : Waits sig (HIx 1)) :
    iprop(Transfers.Flight countersEmb (thr d i) (.dma sm) (default : HIx 1) dstw.view.dmaCredit D ∗ owes (thr d i) O W ∗ Transfers.MayWaits (thr d i) (default : HIx 1) O)
      ⊢ iprop((iprop(D ∗ semVal (thr d i, .dma sm) 0 ∗ owes (thr d i) O (insert (SemLoc.dma sm, (default : HIx 1)) W)) -∗ twp d i (k ⟨⟩) Q)
        -∗ twp d i (Prog.lift (.waitDma2 sm srcw dstw hsrc hdst) >>= k) Q) := by
  refine BIBase.Entails.trans ?_ (Transfers.wp_waitLocalO (defs := defs₀ (F := F)) (U := UU) (Name := ℕ) (Lvl := ℕ) (Ix := HIx 1) (Val := Elt F) countersEmb 𝒱₀ (thr d i) none
    (sem := sm) (srcw := srcw) (dstw := dstw) (hsrc := hsrc) (hdst := hdst) (k := k) (Q := Q) (default : HIx 1) rfl (D := D) (O := O) (W := W))
  iintro ⟨HF, HO, HM⟩
  isplitl [HF]; · iexact HF
  isplitl [HO]; · iexact HO
  iapply (Transfers.MayWaits.elim (SemLoc.dma sm)) $$ HM

/-- The wait for it, at the end of a program. -/
theorem twp_wait_last {s' : Shape} {e' : EltTy} (srcw : Memref sig .scVector sp' s' e') (dstw : Memref sig .scVector sp s e) (sm : DmaSem sig) (hsrc : srcw.view.WordExact) (hdst : dstw.view.WordExact)
    (Q : PUnit → sProp (MM F)) (D : sProp (MM F)) (O : CellTallies nD τ sig (HIx 1)) (W : Waits sig (HIx 1)) :
    iprop(Transfers.Flight countersEmb (thr d i) (.dma sm) (default : HIx 1) dstw.view.dmaCredit D ∗ owes (thr d i) O W ∗ Transfers.MayWaits (thr d i) (default : HIx 1) O)
      ⊢ iprop((iprop(D ∗ semVal (thr d i, .dma sm) 0 ∗ owes (thr d i) O (insert (SemLoc.dma sm, (default : HIx 1)) W)) -∗ Q ⟨⟩)
        -∗ twp d i (Prog.lift (.waitDma2 sm srcw dstw hsrc hdst)) Q) :=
  (twp_wait d i srcw dstw sm hsrc hdst (fun x => .ret x) D O W).trans (wand_mono_left (wand_mono_right (le_wp_ret _ _ _ _ _)))

/-- A gather of rows, issued. -/
theorem twp_gather {R : ℕ} (src : Memref sig .scVector .hbm ⟨2, ![R, 128]⟩ .f32) (dst : Memref sig .scVector .vmem S256x128 .f32) (hg : Shape.Gathers ⟨2, ![R, 128]⟩ 0 S256x128)
    (offs : Memref sig .scVector .vmem S256 .i32) (sm : DmaSem sig) (hsrc : src.view.WordExact) (hr : Shape.StreamRows ⟨2, ![R, 128]⟩ 0)
    (hN : ∑ j, (dst.slice (S256x128.rowRect hg.axis' j) (S256x128.stride_rowRect hg.axis' j)).view.dmaCredit = dst.view.dmaCredit)
    (k : PUnit → TP F i α) (q : PosShare TreeShare) (fs : Buf (Elt F) (src.view.loc (thr d i))) (fd : Buf (Elt F) (dst.view.loc (thr d i))) (fo : Buf (Elt F) (offs.view.loc (thr d i)))
    (hin : ∀ x, (offs.view.read (Elt F) fo x).toNat < R) :
    iprop(mem (thr d i) src q fs ∗ mem (thr d i) dst fullShare fd ∗ mem (thr d i) offs fullShare fo ∗ semVal (thr d i, .dma sm) 0)
      ⊢ iprop((Transfers.Flight countersEmb (thr d i) (.dma sm) (default : HIx 1) dst.view.dmaCredit
            iprop(mem (thr d i) dst fullShare (dst.view.write (Elt F) fd (SparseCore.gatherPayload hg (src.view.read (Elt F) fs)
                (SparseCore.rows (F := F) (offs.view.read (Elt F) fo) rfl hin)) Finset.univ) ∗ mem (thr d i) src q fs ∗ mem (thr d i) offs fullShare fo)
          -∗ twp d i (k ⟨⟩) Q)
        -∗ twp d i (SparseCore.enqueueIndirectGather rfl src dst hg offs rfl sm hsrc rfl (Or.inl rfl) hr >>= k) Q) :=
  SparseCore.wp_indirectGatherLocal (defs := defs₀ (F := F)) (U := UU) (Name := ℕ) (Lvl := ℕ) (Ix := HIx 1) countersEmb 𝒱₀ (thr d i) none
    (src := src) (dst := dst) (hg := hg) (offs := offs) (sem := sm) (hsrc := hsrc) (k := k) (q := q) (fs := fs) (fd := fd) (fo := fo) (Q := Q)
    (default : HIx 1) dst.view.dmaCredit hN (by decide) hin

end Ops

/-! ## The chunk -/

variable (ids : Memref sig .scVector .vmem S256 .i32) (hids : ids.IsWhole) (rid : Memref sig .scVector .vmem S256 .i32)
  (rows : Memref sig .scVector .vmem S256x128 .f32) (hrows : rows.IsWhole) (obuf : Memref sig .scVector .vmem S4096 .f32) (hobuf : obuf.IsWhole)
  (gs : DmaSems sig S_)
  (idA : Memref sig .scVector .hbm S16384 .i32) {R : Nat} (tab : Memref sig .scVector .hbm ⟨2, ![R, 128]⟩ .f32) (hg : Shape.Gathers ⟨2, ![R, 128]⟩ 0 S256x128) (hr : Shape.StreamRows ⟨2, ![R, 128]⟩ 0)
  (hin : ∀ a, (![0, 0] : Fin 2 → Nat) a + (⟨2, ![R, 128]⟩ : Shape).size a ≤ (⟨2, ![R, 128]⟩ : Shape).size a)
  (out : Memref sig .scVector .hbm S262144 .f32) (sA sB : DmaSems sig S_)

/-- The slice of the identifiers a chunk reads. -/
abbrev idSl (t : Fin k0_t1_loop.trips) : Memref sig .scVector .hbm S256 .i32 :=
  idA.slice (Rect.unit (s := S16384) (k0_off1 i t) S256.size (k0_off1_inb i t)) (fun _ => rfl)

/-- The slice of the output a chunk writes. -/
abbrev outSl (t : Fin k0_t1_loop.trips) : Memref sig .scVector .hbm S4096 .f32 :=
  out.slice (Rect.unit (s := S262144) (k0_off36 i t) S4096.size (k0_off36_inb i t)) (fun _ => rfl)

/-- The table, as the gather names it. -/
abbrev tabSl : Memref sig .scVector .hbm ⟨2, ![R, 128]⟩ .f32 :=
  tab.slice (Rect.unit (s := ⟨2, ![R, 128]⟩) ![0, 0] (⟨2, ![R, 128]⟩ : Shape).size hin) (fun _ => rfl)

/-- The tile's four scratch buffers, whatever they hold. -/
def scratch : sProp (MM F) :=
  iprop((∃ f, mem (thr d i) ids fullShare f) ∗ (∃ f, mem (thr d i) rid fullShare f) ∗ (∃ f, mem (thr d i) rows fullShare f) ∗ (∃ f, mem (thr d i) obuf fullShare f))

/-- The three cells a chunk's copies complete on, all at rest. -/
def cells : sProp (MM F) :=
  iprop(semVal (thr d i, .dma gs.sem) 0 ∗ semVal (thr d i, .dma sA.sem) 0 ∗ semVal (thr d i, .dma sB.sem) 0)

/-- What the chunk's slice of the output reads, from what the buffers hold along the way. -/
theorem chunk_value (fs : idA.view.ty.Contents (Elt F)) (ft : tab.view.ty.Contents (Elt F)) (t : Fin k0_t1_loop.trips)
    (hlt : ∀ b, (idA.view.read (Elt F) fs b).toNat < 8 * R) (hR : 8 * R ≤ 2 ^ 31) (gR : S256.Idx → Elt F .i32)
    (hgR : RidTo ((idSl i idA t).view.read (Elt F) fs) 256 gR) (hlt' : ∀ x, (gR x).toNat < R) (gO : S4096.Idx → F .f32)
    (hgO : ExtTo ((idSl i idA t).view.read (Elt F) fs) (SparseCore.gatherPayload hg ((tabSl tab hin).view.read (Elt F) ft) (SparseCore.rows (F := F) gR rfl hlt')) 256 gO) (x : S4096.Idx) :
    gO x = recs (idA.view.read (Elt F) fs) (tab.view.read (Elt F) ft) hlt ((Rect.unit (s := S262144) (k0_off36 i t) S4096.size (k0_off36_inb i t)).emb x) := by
  have hx : (x 0).val < 4096 := (x 0).isLt
  have ht : t.val < 2 := trips1 ▸ t.isLt
  have hlo := chunkLo_lt i t.val ht
  rw [hgO x (by omega)]
  unfold recAt
  rw [gather_apply]
  -- the identifier
  have hid : ∀ (n : ℕ) (hn : n < 256) (m : ℕ) (hm : m < 16384), m = chunkLo i t.val + n → (idSl i idA t).view.read (Elt F) fs (ix256 n hn) = idA.view.read (Elt F) fs (ix16384 m hm) := by
    intro n hn m hm h
    refine congrArg (idA.view.read (Elt F) fs) (a₁ := (Rect.unit (s := S16384) (k0_off1 i t) S256.size (k0_off1_inb i t)).emb (ix256 n hn)) (funext fun a => ?_)
    match a with
    | 0 => apply Fin.ext; show k0_off1 i t 0 + 1 * n = m; rw [off1_val, h]; show chunkLo i t.val + 1 * n = _; omega
  have hy : (((Rect.unit (s := S262144) (k0_off36 i t) S4096.size (k0_off36_inb i t)).emb x) 0).val = chunkLo i t.val * 16 + (x 0).val := by
    show k0_off36 i t 0 + 1 * (x 0).val = _; rw [off36_val]; show chunkLo i t.val * 16 + 1 * (x 0).val = _; omega
  generalize (Rect.unit (s := S262144) (k0_off36 i t) S4096.size (k0_off36_inb i t)).emb x = y at hy ⊢
  have hyl : (y 0).val < 262144 := (y 0).isLt
  have hq : (y 0).val / 16 = chunkLo i t.val + (x 0).val / 16 := by omega
  have hm : (y 0).val % 16 = (x 0).val % 16 := by omega
  have e := hid ((x 0).val / 16) (by omega) ((y 0).val / 16) (by omega) hq
  unfold recs
  refine congrArg (tab.view.read (Elt F) ft) (a₁ := (Rect.unit (s := ⟨2, ![R, 128]⟩) ![0, 0] (⟨2, ![R, 128]⟩ : Shape).size hin).emb _) (funext fun a => ?_)
  match a with
  | 0 =>
    apply Fin.ext
    show 0 + 1 * (SparseCore.rows (F := F) gR rfl hlt' (⟨(x 0).val / 16, _⟩ : Fin 256)).val = (idA.view.read (Elt F) fs (ix16384 ((y 0).val / 16) _)).toNat / 8
    refine (congrArg (fun n => 0 + 1 * n) (congrArg Fin.val (rows_apply gR rfl hlt' (⟨(x 0).val / 16, by omega⟩ : Fin 256)))).trans ?_
    show 0 + 1 * (gR (ix256 ((x 0).val / 16) _)).toNat = _
    rw [hgR _ (show (x 0).val / 16 < 256 by omega), e, rowNo_toNat _ (lt_of_lt_of_le (hlt _) hR)]
    omega
  | 1 =>
    apply Fin.ext
    show 0 + 1 * (16 * (((idSl i idA t).view.read (Elt F) fs (ix256 ((x 0).val / 16) _)).toNat % 8) + (x 0).val % 16) = 16 * ((idA.view.read (Elt F) fs (ix16384 ((y 0).val / 16) _)).toNat % 8) + (y 0).val % 16
    rw [e, hm]; omega

set_option maxHeartbeats 1000000 in
/-- The chunk. -/
theorem chunk_wp (hR : 8 * R ≤ 2 ^ 31) (hN : ∑ j, (rows.slice (S256x128.rowRect hg.axis' j) (S256x128.stride_rowRect hg.axis' j)).view.dmaCredit = rows.view.dmaCredit)
    (q₁ q₂ : PosShare TreeShare) (fs : Buf (Elt F) (idA.view.loc (thr d i))) (ft : Buf (Elt F) (tab.view.loc (thr d i))) (f₀ fT : Buf (Elt F) (out.view.loc (thr d i)))
    (hlt : ∀ b, (idA.view.read (Elt F) fs b).toNat < 8 * R) (hT : ∀ y, out.view.read (Elt F) fT y = recs (idA.view.read (Elt F) fs) (tab.view.read (Elt F) ft) hlt y)
    (O : CellTallies nD τ sig (HIx 1)) (W : Waits sig (HIx 1)) (t : Fin k0_t1_loop.trips) :
    iprop(Transfers.MayWaits (thr d i) (default : HIx 1) O ∗ mem (thr d i) idA q₁ fs ∗ mem (thr d i) tab q₂ ft ∗ mem (thr d i) (outSl i out t) fullShare f₀
        ∗ scratch d i ids rid rows obuf ∗ cells d i gs sA sB ∗ ∃ W', ⌜∀ p ∈ W', p ∈ W ∨ p.2 = none⌝ ∗ owes (thr d i) O W')
      ⊢ twp d i (chunk i ids hids rid rows hrows obuf hobuf gs idA tab hg hr hin out sA sB t) (fun _ =>
          iprop(mem (thr d i) idA q₁ fs ∗ mem (thr d i) tab q₂ ft ∗ mem (thr d i) (outSl i out t) fullShare fT
            ∗ scratch d i ids rid rows obuf ∗ cells d i gs sA sB ∗ ∃ W', ⌜∀ p ∈ W', p ∈ W ∨ p.2 = none⌝ ∗ owes (thr d i) O W')) := by
  have ht : t.val < 2 := trips1 ▸ t.isLt
  unfold chunk scratch cells
  iintro ⟨#Hmw, HI, HT, HO, ⟨⟨%f1, H1⟩, ⟨%f2, H2⟩, ⟨%f3, H3⟩, ⟨%f4, H4⟩⟩, ⟨HG, HA, HB⟩, ⟨%W₁, %hW₁, HW⟩⟩
  -- the identifiers in
  ihave HI2 := (pointsTo_split_subset (q := q₁) (f := fs) (S := idA.view.set) (View.set_slice_subset idA.view (Rect.unit (s := S16384) (k0_off1 i t) S256.size (k0_off1_inb i t)))).1 $$ HI
  icases HI2 with ⟨HIs, HIr⟩
  iapply (twp_dma d i (idSl i idA t) ids sA.sem _ _ _ _ q₁ fs f1 (by decide)) $$ [HIs H1 HA]
  · isplitl [HIs]; · iexact HIs
    isplitl [H1]; · iexact H1
    iexact HA
  iintro HF
  iapply (twp_wait d i (idSl i idA t) ids sA.sem _ _ _ _ O W₁) $$ [HF HW]
  · isplitl [HF]; · iexact HF
    isplitl [HW]; · iexact HW
    iexact Hmw
  iintro ⟨⟨H1, HIs⟩, HA, HW⟩
  ihave HI := (pointsTo_split_subset (q := q₁) (f := fs) (S := idA.view.set) (View.set_slice_subset idA.view (Rect.unit (s := S16384) (k0_off1 i t) S256.size (k0_off1_inb i t)))).2 $$ [HIs HIr]
  · isplitl [HIs] <;> iassumption
  have e1 : ids.view.read (Elt F) (ids.view.write (Elt F) f1 ((idSl i idA t).view.read (Elt F) fs) Finset.univ) = (idSl i idA t).view.read (Elt F) fs := View.read_write_univ _ _
  generalize ids.view.write (Elt F) f1 ((idSl i idA t).view.read (Elt F) fs) Finset.univ = f1' at e1
  -- the row numbers
  iapply (Scf.wp_for_bind frame (wpE (defs₀ (F := F)) 𝒱₀ (thr d i) none) Set.univ _ _ _ _ _ _ (fun k _ => ridInv d i ids rid f1' k) (fun k _ => rowIds_wp d i ids rid f1' k)) $$ [H1 H2]
  · unfold ridInv
    isplitl [H1]; · iexact H1
    iexists f2; isplitr
    · ipureintro; intro x hx; exact absurd hx (by omega)
    · iexact H2
  iintro %_ Hinv
  unfold ridInv
  icases Hinv with ⟨H1, ⟨%f2', %hf2, H2⟩⟩
  have hf2' : RidTo ((idSl i idA t).view.read (Elt F) fs) 256 (rid.view.read (Elt F) f2') := by
    rw [← e1]; intro x hx; exact hf2 x (by rw [show Scf.trips k0_t2_loop.lb k0_t2_loop.ub k0_t2_loop.st = 16 from trips2]; exact hx)
  have hidlt : ∀ x, ((idSl i idA t).view.read (Elt F) fs x).toNat < 8 * R := fun x => hlt _
  have hlt' : ∀ x, (rid.view.read (Elt F) f2' x).toNat < R := fun x => by
    rw [hf2' x (x 0).isLt, rowNo_toNat _ (lt_of_lt_of_le (hidlt x) hR)]
    have := hidlt x; omega
  -- the rows gathered
  ihave HT2 := (pointsTo_split_subset (q := q₂) (f := ft) (S := tab.view.set) (View.set_slice_subset tab.view (Rect.unit (s := ⟨2, ![R, 128]⟩) ![0, 0] (⟨2, ![R, 128]⟩ : Shape).size hin))).1 $$ HT
  icases HT2 with ⟨HTs, HTr⟩
  iapply (twp_gather d i (tabSl tab hin) rows hg rid gs.sem _ hr hN _ q₂ ft f3 f2' hlt') $$ [HTs H3 H2 HG]
  · isplitl [HTs]; · iexact HTs
    isplitl [H3]; · iexact H3
    isplitl [H2]; · iexact H2
    iexact HG
  iintro HF
  iapply (twp_wait d i (tabSl tab hin) rows gs.sem _ _ _ _ O _) $$ [HF HW]
  · isplitl [HF]; · iexact HF
    isplitl [HW]; · iexact HW
    iexact Hmw
  iintro ⟨⟨H3, HTs, H2⟩, HG, HW⟩
  ihave HT := (pointsTo_split_subset (q := q₂) (f := ft) (S := tab.view.set) (View.set_slice_subset tab.view (Rect.unit (s := ⟨2, ![R, 128]⟩) ![0, 0] (⟨2, ![R, 128]⟩ : Shape).size hin))).2 $$ [HTs HTr]
  · isplitl [HTs] <;> iassumption
  have e3 : rows.view.read (Elt F) (rows.view.write (Elt F) f3 (SparseCore.gatherPayload hg ((tabSl tab hin).view.read (Elt F) ft) (SparseCore.rows (F := F) (rid.view.read (Elt F) f2') rfl hlt')) Finset.univ)
      = SparseCore.gatherPayload hg ((tabSl tab hin).view.read (Elt F) ft) (SparseCore.rows (F := F) (rid.view.read (Elt F) f2') rfl hlt') := View.read_write_univ _ _
  generalize rows.view.write (Elt F) f3 (SparseCore.gatherPayload hg ((tabSl tab hin).view.read (Elt F) ft) (SparseCore.rows (F := F) (rid.view.read (Elt F) f2') rfl hlt')) Finset.univ = f3' at e3
  -- the records picked out
  iapply (Scf.wp_for_bind frame (wpE (defs₀ (F := F)) 𝒱₀ (thr d i) none) Set.univ _ _ _ _ _ _ (fun k _ => trip3Inv d i ids rows obuf f1' f3' k) (fun k _ => extract_wp d i ids rows obuf f1' f3' k)) $$ [H1 H3 H4]
  · unfold trip3Inv extInv
    isplitl [H1]; · iexact H1
    isplitl [H3]; · iexact H3
    iexists f4; isplitr
    · ipureintro; intro x hx; exact absurd hx (by omega)
    · iexact H4
  iintro %_ Hinv
  unfold trip3Inv extInv
  icases Hinv with ⟨H1, H3, ⟨%f4', %hf4, H4⟩⟩
  have hv := chunk_value i idA tab hg hin fs ft t hlt hR _ hf2' hlt' (obuf.view.read (Elt F) f4') (by
    rw [← e1, ← e3]; intro x hx; exact hf4 x (by rw [show Scf.trips k0_t3_loop.lb k0_t3_loop.ub k0_t3_loop.st = 16 from trips3]; exact hx))
  -- the records out
  iapply (twp_dma d i obuf (outSl i out t) sB.sem _ _ _ _ fullShare f4' f₀ (by decide)) $$ [H4 HO HB]
  · isplitl [H4]; · iexact H4
    isplitl [HO]; · iexact HO
    iexact HB
  iintro HF
  iapply (twp_wait_last d i obuf (outSl i out t) sB.sem _ _ _ _ O _) $$ [HF HW]
  · isplitl [HF]; · iexact HF
    isplitl [HW]; · iexact HW
    iexact Hmw
  iintro ⟨⟨HO, H4⟩, HB, HW⟩
  isplitl [HI]; · iexact HI
  isplitl [HT]; · iexact HT
  isplitl [HO]
  · iapply (Entails.of_eq (pointsTo_congr (q := fullShare) (I := (outSl i out t).view.set) (f := (outSl i out t).view.write (Elt F) f₀ (obuf.view.read (Elt F) f4') Finset.univ) (g := fT) ?_)) $$ HO
    intro j hj
    obtain ⟨x, -, rfl⟩ := Finset.mem_map.mp hj
    rw [View.write_emb, if_pos (Finset.mem_univ x), hv x, ← hT]
    exact cast_cast _ _ _ |>.trans (cast_eq _ _)
  isplitl [H1 H2 H3 H4]
  · isplitl [H1]; · iexists _; iexact H1
    isplitl [H2]; · iexists _; iexact H2
    isplitl [H3]; · iexists _; iexact H3
    iexists _; iexact H4
  isplitl [HG HA HB]
  · isplitl [HG]; · iexact HG
    isplitl [HA] <;> iassumption
  iexists _; isplitr
  swap; · iexact HW
  ipureintro; intro p hp
  simp only [Finset.mem_insert] at hp
  rcases hp with rfl | rfl | rfl | hp
  · exact Or.inr rfl
  · exact Or.inr rfl
  · exact Or.inr rfl
  · exact hW₁ p hp

end Cert.Proof.Tile

end
-- ==== Proof.Table.lean ====
/-
  One table's work on a tile, and the tile's own storage: the two chunks run one after the other, the output's two slices
  going from what they held to what `recs` says; the copies' cells are borrowed from the tile's cells for the table.
-/
module

public import proofs.«01_k».proof.Proof.Chunk

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first chunk. -/
abbrev t0 : Fin k0_t1_loop.trips := ⟨0, by rw [trips1]; decide⟩
/-- The second chunk. -/
abbrev t1 : Fin k0_t1_loop.trips := ⟨1, by rw [trips1]; decide⟩

theorem chunks_cases (t : Fin k0_t1_loop.trips) : t = t0 ∨ t = t1 := by
  have ht : t.val < 2 := trips1 ▸ t.isLt
  rcases (by omega : t.val = 0 ∨ t.val = 1) with h | h
  · exact .inl (Fin.ext h)
  · exact .inr (Fin.ext h)

section Table

variable (d : Dev nD) (i : grid0.Coords)
variable (ids : Memref sig .scVector .vmem S256 .i32) (hids : ids.IsWhole) (rid : Memref sig .scVector .vmem S256 .i32)
  (rows : Memref sig .scVector .vmem S256x128 .f32) (hrows : rows.IsWhole) (obuf : Memref sig .scVector .vmem S4096 .f32) (hobuf : obuf.IsWhole)
  (gs : DmaSems sig S_) (idA : Memref sig .scVector .hbm S16384 .i32) {R : Nat} (tab : Memref sig .scVector .hbm ⟨2, ![R, 128]⟩ .f32)
  (hg : Shape.Gathers ⟨2, ![R, 128]⟩ 0 S256x128) (hr : Shape.StreamRows ⟨2, ![R, 128]⟩ 0)
  (hin : ∀ a, (![0, 0] : Fin 2 → Nat) a + (⟨2, ![R, 128]⟩ : Shape).size a ≤ (⟨2, ![R, 128]⟩ : Shape).size a)
  (out : Memref sig .scVector .hbm S262144 .f32) (sA sB : DmaSems sig S_)

/-- What a table's work is handed of the operands and hands back: a share of the identifiers, a share of the table, and the
    tile's two slices of the output. -/
def tabRes (q : PosShare TreeShare) (fs : Buf (Elt F) (idA.view.loc (thr d i))) (ft : Buf (Elt F) (tab.view.loc (thr d i)))
    (f : Buf (Elt F) (out.view.loc (thr d i))) : sProp (MM F) :=
  iprop(mem (thr d i) idA q fs ∗ mem (thr d i) tab q ft ∗ mem (thr d i) (outSl i out t0) fullShare f ∗ mem (thr d i) (outSl i out t1) fullShare f)

/-- What the thread owes, its recorded waits being `W`'s or unindexed. -/
def dues (O : CellTallies nD τ sig (HIx 1)) (W : Waits sig (HIx 1)) : sProp (MM F) :=
  iprop(∃ W', ⌜∀ p ∈ W', p ∈ W ∨ p.2 = none⌝ ∗ owes (thr d i) O W')

/-- Before chunk `k`: the slices of the chunks done hold the records. -/
def tableInv (q : PosShare TreeShare) (fs : Buf (Elt F) (idA.view.loc (thr d i))) (ft : Buf (Elt F) (tab.view.loc (thr d i)))
    (f₀ fT : Buf (Elt F) (out.view.loc (thr d i))) (O : CellTallies nD τ sig (HIx 1)) (W : Waits sig (HIx 1)) (k : ℕ) : sProp (MM F) :=
  iprop(Transfers.MayWaits (thr d i) (default : HIx 1) O ∗ mem (thr d i) idA q fs ∗ mem (thr d i) tab q ft
    ∗ mem (thr d i) (outSl i out t0) fullShare (if 0 < k then fT else f₀) ∗ mem (thr d i) (outSl i out t1) fullShare (if 1 < k then fT else f₀)
    ∗ scratch d i ids rid rows obuf ∗ cells d i gs sA sB ∗ dues d i O W)

variable (hR : 8 * R ≤ 2 ^ 31) (hN : ∑ j, (rows.slice (S256x128.rowRect hg.axis' j) (S256x128.stride_rowRect hg.axis' j)).view.dmaCredit = rows.view.dmaCredit)
  (q : PosShare TreeShare) (fs : Buf (Elt F) (idA.view.loc (thr d i))) (ft : Buf (Elt F) (tab.view.loc (thr d i))) (f₀ fT : Buf (Elt F) (out.view.loc (thr d i)))
  (hlt : ∀ b, (idA.view.read (Elt F) fs b).toNat < 8 * R) (hT : ∀ y, out.view.read (Elt F) fT y = recs (idA.view.read (Elt F) fs) (tab.view.read (Elt F) ft) hlt y)
  (O : CellTallies nD τ sig (HIx 1)) (W : Waits sig (HIx 1))

include hR hN hT in
/-- A chunk keeps the loop's invariant. -/
theorem tableInv_step (t : Fin k0_t1_loop.trips) :
    tableInv d i ids rid rows obuf gs idA tab out sA sB q fs ft f₀ fT O W t.val
      ⊢ twp d i (chunk i ids hids rid rows hrows obuf hobuf gs idA tab hg hr hin out sA sB t)
          (fun _ => tableInv d i ids rid rows obuf gs idA tab out sA sB q fs ft f₀ fT O W (t.val + 1)) := by
  have hc := chunk_wp d i ids hids rid rows hrows obuf hobuf gs idA tab hg hr hin out sA sB hR hN q q fs ft f₀ fT hlt hT O W t
  have hfr : iprop((Transfers.MayWaits (thr d i) (default : HIx 1) O ∗ mem (thr d i) idA q fs ∗ mem (thr d i) tab q ft ∗ mem (thr d i) (outSl i out t) fullShare f₀
        ∗ scratch d i ids rid rows obuf ∗ cells d i gs sA sB ∗ dues d i O W))
      ⊢ twp d i (chunk i ids hids rid rows hrows obuf hobuf gs idA tab hg hr hin out sA sB t) (fun _ =>
          iprop(mem (thr d i) idA q fs ∗ mem (thr d i) tab q ft ∗ mem (thr d i) (outSl i out t) fullShare fT
            ∗ scratch d i ids rid rows obuf ∗ cells d i gs sA sB ∗ dues d i O W)) := hc
  rcases chunks_cases t with rfl | rfl
  · unfold tableInv
    iintro ⟨#Hm, HI, HT, H0, H1, HS, HC, HD⟩
    iapply (wp_wand_r frame (wpE (defs₀ (F := F)) 𝒱₀ (thr d i) none) Set.univ)
    isplitl [HI HT H0 HS HC HD]
    · iapply hfr
      isplitr; · iexact Hm
      isplitl [HI]; · iexact HI
      isplitl [HT]; · iexact HT
      isplitl [H0]; · iexact H0
      isplitl [HS]; · iexact HS
      isplitl [HC]; · iexact HC
      iexact HD
    · iintro %_ ⟨HI, HT, H0, HS, HC, HD⟩
      isplitr; · iexact Hm
      isplitl [HI]; · iexact HI
      isplitl [HT]; · iexact HT
      isplitl [H0]; · iexact H0
      isplitl [H1]; · iexact H1
      isplitl [HS]; · iexact HS
      isplitl [HC]; · iexact HC
      iexact HD
  · unfold tableInv
    iintro ⟨#Hm, HI, HT, H0, H1, HS, HC, HD⟩
    iapply (wp_wand_r frame (wpE (defs₀ (F := F)) 𝒱₀ (thr d i) none) Set.univ)
    isplitl [HI HT H1 HS HC HD]
    · iapply hfr
      isplitr; · iexact Hm
      isplitl [HI]; · iexact HI
      isplitl [HT]; · iexact HT
      isplitl [H1]; · iexact H1
      isplitl [HS]; · iexact HS
      isplitl [HC]; · iexact HC
      iexact HD
    · iintro %_ ⟨HI, HT, H1, HS, HC, HD⟩
      isplitr; · iexact Hm
      isplitl [HI]; · iexact HI
      isplitl [HT]; · iexact HT
      isplitl [H0]; · iexact H0
      isplitl [H1]; · iexact H1
      isplitl [HS]; · iexact HS
      isplitl [HC]; · iexact HC
      iexact HD

/-- Three cells of the tile's own, out of all of them. -/
theorem ownSems_three {a b c : SemLoc sig} (ha : a.isScoped .scVector = true) (hb : b.isScoped .scVector = true) (hc : c.isScoped .scVector = true)
    (hab : b ≠ a) (hac : c ≠ a) (hbc : c ≠ b) :
    (ownSems0 (thr d i) : sProp (MM F)) = iprop(semVal (thr d i, a) 0 ∗ semVal (thr d i, b) 0 ∗ semVal (thr d i, c) 0
      ∗ bigSep ((((ownCells (thr d i)).erase (thr d i, a)).erase (thr d i, b)).erase (thr d i, c)) fun g => semVal g 0) := by
  have ne : ∀ {x y : SemLoc sig}, x ≠ y → ((thr d i, x) : GSem nD τ sig) ≠ (thr d i, y) := fun h e => h (Prod.mk.inj e).2
  unfold SparseCore.Cfg.ownSems0
  rw [SparseCore.bigSep_erase' ((mem_ownCells (g := (thr d i, a))).mpr ⟨rfl, ha⟩),
    SparseCore.bigSep_erase' (Finset.mem_erase.mpr ⟨ne hab, (mem_ownCells (g := (thr d i, b))).mpr ⟨rfl, hb⟩⟩),
    SparseCore.bigSep_erase' (Finset.mem_erase.mpr ⟨ne hbc, Finset.mem_erase.mpr ⟨ne hac, (mem_ownCells (g := (thr d i, c))).mpr ⟨rfl, hc⟩⟩⟩)]

include hR hN hT in
/-- A table's work, with its cells among the tile's. -/
theorem table_wp (hg' : (SemLoc.dma gs.sem : SemLoc sig).isScoped .scVector = true) (hA : (SemLoc.dma sA.sem : SemLoc sig).isScoped .scVector = true)
    (hB : (SemLoc.dma sB.sem : SemLoc sig).isScoped .scVector = true) (hAg : (SemLoc.dma sA.sem : SemLoc sig) ≠ .dma gs.sem)
    (hBg : (SemLoc.dma sB.sem : SemLoc sig) ≠ .dma gs.sem) (hBA : (SemLoc.dma sB.sem : SemLoc sig) ≠ .dma sA.sem) :
    iprop(Transfers.MayWaits (thr d i) (default : HIx 1) O ∗ tabRes d i idA tab out q fs ft f₀ ∗ scratch d i ids rid rows obuf ∗ ownSems0 (thr d i) ∗ dues d i O W)
      ⊢ twp d i (table i ids hids rid rows hrows obuf hobuf gs idA tab hg hr hin out sA sB) (fun _ =>
          iprop(tabRes d i idA tab out q fs ft fT ∗ scratch d i ids rid rows obuf ∗ ownSems0 (thr d i) ∗ dues d i O W)) := by
  rw [ownSems_three (F := F) d i hg' hA hB hAg hBg hBA]
  unfold tabRes table
  iintro ⟨#Hm, ⟨HI, HT, H0, H1⟩, HS, ⟨HG, HA, HB, Hrest⟩, HD⟩
  iapply (Scf.wp_for frame (wpE (defs₀ (F := F)) 𝒱₀ (thr d i) none) Set.univ _ _ _ _ _ _
    (fun k _ => tableInv d i ids rid rows obuf gs idA tab out sA sB q fs ft f₀ fT O W k)
    (fun k _ => tableInv_step d i ids hids rid rows hrows obuf hobuf gs idA tab hg hr hin out sA sB hR hN q fs ft f₀ fT hlt hT O W k))
  isplitr [Hrest]
  · unfold tableInv cells
    isplitr; · iexact Hm
    isplitl [HI]; · iexact HI
    isplitl [HT]; · iexact HT
    isplitl [H0]; · iexact H0
    isplitl [H1]; · iexact H1
    isplitl [HS]; · iexact HS
    isplitl [HG HA HB]
    · isplitl [HG]; · iexact HG
      isplitl [HA] <;> iassumption
    iexact HD
  · iintro %_ H
    rw [show Scf.trips k0_t1_loop.lb k0_t1_loop.ub k0_t1_loop.st = 2 from trips1]
    unfold tableInv cells
    icases H with ⟨-, HI, HT, H0, H1, HS, ⟨HG, HA, HB⟩, HD⟩
    isplitl [HI HT H0 H1]
    · isplitl [HI]; · iexact HI
      isplitl [HT]; · iexact HT
      isplitl [H0]; · iexact H0
      iexact H1
    isplitl [HS]; · iexact HS
    isplitr [HD]
    · isplitl [HG]; · iexact HG
      isplitl [HA]; · iexact HA
      isplitl [HB]; · iexact HB
      iexact Hrest
    iexact HD

end Table

/-- The rows of the row buffer weigh together what the buffer does. -/
theorem rows_credit {R : Nat} (hg : Shape.Gathers ⟨2, ![R, 128]⟩ 0 S256x128) :
    ∑ j, ((Memref.whole cc0_scratch2 : Memref sig .scVector .vmem S256x128 .f32).slice (S256x128.rowRect hg.axis' j) (S256x128.stride_rowRect hg.axis' j)).view.dmaCredit
      = (Memref.whole cc0_scratch2 : Memref sig .scVector .vmem S256x128 .f32).view.dmaCredit := by
  have e : ∀ j, ((Memref.whole cc0_scratch2 : Memref sig .scVector .vmem S256x128 .f32).slice (S256x128.rowRect hg.axis' j) (S256x128.stride_rowRect hg.axis' j)).view.dmaCredit
      = sig.dmaCredit .scVector _ (Memref.whole cc0_scratch2 : Memref sig .scVector .vmem S256x128 .f32).view.buf (S256x128.rowShape 0) .f32 := fun j => rfl
  rw [Finset.sum_congr rfl fun j _ => e j, Finset.sum_const]
  exact (by decide : (256 : ℕ) • sig.dmaCredit .scVector _ (Memref.whole cc0_scratch2 : Memref sig .scVector .vmem S256x128 .f32).view.buf (S256x128.rowShape 0) .f32
    = (Memref.whole cc0_scratch2 : Memref sig .scVector .vmem S256x128 .f32).view.dmaCredit)

end Cert.Proof.Tile

end
-- ==== Proof.Tile.lean ====
/-
  A tile's whole body. What the SparseCore call computes is written as nine operations on the device's buffers, one per
  table; the tile is handed its share of the call's operands and gives them back with its slices of the outputs at what
  those operations say.
-/
module

public import proofs.«01_k».proof.Proof.Table

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem

/-- `recs`, for any identifiers: a row number is taken below the table's row count. -/
def recT {α : Type} {R : ℕ} (hR : 0 < R) (iv : S16384.Idx → BitVec 32) (tv : (⟨2, ![R, 128]⟩ : Shape).Idx → α) : S262144.Idx → α := fun n =>
  have hn : (n 0).val < 262144 := (n 0).isLt
  tv (fun a => match a with
    | 0 => ⟨(iv (ix16384 ((n 0).val / 16) (by omega))).toNat / 8 % R, Nat.mod_lt _ hR⟩
    | 1 => ⟨16 * ((iv (ix16384 ((n 0).val / 16) (by omega))).toNat % 8) + (n 0).val % 16, show _ < 128 by omega⟩)

theorem recT_eq {α : Type} {R : ℕ} (hR : 0 < R) (iv : S16384.Idx → BitVec 32) (tv : (⟨2, ![R, 128]⟩ : Shape).Idx → α) (hlt : ∀ b, (iv b).toNat < 8 * R) (n : S262144.Idx) :
    recT hR iv tv n = recs iv tv hlt n := by
  have hn : (n 0).val < 262144 := (n 0).isLt
  have h := hlt (ix16384 ((n 0).val / 16) (by omega))
  unfold recT recs
  refine congrArg tv (funext fun a => ?_)
  match a with
  | 0 => exact Fin.ext (Nat.mod_eq_of_lt (by omega))
  | 1 => rfl

variable {F : FTy → Type} [FloatOps F]

/-- What the call computes, an operation per table. -/
def scOps : List (HloOp τ sig (Elt F)) :=
  [StableHlo.binary main_arg1 main_v1 main_v18_0 (recT (α := F .f32) (R := 125) (by decide)),
   StableHlo.binary main_arg2 main_v3 main_v18_1 (recT (α := F .f32) (R := 125) (by decide)),
   StableHlo.binary main_arg3 main_v5 main_v18_2 (recT (α := F .f32) (R := 12500) (by decide)),
   StableHlo.binary main_arg4 main_v7 main_v18_3 (recT (α := F .f32) (R := 12500) (by decide)),
   StableHlo.binary main_arg5 main_v9 main_v18_4 (recT (α := F .f32) (R := 12500) (by decide)),
   StableHlo.binary main_arg6 main_v11 main_v18_5 (recT (α := F .f32) (R := 12500) (by decide)),
   StableHlo.binary main_arg7 main_v13 main_v18_6 (recT (α := F .f32) (R := 12500) (by decide)),
   StableHlo.binary main_arg8 main_v15 main_v18_7 (recT (α := F .f32) (R := 12500) (by decide)),
   StableHlo.binary main_arg9 main_v17 main_v18_8 (recT (α := F .f32) (R := 4) (by decide))]

/-- The identifiers lie within their tables. -/
structure IdsOk (X : Valuation τ sig (Elt F)) : Prop where
  h1 : ∀ b : S16384.Idx, BitVec.toNat (w := 32) (X (Proc.devRef .tc main_arg1) b) < 1000
  h2 : ∀ b : S16384.Idx, BitVec.toNat (w := 32) (X (Proc.devRef .tc main_arg2) b) < 1000
  h3 : ∀ b : S16384.Idx, BitVec.toNat (w := 32) (X (Proc.devRef .tc main_arg3) b) < 100000
  h4 : ∀ b : S16384.Idx, BitVec.toNat (w := 32) (X (Proc.devRef .tc main_arg4) b) < 100000
  h5 : ∀ b : S16384.Idx, BitVec.toNat (w := 32) (X (Proc.devRef .tc main_arg5) b) < 100000
  h6 : ∀ b : S16384.Idx, BitVec.toNat (w := 32) (X (Proc.devRef .tc main_arg6) b) < 100000
  h7 : ∀ b : S16384.Idx, BitVec.toNat (w := 32) (X (Proc.devRef .tc main_arg7) b) < 100000
  h8 : ∀ b : S16384.Idx, BitVec.toNat (w := 32) (X (Proc.devRef .tc main_arg8) b) < 100000
  h9 : ∀ b : S16384.Idx, BitVec.toNat (w := 32) (X (Proc.devRef .tc main_arg9) b) < 26

variable (d : Dev nD) (i : grid0.Coords)

/-- A tile's number, of the thirty-two. -/
abbrev tileNo (i : grid0.Coords) : Fin 32 := ⟨(i 1).val * 2 + (i 0).val, by have h0 : (i 0).val < 2 := (i 0).isLt; have h1 : (i 1).val < 16 := (i 1).isLt; omega⟩

/-- The share of an operand tile number `w` reads through. -/
abbrev tq (w : Fin 32) : PosShare TreeShare := Transfers.dealOf fullShare Finset.univ w

/-- What the tile is handed of the call's operands and gives back: the inputs at `X`, its slices of the outputs at `Y`. -/
def tileRes (X Y : Valuation τ sig (Elt F)) : sProp (MM F) :=
  iprop(tabRes d i (Memref.whole main_arg1_scv) (Memref.whole main_v1_scv) (Memref.whole main_v18_0_scv) (tq (tileNo i)) (X (Proc.devRef .tc main_arg1)) (X (Proc.devRef .tc main_v1)) (Y (Proc.devRef .tc main_v18_0))
    ∗ tabRes d i (Memref.whole main_arg2_scv) (Memref.whole main_v3_scv) (Memref.whole main_v18_1_scv) (tq (tileNo i)) (X (Proc.devRef .tc main_arg2)) (X (Proc.devRef .tc main_v3)) (Y (Proc.devRef .tc main_v18_1))
    ∗ tabRes d i (Memref.whole main_arg3_scv) (Memref.whole main_v5_scv) (Memref.whole main_v18_2_scv) (tq (tileNo i)) (X (Proc.devRef .tc main_arg3)) (X (Proc.devRef .tc main_v5)) (Y (Proc.devRef .tc main_v18_2))
    ∗ tabRes d i (Memref.whole main_arg4_scv) (Memref.whole main_v7_scv) (Memref.whole main_v18_3_scv) (tq (tileNo i)) (X (Proc.devRef .tc main_arg4)) (X (Proc.devRef .tc main_v7)) (Y (Proc.devRef .tc main_v18_3))
    ∗ tabRes d i (Memref.whole main_arg5_scv) (Memref.whole main_v9_scv) (Memref.whole main_v18_4_scv) (tq (tileNo i)) (X (Proc.devRef .tc main_arg5)) (X (Proc.devRef .tc main_v9)) (Y (Proc.devRef .tc main_v18_4))
    ∗ tabRes d i (Memref.whole main_arg6_scv) (Memref.whole main_v11_scv) (Memref.whole main_v18_5_scv) (tq (tileNo i)) (X (Proc.devRef .tc main_arg6)) (X (Proc.devRef .tc main_v11)) (Y (Proc.devRef .tc main_v18_5))
    ∗ tabRes d i (Memref.whole main_arg7_scv) (Memref.whole main_v13_scv) (Memref.whole main_v18_6_scv) (tq (tileNo i)) (X (Proc.devRef .tc main_arg7)) (X (Proc.devRef .tc main_v13)) (Y (Proc.devRef .tc main_v18_6))
    ∗ tabRes d i (Memref.whole main_arg8_scv) (Memref.whole main_v15_scv) (Memref.whole main_v18_7_scv) (tq (tileNo i)) (X (Proc.devRef .tc main_arg8)) (X (Proc.devRef .tc main_v15)) (Y (Proc.devRef .tc main_v18_7))
    ∗ tabRes d i (Memref.whole main_arg9_scv) (Memref.whole main_v17_scv) (Memref.whole main_v18_8_scv) (tq (tileNo i)) (X (Proc.devRef .tc main_arg9)) (X (Proc.devRef .tc main_v17)) (Y (Proc.devRef .tc main_v18_8))
    ∗ emp)

/-- The tile's own state between tables: its scratch, its cells at rest, its dues. -/
def tileOwn (O : CellTallies nD τ sig (HIx 1)) (W : Waits sig (HIx 1)) : sProp (MM F) :=
  iprop(scratch d i (Memref.whole cc0_scratch0) (Memref.whole cc0_scratch1) (Memref.whole cc0_scratch2) (Memref.whole cc0_scratch3)
    ∗ ownSems0 (thr d i) ∗ dues d i O W)

/-- One table's work, then the rest. -/
theorem then_wp {M A A' B B' C : sProp (MM F)} [BI.Persistent M] {p k : TP F i PUnit}
    (h : iprop(M ∗ A ∗ C) ⊢ twp d i p (fun _ => iprop(A' ∗ C))) (hk : iprop(M ∗ B ∗ C) ⊢ twp d i k (fun _ => iprop(B' ∗ C))) :
    iprop(M ∗ (A ∗ B) ∗ C) ⊢ twp d i (p >>= fun _ => k) (fun _ => iprop((A' ∗ B') ∗ C)) := by
  unfold twp
  rw [wp_bind]
  iintro ⟨#HM, ⟨HA, HB⟩, HC⟩
  iapply (wp_wand_r frame (wpE (defs₀ (F := F)) 𝒱₀ (thr d i) none) Set.univ)
  isplitl [HA HC]
  · iapply h
    isplitr; · iexact HM
    isplitl [HA] <;> iassumption
  iintro %_ ⟨HA, HC⟩
  iapply (wp_wand_r frame (wpE (defs₀ (F := F)) 𝒱₀ (thr d i) none) Set.univ)
  isplitl [HB HC]
  · iapply hk
    isplitr; · iexact HM
    isplitl [HB] <;> iassumption
  iintro %_ ⟨HB, HC⟩
  isplitr [HC]
  · isplitl [HA] <;> iassumption
  iexact HC

/-- Nothing left to do. -/
theorem done_wp {M C : sProp (MM F)} : iprop(M ∗ emp ∗ C) ⊢ twp d i (pure ⟨⟩ : TP F i PUnit) (fun _ => iprop(emp ∗ C)) := by
  unfold twp
  iintro ⟨-, H⟩
  iapply (le_wp_ret frame (wpE (defs₀ (F := F)) 𝒱₀ (thr d i) none) Set.univ)
  iexact H

/-- A table's work, over whole buffers, with the tile's own state. -/
theorem table_tile {R : ℕ} (hR : 8 * R ≤ 2 ^ 31) (hR0 : 0 < R) (gs : DmaSems sig S_) (idA : Memref sig .scVector .hbm S16384 .i32) (tab : Memref sig .scVector .hbm ⟨2, ![R, 128]⟩ .f32)
    (hg : Shape.Gathers ⟨2, ![R, 128]⟩ 0 S256x128) (hr : Shape.StreamRows ⟨2, ![R, 128]⟩ 0)
    (hin : ∀ a, (![0, 0] : Fin 2 → Nat) a + (⟨2, ![R, 128]⟩ : Shape).size a ≤ (⟨2, ![R, 128]⟩ : Shape).size a)
    (out : Memref sig .scVector .hbm S262144 .f32) (sA sB : DmaSems sig S_)
    (q : PosShare TreeShare) (fs : Buf (Elt F) (idA.view.loc (thr d i))) (ft : Buf (Elt F) (tab.view.loc (thr d i))) (f₀ fT : Buf (Elt F) (out.view.loc (thr d i)))
    (hlt : ∀ b, (idA.view.read (Elt F) fs b).toNat < 8 * R) (hT : ∀ y, out.view.read (Elt F) fT y = recT hR0 (idA.view.read (Elt F) fs) (tab.view.read (Elt F) ft) y)
    (O : CellTallies nD τ sig (HIx 1)) (W : Waits sig (HIx 1))
    (hg' : (SemLoc.dma gs.sem : SemLoc sig).isScoped .scVector = true) (hA : (SemLoc.dma sA.sem : SemLoc sig).isScoped .scVector = true)
    (hB : (SemLoc.dma sB.sem : SemLoc sig).isScoped .scVector = true) (hAg : (SemLoc.dma sA.sem : SemLoc sig) ≠ .dma gs.sem)
    (hBg : (SemLoc.dma sB.sem : SemLoc sig) ≠ .dma gs.sem) (hBA : (SemLoc.dma sB.sem : SemLoc sig) ≠ .dma sA.sem) :
    iprop(Transfers.MayWaits (thr d i) (default : HIx 1) O ∗ tabRes d i idA tab out q fs ft f₀ ∗ tileOwn d i O W)
      ⊢ twp d i (table i (Memref.whole cc0_scratch0) (Memref.isWhole_whole _) (Memref.whole cc0_scratch1) (Memref.whole cc0_scratch2) (Memref.isWhole_whole _)
          (Memref.whole cc0_scratch3) (Memref.isWhole_whole _) gs idA tab hg hr hin out sA sB) (fun _ => iprop(tabRes d i idA tab out q fs ft fT ∗ tileOwn d i O W)) :=
  table_wp d i (Memref.whole cc0_scratch0) (Memref.isWhole_whole _) (Memref.whole cc0_scratch1) (Memref.whole cc0_scratch2) (Memref.isWhole_whole _)
    (Memref.whole cc0_scratch3) (Memref.isWhole_whole _) gs idA tab hg hr hin out sA sB hR (rows_credit hg) q fs ft f₀ fT hlt
    (fun y => (hT y).trans (recT_eq hR0 _ _ hlt y)) O W hg' hA hB hAg hBg hBA

theorem sc_out0 (X : Valuation τ sig (Elt F)) : StableHlo.after scOps X (Proc.devRef .tc main_v18_0)
    = recT (α := F .f32) (R := 125) (by decide) (X (Proc.devRef .tc main_arg1)) (X (Proc.devRef .tc main_v1)) := by
  unfold scOps; after_results
theorem sc_out1 (X : Valuation τ sig (Elt F)) : StableHlo.after scOps X (Proc.devRef .tc main_v18_1)
    = recT (α := F .f32) (R := 125) (by decide) (X (Proc.devRef .tc main_arg2)) (X (Proc.devRef .tc main_v3)) := by
  unfold scOps; after_results
theorem sc_out2 (X : Valuation τ sig (Elt F)) : StableHlo.after scOps X (Proc.devRef .tc main_v18_2)
    = recT (α := F .f32) (R := 12500) (by decide) (X (Proc.devRef .tc main_arg3)) (X (Proc.devRef .tc main_v5)) := by
  unfold scOps; after_results
theorem sc_out3 (X : Valuation τ sig (Elt F)) : StableHlo.after scOps X (Proc.devRef .tc main_v18_3)
    = recT (α := F .f32) (R := 12500) (by decide) (X (Proc.devRef .tc main_arg4)) (X (Proc.devRef .tc main_v7)) := by
  unfold scOps; after_results
theorem sc_out4 (X : Valuation τ sig (Elt F)) : StableHlo.after scOps X (Proc.devRef .tc main_v18_4)
    = recT (α := F .f32) (R := 12500) (by decide) (X (Proc.devRef .tc main_arg5)) (X (Proc.devRef .tc main_v9)) := by
  unfold scOps; after_results
theorem sc_out5 (X : Valuation τ sig (Elt F)) : StableHlo.after scOps X (Proc.devRef .tc main_v18_5)
    = recT (α := F .f32) (R := 12500) (by decide) (X (Proc.devRef .tc main_arg6)) (X (Proc.devRef .tc main_v11)) := by
  unfold scOps; after_results
theorem sc_out6 (X : Valuation τ sig (Elt F)) : StableHlo.after scOps X (Proc.devRef .tc main_v18_6)
    = recT (α := F .f32) (R := 12500) (by decide) (X (Proc.devRef .tc main_arg7)) (X (Proc.devRef .tc main_v13)) := by
  unfold scOps; after_results
theorem sc_out7 (X : Valuation τ sig (Elt F)) : StableHlo.after scOps X (Proc.devRef .tc main_v18_7)
    = recT (α := F .f32) (R := 12500) (by decide) (X (Proc.devRef .tc main_arg8)) (X (Proc.devRef .tc main_v15)) := by
  unfold scOps; after_results
theorem sc_out8 (X : Valuation τ sig (Elt F)) : StableHlo.after scOps X (Proc.devRef .tc main_v18_8)
    = recT (α := F .f32) (R := 4) (by decide) (X (Proc.devRef .tc main_arg9)) (X (Proc.devRef .tc main_v17)) := by
  unfold scOps; after_results

set_option maxRecDepth 16384 in
set_option maxHeartbeats 4000000 in
/-- The printed body, from the operands to the results. -/
theorem kernel_wp (X : Valuation τ sig (Elt F)) (hX : IdsOk X) (O : CellTallies nD τ sig (HIx 1)) (W : Waits sig (HIx 1)) :
    iprop(Transfers.MayWaits (thr d i) (default : HIx 1) O ∗ tileRes d i X X ∗ tileOwn d i O W)
      ⊢ twp d i (cc0_k (F := F) i (Memref.whole main_arg1_scv) (Memref.isWhole_whole _) (Memref.whole main_arg2_scv) (Memref.isWhole_whole _)
          (Memref.whole main_arg3_scv) (Memref.isWhole_whole _) (Memref.whole main_arg4_scv) (Memref.isWhole_whole _) (Memref.whole main_arg5_scv) (Memref.isWhole_whole _)
          (Memref.whole main_arg6_scv) (Memref.isWhole_whole _) (Memref.whole main_arg7_scv) (Memref.isWhole_whole _) (Memref.whole main_arg8_scv) (Memref.isWhole_whole _)
          (Memref.whole main_arg9_scv) (Memref.isWhole_whole _) (Memref.whole main_v1_scv) (Memref.isWhole_whole _) (Memref.whole main_v3_scv) (Memref.isWhole_whole _)
          (Memref.whole main_v5_scv) (Memref.isWhole_whole _) (Memref.whole main_v7_scv) (Memref.isWhole_whole _) (Memref.whole main_v9_scv) (Memref.isWhole_whole _)
          (Memref.whole main_v11_scv) (Memref.isWhole_whole _) (Memref.whole main_v13_scv) (Memref.isWhole_whole _) (Memref.whole main_v15_scv) (Memref.isWhole_whole _)
          (Memref.whole main_v17_scv) (Memref.isWhole_whole _) (Memref.whole main_v18_0_scv) (Memref.isWhole_whole _) (Memref.whole main_v18_1_scv) (Memref.isWhole_whole _)
          (Memref.whole main_v18_2_scv) (Memref.isWhole_whole _) (Memref.whole main_v18_3_scv) (Memref.isWhole_whole _) (Memref.whole main_v18_4_scv) (Memref.isWhole_whole _)
          (Memref.whole main_v18_5_scv) (Memref.isWhole_whole _) (Memref.whole main_v18_6_scv) (Memref.isWhole_whole _) (Memref.whole main_v18_7_scv) (Memref.isWhole_whole _)
          (Memref.whole main_v18_8_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4
          cc0_scoped0 cc0_scoped1 cc0_scoped2 cc0_scoped3 cc0_scoped4 cc0_scoped5 cc0_scoped6 cc0_scoped7 cc0_scoped8 cc0_scoped9 cc0_scoped10 cc0_scoped11
          cc0_scoped12 cc0_scoped13 cc0_scoped14 cc0_scoped15 cc0_scoped16 cc0_scoped17)
        (fun _ => iprop(tileRes d i X (StableHlo.after scOps X) ∗ tileOwn d i O W)) := by
  rw [kernel_eq]
  unfold tileRes
  refine then_wp d i (table_tile d i (by decide) (by decide) _ _ _ _ _ _ _ _ _ _ _ _ _ _ (by exact fun b => lt_of_lt_of_le (hX.h1 b) (by decide))
    (by exact fun y => congrFun (sc_out0 X) y) O W (by decide) (by decide) (by decide) (by decide) (by decide) (by decide)) ?_
  refine then_wp d i (table_tile d i (by decide) (by decide) _ _ _ _ _ _ _ _ _ _ _ _ _ _ (by exact fun b => lt_of_lt_of_le (hX.h2 b) (by decide))
    (by exact fun y => congrFun (sc_out1 X) y) O W (by decide) (by decide) (by decide) (by decide) (by decide) (by decide)) ?_
  refine then_wp d i (table_tile d i (by decide) (by decide) _ _ _ _ _ _ _ _ _ _ _ _ _ _ (by exact fun b => lt_of_lt_of_le (hX.h3 b) (by decide))
    (by exact fun y => congrFun (sc_out2 X) y) O W (by decide) (by decide) (by decide) (by decide) (by decide) (by decide)) ?_
  refine then_wp d i (table_tile d i (by decide) (by decide) _ _ _ _ _ _ _ _ _ _ _ _ _ _ (by exact fun b => lt_of_lt_of_le (hX.h4 b) (by decide))
    (by exact fun y => congrFun (sc_out3 X) y) O W (by decide) (by decide) (by decide) (by decide) (by decide) (by decide)) ?_
  refine then_wp d i (table_tile d i (by decide) (by decide) _ _ _ _ _ _ _ _ _ _ _ _ _ _ (by exact fun b => lt_of_lt_of_le (hX.h5 b) (by decide))
    (by exact fun y => congrFun (sc_out4 X) y) O W (by decide) (by decide) (by decide) (by decide) (by decide) (by decide)) ?_
  refine then_wp d i (table_tile d i (by decide) (by decide) _ _ _ _ _ _ _ _ _ _ _ _ _ _ (by exact fun b => lt_of_lt_of_le (hX.h6 b) (by decide))
    (by exact fun y => congrFun (sc_out5 X) y) O W (by decide) (by decide) (by decide) (by decide) (by decide) (by decide)) ?_
  refine then_wp d i (table_tile d i (by decide) (by decide) _ _ _ _ _ _ _ _ _ _ _ _ _ _ (by exact fun b => lt_of_lt_of_le (hX.h7 b) (by decide))
    (by exact fun y => congrFun (sc_out6 X) y) O W (by decide) (by decide) (by decide) (by decide) (by decide) (by decide)) ?_
  refine then_wp d i (table_tile d i (by decide) (by decide) _ _ _ _ _ _ _ _ _ _ _ _ _ _ (by exact fun b => lt_of_lt_of_le (hX.h8 b) (by decide))
    (by exact fun y => congrFun (sc_out7 X) y) O W (by decide) (by decide) (by decide) (by decide) (by decide) (by decide)) ?_
  refine then_wp d i (table_tile d i (by decide) (by decide) _ _ _ _ _ _ _ _ _ _ _ _ _ _ (by exact fun b => lt_of_lt_of_le (hX.h9 b) (by decide))
    (by exact fun y => congrFun (sc_out8 X) y) O W (by decide) (by decide) (by decide) (by decide) (by decide) (by decide)) ?_
  exact done_wp d i

end Cert.Proof.Tile

end
-- ==== Proof.Obl.lean ====
/-
  The tile's body as the launch theorem asks for it: what the handshakes carry, the obligation of a tile's task, and how a
  SparseCore's operands split into its tiles' (they are those of its tiles, so there is nothing to split).
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (d : Dev nD) (i : grid0.Coords)

/-- The tile's buffers but its four scratch buffers. -/
def restRefs (i : grid0.Coords) : Finset (DevRef τ sig) :=
  ((((ownRefs (τ := τ) (.scVector (cV i) (jV i))).erase ((Proc.scVector (cV i) (jV i)).devRef cc0_scratch0)).erase
    ((Proc.scVector (cV i) (jV i)).devRef cc0_scratch1)).erase ((Proc.scVector (cV i) (jV i)).devRef cc0_scratch2)).erase
    ((Proc.scVector (cV i) (jV i)).devRef cc0_scratch3)

/-- The tile's own buffers are its four scratch buffers and the rest. -/
theorem ownBufs_split :
    (ownBufs (thr d i) : sProp (MM F))
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (restRefs i) fun b => iprop(∃ f, ((d, b) : Loc nD τ sig) ↦{fullShare} f)) := by
  have mem : ∀ r : Ref sig .scVector, ((Proc.scVector (cV i) (jV i) : Proc τ).devRef r).owner = .proc (Proc.scVector (cV i) (jV i) : Proc τ) → (Proc.scVector (cV i) (jV i)).devRef r ∈ ownRefs (τ := τ) (.scVector (cV i) (jV i)) :=
    fun r h => SparseCore.Cfg.mem_ownRefs_of_owner (p := Proc.scVector (cV i) (jV i)) (b := (Proc.scVector (cV i) (jV i)).devRef r) h
  have ne : ∀ r r' : Ref sig .scVector, r ≠ r' → (Proc.scVector (cV i) (jV i)).devRef r ≠ (Proc.scVector (cV i) (jV i) : Proc τ).devRef r' :=
    fun r r' h e => h (Proc.devRef_injective _ e)
  unfold SparseCore.Cfg.ownBufs restRefs
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide), Finset.mem_erase.mpr ⟨ne cc0_scratch2 cc0_scratch0 (by decide), mem cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), mem cc0_scratch3 rfl⟩⟩⟩)]

/-- The tile's own buffers, as `scratch` and the rest. -/
theorem ownBufs_scratch :
    (ownBufs (thr d i) : sProp (MM F))
      ⊣⊢ iprop(scratch d i (Memref.whole cc0_scratch0) (Memref.whole cc0_scratch1) (Memref.whole cc0_scratch2) (Memref.whole cc0_scratch3)
          ∗ bigSep (restRefs i) fun b => iprop(∃ f, ((d, b) : Loc nD τ sig) ↦{fullShare} f)) := by
  have e0 : (Memref.whole cc0_scratch0 : Memref sig .scVector .vmem S256 .i32).view.set = Finset.univ := View.set_whole _
  have e1 : (Memref.whole cc0_scratch1 : Memref sig .scVector .vmem S256 .i32).view.set = Finset.univ := View.set_whole _
  have e2 : (Memref.whole cc0_scratch2 : Memref sig .scVector .vmem S256x128 .f32).view.set = Finset.univ := View.set_whole _
  have e3 : (Memref.whole cc0_scratch3 : Memref sig .scVector .vmem S4096 .f32).view.set = Finset.univ := View.set_whole _
  rw [ownBufs_split]
  unfold scratch mem
  rw [e0, e1, e2, e3]
  constructor
  · iintro ⟨H0, H1, H2, H3, H⟩
    isplitr [H]
    · isplitl [H0]; · iexact H0
      isplitl [H1]; · iexact H1
      isplitl [H2]; · iexact H2
      iexact H3
    iexact H
  · iintro ⟨⟨H0, H1, H2, H3⟩, H⟩
    isplitl [H0]; · iexact H0
    isplitl [H1]; · iexact H1
    isplitl [H2]; · iexact H2
    isplitl [H3]; · iexact H3
    iexact H

set_option maxRecDepth 16384 in
set_option maxHeartbeats 1000000 in
/-- The body with the storage the launch deals a tile. -/
theorem tile_body (X : Valuation τ sig (Elt F)) (hX : IdsOk X) (O : CellTallies nD τ sig (HIx 1)) (W : Waits sig (HIx 1)) (hO : ∀ g, O g none = 0)
    {p : TP F i PUnit}
    (hp : iprop(Transfers.MayWaits (thr d i) (default : HIx 1) O ∗ tileRes d i X X ∗ tileOwn d i O W)
      ⊢ twp d i p (fun _ => iprop(tileRes d i X (StableHlo.after scOps X) ∗ tileOwn d i O W))) :
    iprop(levAts (K F).L (K F).lev ∗ emp ∗ tileRes d i X X ∗ scopedBufs (thr d i) ∗ scopedSems0 (thr d i) ∗ owes (thr d i) O W)
      ⊢ wp frame (wpE (defs₀ (F := F)) 𝒱₀ (thr d i) none) Set.univ p
          fun _ => iprop(tileRes d i X (StableHlo.after scOps X) ∗ scopedBufs (thr d i) ∗ scopedSems0 (thr d i)
            ∗ ∃ W', ⌜∀ p ∈ W', p ∈ W ∨ p.2 = none ∨ p.2 = some (0 : Fin 1)⌝ ∗ owes (thr d i) O W') := by
  rw [(K F).scopedBufs_V facts d (cV i) (jV i), SparseCore.Cfg.scopedSems0_V (Val := Elt F) d (cV i) (jV i)]
  iintro ⟨#Hlv, -, HR, HB, HS, HO⟩
  ihave Hmw := (show levAts (K F).L (K F).lev ⊢ Transfers.MayWaits (thr d i) (default : HIx 1) O from
    (K F).mayWaits_none (thr := thr d i) hO) $$ Hlv
  ihave HB := (ownBufs_scratch (F := F) d i).1 $$ HB
  icases HB with ⟨HB, Hrest⟩
  iapply (wp_wand_r frame (wpE (defs₀ (F := F)) 𝒱₀ (thr d i) none) Set.univ)
  isplitl [HR HB HS HO Hmw]
  · iapply hp
    isplitl [Hmw]; · iexact Hmw
    isplitl [HR]; · iexact HR
    unfold tileOwn dues
    isplitl [HB]; · iexact HB
    isplitl [HS]; · iexact HS
    iexists W; isplitr
    · ipureintro; exact fun p h => .inl h
    iexact HO
  iintro %_ ⟨HR, H⟩
  unfold tileOwn dues
  icases H with ⟨HB, HS, %W', %hW', HO⟩
  isplitl [HR]; · iexact HR
  isplitl [HB Hrest]
  · iapply (ownBufs_scratch (F := F) d i).2
    isplitl [HB] <;> iassumption
  isplitl [HS]; · iexact HS
  iexists W'; isplitr
  · ipureintro; exact fun p h => (hW' p h).imp_right .inl
  iexact HO

end Body

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of the call's SparseCore `c` and tile `i`. -/
abbrev ptOf (c : Fin ((K F).nCore 0)) (i : Fin ((K F).nSub 0)) : grid0.Coords := coordsV ⟨c.val, c.isLt⟩ ⟨i.val, i.isLt⟩

/-- What the handshakes carry: a SparseCore its tiles' operands, a tile its own, and back. -/
def P (X : Dev nD → Valuation τ sig (Elt F)) : (K F).Pay (nD := nD) (Val := Elt F) (Name := ℕ) (U := UU) where
  st := fun q d c => match q with | 0 => bigSep Finset.univ fun i : Fin ((K F).nSub 0) => tileRes d (ptOf (F := F) c i) (X d) (X d)
  dn := fun q d c => match q with | 0 => bigSep Finset.univ fun i : Fin ((K F).nSub 0) => tileRes d (ptOf (F := F) c i) (X d) (StableHlo.after scOps (X d))
  go := fun q d c i => match q with | 0 => tileRes d (ptOf (F := F) c i) (X d) (X d)
  td := fun q d c i => match q with | 0 => tileRes d (ptOf (F := F) c i) (X d) (StableHlo.after scOps (X d))
  x := fun _ _ => iprop(emp)

instance tabRes_storable (d : Dev nD) (i : grid0.Coords) {hT : ℕ} (idA : Memref sig .scVector .hbm S16384 .i32) (tab : Memref sig .scVector .hbm ⟨2, ![hT, 128]⟩ .f32)
    (out : Memref sig .scVector .hbm S262144 .f32) (q : PosShare TreeShare) (fs ft f) :
    BI.Storable (upEmb : UEmb _ (MM F)) (tabRes d i idA tab out q fs ft f) := by
  unfold tabRes; infer_instance

/-- Two storable assertions held apart are storable. -/
theorem sep_storable {A B : sProp (MM F)} (hA : BI.Storable (upEmb : UEmb _ (MM F)) A) (hB : BI.Storable (upEmb : UEmb _ (MM F)) B) :
    BI.Storable (upEmb : UEmb _ (MM F)) iprop(A ∗ B) := inferInstance

instance tileRes_storable (d : Dev nD) (i : grid0.Coords) (X Y : Valuation τ sig (Elt F)) : BI.Storable (upEmb : UEmb _ (MM F)) (tileRes d i X Y) := by
  unfold tileRes
  refine sep_storable (tabRes_storable ..) ?_
  refine sep_storable (tabRes_storable ..) ?_
  refine sep_storable (tabRes_storable ..) ?_
  refine sep_storable (tabRes_storable ..) ?_
  refine sep_storable (tabRes_storable ..) ?_
  refine sep_storable (tabRes_storable ..) ?_
  refine sep_storable (tabRes_storable ..) ?_
  refine sep_storable (tabRes_storable ..) ?_
  exact sep_storable (tabRes_storable ..) inferInstance

attribute [local irreducible] tileRes

instance P_storable (X : Dev nD → Valuation τ sig (Elt F)) : (P X).IsStorable where
  st q d c := match q with | 0 => (inferInstance : BI.Storable (upEmb : UEmb _ (MM F)) (bigSep Finset.univ fun i : Fin ((K F).nSub 0) => tileRes d (ptOf (F := F) c i) (X d) (X d)))
  dn q d c := match q with | 0 => (inferInstance : BI.Storable (upEmb : UEmb _ (MM F)) (bigSep Finset.univ fun i : Fin ((K F).nSub 0) => tileRes d (ptOf (F := F) c i) (X d) (StableHlo.after scOps (X d))))
  go q d c i := match q with | 0 => tileRes_storable d (ptOf (F := F) c i) (X d) (X d)
  td q d c i := match q with | 0 => tileRes_storable d (ptOf (F := F) c i) (X d) (StableHlo.after scOps (X d))

set_option maxRecDepth 16384 in
/-- The task of a vector subcore is the kernel at its grid point. -/
theorem defs₀_vector (c : Fin τ.nSC) (s : Fin τ.nSub) :
    defs₀ (F := F) (.scVector c s) 0 ()
      = SparseCore.onTile hcore0 hsub0 (fun c s => cc0_k (F := F) (coordsV c s) (Memref.whole main_arg1_scv) (Memref.isWhole_whole _) (Memref.whole main_arg2_scv) (Memref.isWhole_whole _)
          (Memref.whole main_arg3_scv) (Memref.isWhole_whole _) (Memref.whole main_arg4_scv) (Memref.isWhole_whole _) (Memref.whole main_arg5_scv) (Memref.isWhole_whole _)
          (Memref.whole main_arg6_scv) (Memref.isWhole_whole _) (Memref.whole main_arg7_scv) (Memref.isWhole_whole _) (Memref.whole main_arg8_scv) (Memref.isWhole_whole _)
          (Memref.whole main_arg9_scv) (Memref.isWhole_whole _) (Memref.whole main_v1_scv) (Memref.isWhole_whole _) (Memref.whole main_v3_scv) (Memref.isWhole_whole _)
          (Memref.whole main_v5_scv) (Memref.isWhole_whole _) (Memref.whole main_v7_scv) (Memref.isWhole_whole _) (Memref.whole main_v9_scv) (Memref.isWhole_whole _)
          (Memref.whole main_v11_scv) (Memref.isWhole_whole _) (Memref.whole main_v13_scv) (Memref.isWhole_whole _) (Memref.whole main_v15_scv) (Memref.isWhole_whole _)
          (Memref.whole main_v17_scv) (Memref.isWhole_whole _) (Memref.whole main_v18_0_scv) (Memref.isWhole_whole _) (Memref.whole main_v18_1_scv) (Memref.isWhole_whole _)
          (Memref.whole main_v18_2_scv) (Memref.isWhole_whole _) (Memref.whole main_v18_3_scv) (Memref.isWhole_whole _) (Memref.whole main_v18_4_scv) (Memref.isWhole_whole _)
          (Memref.whole main_v18_5_scv) (Memref.isWhole_whole _) (Memref.whole main_v18_6_scv) (Memref.isWhole_whole _) (Memref.whole main_v18_7_scv) (Memref.isWhole_whole _)
          (Memref.whole main_v18_8_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4
          cc0_scoped0 cc0_scoped1 cc0_scoped2 cc0_scoped3 cc0_scoped4 cc0_scoped5 cc0_scoped6 cc0_scoped7 cc0_scoped8 cc0_scoped9 cc0_scoped10 cc0_scoped11
          cc0_scoped12 cc0_scoped13 cc0_scoped14 cc0_scoped15 cc0_scoped16 cc0_scoped17) ⟨⟩ c s := rfl

set_option maxRecDepth 16384 in
set_option maxHeartbeats 1000000 in
/-- A tile's task. -/
theorem tileObl (X : Dev nD → Valuation τ sig (Elt F)) (hX : ∀ d, IdsOk (X d)) : (K F).TileObl (D F) 𝒱 (P X) (Sum.inl none : 𝒱.V) 0 := by
  intro d c i O W hO _ _
  simp only [show (P X).ox = fun _ _ => 0 from rfl, add_zero]
  have hci : ((K F).core 0 c).val < grid0.bound 0 ∧ ((K F).sub 0 i).val < grid0.bound 1 := ⟨c.isLt, i.isLt⟩
  change _ ⊢ wp _ _ _ (Pipeline.liftProg (defs₀ (F := F) (.scVector ((K F).core 0 c) ((K F).sub 0 i)) 0 ())) _
  refine BIBase.Entails.trans ?_ (Pipeline.wp_liftProg (D F) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (X d) (hX d) O W hO (kernel_wp d (coordsV ⟨_, hci.1⟩ ⟨_, hci.2⟩) (X d) (hX d) O W)

/-- A SparseCore's operands are its tiles'. -/
theorem vecSplit (X : Dev nD → Valuation τ sig (Elt F)) : (K F).VecSplit' (P X) 0 := by
  intro d c
  show (bigSep Finset.univ fun i : Fin ((K F).nSub 0) => tileRes d (ptOf (F := F) c i) (X d) (X d)) ⊢ |={Set.univ}=> iprop(
      (bigSep Finset.univ fun i : Fin ((K F).nSub 0) => tileRes d (ptOf (F := F) c i) (X d) (X d))
      ∗ ((bigSep Finset.univ fun i : Fin ((K F).nSub 0) => tileRes d (ptOf (F := F) c i) (X d) (StableHlo.after scOps (X d)))
          -∗ bigSep Finset.univ fun i : Fin ((K F).nSub 0) => tileRes d (ptOf (F := F) c i) (X d) (StableHlo.after scOps (X d))))
  iintro H; imodintro
  isplitl [H]; · iexact H
  iintro H; iexact H

end Cert.Proof.Tile

end
-- ==== Proof.Deal.lean ====
/-
  The call's operands on the TensorCore's side: whole buffers, which are together what the thirty-two tiles are handed —
  of each input a share per tile, of each output two slices per tile.
-/
module

public import proofs.«01_k».proof.Proof.Obl

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The grid point of tile number `w`. -/
def ptW (w : Fin 32) : grid0.Coords := coordsV ⟨w.val % 2, Nat.mod_lt _ (by decide)⟩ ⟨w.val / 2, by have := w.isLt; show _ < 16; omega⟩

theorem tileNo_ptW (w : Fin 32) : tileNo (ptW w) = w := by
  apply Fin.ext
  show w.val / 2 * 2 + w.val % 2 = w.val
  omega

/-- The cells of an output that tile number `w` writes in its chunk `t`. -/
def outPart (w : Fin 32) (t : Fin 2) : Finset S262144.Idx := Finset.univ.filter fun y => (y 0).val / 4096 = 2 * w.val + t.val

theorem outPart_disjoint : ∀ p ∈ (Finset.univ : Finset (Fin 32 × Fin 2)), ∀ p' ∈ (Finset.univ : Finset (Fin 32 × Fin 2)), p ≠ p' →
    Disjoint (outPart p.1 p.2) (outPart p'.1 p'.2) := by
  rintro ⟨w, t⟩ - ⟨w', t'⟩ - hne
  rw [Finset.disjoint_left]
  intro y hy hy'
  simp only [outPart, Finset.mem_filter, Finset.mem_univ, true_and] at hy hy'
  apply hne
  have h1 := t.isLt; have h2 := t'.isLt
  exact Prod.ext (Fin.ext (by show w.val = w'.val; omega)) (Fin.ext (by show t.val = t'.val; omega))

theorem outPart_cover : (Finset.univ : Finset (Fin 32 × Fin 2)).biUnion (fun p => outPart p.1 p.2) = Finset.univ := by
  ext y
  simp only [Finset.mem_biUnion, Finset.mem_univ, true_and, iff_true]
  have hy : (y 0).val < 262144 := (y 0).isLt
  refine ⟨(⟨(y 0).val / 8192, by omega⟩, ⟨(y 0).val / 4096 % 2, by omega⟩), ?_⟩
  simp only [outPart, Finset.mem_filter, Finset.mem_univ, true_and]
  omega

/-- The rectangle of a chunk's slice is its part. -/
theorem rect_part (w : Fin 32) (t : Fin k0_t1_loop.trips) (t' : Fin 2) (ht : t.val = t'.val) :
    (Rect.unit (s := S262144) (k0_off36 (ptW w) t) S4096.size (k0_off36_inb (ptW w) t)).set = outPart w t' := by
  have hc : chunkLo (ptW w) t.val * 16 = (2 * w.val + t'.val) * 4096 := by
    have h : (ptW w 1).val * 2 + (ptW w 0).val = w.val := congrArg Fin.val (tileNo_ptW w)
    rw [ht]; unfold chunkLo; omega
  ext y
  rw [Rect.mem_set_unit, outPart, Finset.mem_filter, off36_val, hc]
  constructor
  · intro h
    have h0 := h 0
    refine ⟨Finset.mem_univ _, ?_⟩
    have h1 : (2 * w.val + t'.val) * 4096 ≤ (y 0).val := h0.1
    have h2 : (y 0).val < (2 * w.val + t'.val) * 4096 + 4096 := h0.2
    omega
  · rintro ⟨-, h⟩ a
    obtain rfl : a = 0 := Subsingleton.elim _ _
    show (2 * w.val + t'.val) * 4096 ≤ (y 0).val ∧ (y 0).val < (2 * w.val + t'.val) * 4096 + 4096
    omega

section Deal

variable (ℓs ℓt ℓo : Loc nD τ sig) (fs : Buf (Elt F) ℓs) (ft : Buf (Elt F) ℓt) (fo : Buf (Elt F) ℓo)

/-- A table's three buffers, whole. -/
abbrev triple : sProp (MM F) := iprop((ℓs ↦{fullShare} fs) ∗ (ℓt ↦{fullShare} ft) ∗ (ℓo ↦{fullShare} fo))

/-- A table's three buffers, dealt to the tiles: the inputs by shares, the output by its parts. -/
theorem triple_deal (A : Fin 32 → Fin 2 → Finset (Idx ℓo))
    (hd : ∀ p ∈ (Finset.univ : Finset (Fin 32 × Fin 2)), ∀ p' ∈ (Finset.univ : Finset (Fin 32 × Fin 2)), p ≠ p' → Disjoint (A p.1 p.2) (A p'.1 p'.2))
    (hc : (Finset.univ : Finset (Fin 32 × Fin 2)).biUnion (fun p => A p.1 p.2) = Finset.univ)
    (R : Fin 32 → sProp (MM F)) (hR : ∀ w, R w = iprop((ℓs ↦{tq w} fs) ∗ (ℓt ↦{tq w} ft) ∗ (ℓo ↦[A w 0]{fullShare} fo) ∗ (ℓo ↦[A w 1]{fullShare} fo))) :
    triple ℓs ℓt ℓo fs ft fo = bigSep Finset.univ R := by
  have hs := Transfers.pointsTo_deal (ℓ := ℓs) (S := Finset.univ) (f := fs) (Ix := HIx 1) (Name := ℕ) (U := UU) (Lvl := ℕ) (Finset.univ : Finset (Fin 32)) ⟨0, Finset.mem_univ _⟩ fullShare
  have ht := Transfers.pointsTo_deal (ℓ := ℓt) (S := Finset.univ) (f := ft) (Ix := HIx 1) (Name := ℕ) (U := UU) (Lvl := ℕ) (Finset.univ : Finset (Fin 32)) ⟨0, Finset.mem_univ _⟩ fullShare
  have ho := pointsTo_biUnion (ℓ := ℓo) (q := fullShare) (f := fo) (Ix := HIx 1) (Name := ℕ) (U := UU) (Lvl := ℕ) (Finset.univ : Finset (Fin 32 × Fin 2)) (fun p => A p.1 p.2) hd
  rw [hc, bigSep_univ_prod] at ho
  unfold triple
  rw [bigSep_congr (Ψ := fun w => iprop((ℓs ↦{tq w} fs) ∗ (ℓt ↦{tq w} ft) ∗ (ℓo ↦[A w 0]{fullShare} fo) ∗ (ℓo ↦[A w 1]{fullShare} fo))) fun w _ => hR w,
    bigSep_sep', bigSep_sep', hs, ht, ho]
  congr 2
  exact bigSep_congr fun w _ => bigSep_fin_two _

end Deal

/-- A sum over the call's SparseCores and their tiles is one over the tile numbers. -/
theorem bigSep_tiles (Φ : grid0.Coords → sProp (MM F)) :
    (bigSep Finset.univ fun c : Fin ((K F).nCore 0) => bigSep Finset.univ fun i : Fin ((K F).nSub 0) => Φ (ptOf (F := F) c i))
      = bigSep Finset.univ fun w : Fin 32 => Φ (ptW w) := by
  show (bigSep Finset.univ fun c : Fin 2 => bigSep Finset.univ fun i : Fin 16 => Φ (coordsV c i)) = _
  rw [← bigSep_univ_prod (fun p : Fin 2 × Fin 16 => Φ (coordsV p.1 p.2)),
    bigSep_univ_equiv ((finProdFinEquiv (m := 16) (n := 2)).symm.trans (Equiv.prodComm _ _)) (fun p : Fin 2 × Fin 16 => Φ (coordsV p.1 p.2))]
  rfl

/-- The nine tables' buffers: the inputs at `X`, the outputs at `Y`. -/
def nineRes (d : Dev nD) (X Y : Valuation τ sig (Elt F)) : sProp (MM F) :=
  iprop(triple (d, Proc.devRef .tc main_arg1) (d, Proc.devRef .tc main_v1) (d, Proc.devRef .tc main_v18_0) (X _) (X _) (Y _)
    ∗ triple (d, Proc.devRef .tc main_arg2) (d, Proc.devRef .tc main_v3) (d, Proc.devRef .tc main_v18_1) (X _) (X _) (Y _)
    ∗ triple (d, Proc.devRef .tc main_arg3) (d, Proc.devRef .tc main_v5) (d, Proc.devRef .tc main_v18_2) (X _) (X _) (Y _)
    ∗ triple (d, Proc.devRef .tc main_arg4) (d, Proc.devRef .tc main_v7) (d, Proc.devRef .tc main_v18_3) (X _) (X _) (Y _)
    ∗ triple (d, Proc.devRef .tc main_arg5) (d, Proc.devRef .tc main_v9) (d, Proc.devRef .tc main_v18_4) (X _) (X _) (Y _)
    ∗ triple (d, Proc.devRef .tc main_arg6) (d, Proc.devRef .tc main_v11) (d, Proc.devRef .tc main_v18_5) (X _) (X _) (Y _)
    ∗ triple (d, Proc.devRef .tc main_arg7) (d, Proc.devRef .tc main_v13) (d, Proc.devRef .tc main_v18_6) (X _) (X _) (Y _)
    ∗ triple (d, Proc.devRef .tc main_arg8) (d, Proc.devRef .tc main_v15) (d, Proc.devRef .tc main_v18_7) (X _) (X _) (Y _)
    ∗ triple (d, Proc.devRef .tc main_arg9) (d, Proc.devRef .tc main_v17) (d, Proc.devRef .tc main_v18_8) (X _) (X _) (Y _)
    ∗ emp)

/-- A table's part of a tile, spelt over the TensorCore's names: the views are whole, the slices the tile's parts. -/
theorem tabRes_eq (d : Dev nD) (w : Fin 32) {R : ℕ} (idA : Memref sig .scVector .hbm S16384 .i32) (tab : Memref sig .scVector .hbm ⟨2, ![R, 128]⟩ .f32)
    (out : Memref sig .scVector .hbm S262144 .f32) (fs ft fo) (hs : idA.view.set = Finset.univ) (ht : tab.view.set = Finset.univ)
    {A0 A1} (h0 : (outSl (ptW w) out t0).view.set = A0) (h1 : (outSl (ptW w) out t1).view.set = A1) :
    tabRes (F := F) d (ptW w) idA tab out (tq (tileNo (ptW w))) fs ft fo
      = iprop((idA.view.loc (thr d (ptW w)) ↦{tq w} fs) ∗ (tab.view.loc (thr d (ptW w)) ↦{tq w} ft)
          ∗ (out.view.loc (thr d (ptW w)) ↦[A0]{fullShare} fo) ∗ (out.view.loc (thr d (ptW w)) ↦[A1]{fullShare} fo)) := by
  subst h0 h1
  unfold tabRes mem
  rw [hs, ht, tileNo_ptW]

/-- Equal parts make equal wholes. -/
theorem sep_eq {A A' B B' : sProp (MM F)} (hA : A = A') (hB : B = B') : iprop(A ∗ B) = iprop(A' ∗ B') := by rw [hA, hB]

set_option maxRecDepth 16384 in
set_option maxHeartbeats 2000000 in
/-- The nine tables' buffers are what the tiles are handed. -/
theorem nineRes_deal (d : Dev nD) (X Y : Valuation τ sig (Elt F)) :
    nineRes d X Y = bigSep Finset.univ fun c : Fin ((K F).nCore 0) => bigSep Finset.univ fun i : Fin ((K F).nSub 0) => tileRes d (ptOf (F := F) c i) X Y := by
  rw [bigSep_tiles (fun p => tileRes d p X Y)]
  unfold tileRes
  simp only [bigSep_sep', bigSep_emp_const]
  unfold nineRes
  refine sep_eq ?_ (sep_eq ?_ (sep_eq ?_ (sep_eq ?_ (sep_eq ?_ (sep_eq ?_ (sep_eq ?_ (sep_eq ?_ (sep_eq ?_ (bigSep_emp_const _).symm))))))))
  all_goals
    refine triple_deal _ _ _ _ _ _ (by exact outPart) (by exact outPart_disjoint) (by exact outPart_cover) _ (fun w => ?_)
    exact tabRes_eq d w _ _ _ _ _ _ (by exact View.set_whole _) (by exact View.set_whole _)
      (by exact (View.set_slice_whole _ _).trans (rect_part w t0 0 rfl)) (by exact (View.set_slice_whole _ _).trans (rect_part w t1 1 rfl))

/-! ## Out of all the buffers -/

/-- The call's operands. -/
def scNames : List (Ref sig .tc) :=
  [main_arg1, main_v1, main_v18_0, main_arg2, main_v3, main_v18_1, main_arg3, main_v5, main_v18_2, main_arg4, main_v7, main_v18_3, main_arg5, main_v9, main_v18_4,
    main_arg6, main_v11, main_v18_5, main_arg7, main_v13, main_v18_6, main_arg8, main_v15, main_v18_7, main_arg9, main_v17, main_v18_8]

/-- The call's results. -/
def outNames : List (Ref sig .tc) := [main_v18_0, main_v18_1, main_v18_2, main_v18_3, main_v18_4, main_v18_5, main_v18_6, main_v18_7, main_v18_8]

/-- A list of names as a set of buffers. -/
def refSet (l : List (Ref sig .tc)) : Finset (DevRef τ sig) := (l.map (Proc.devRef (τ := τ) .tc)).toFinset

/-- A sum over a list's members, one after the other. -/
theorem bigSep_toFinset {I : Type} [DecidableEq I] (Φ : I → sProp (MM F)) :
    ∀ l : List I, l.Nodup → bigSep l.toFinset Φ = l.foldr (fun a A => iprop(Φ a ∗ A)) iprop(emp)
  | [], _ => by rw [List.toFinset_nil, bigSep_empty]; rfl
  | a :: l, h => by
    rw [List.toFinset_cons, SparseCore.bigSep_insert' (by rw [List.mem_toFinset]; exact (List.nodup_cons.mp h).1), bigSep_toFinset Φ l (List.nodup_cons.mp h).2]
    rfl

theorem held_names (d : Dev nD) (l : List (Ref sig .tc)) (h : l.Nodup) (X : Valuation τ sig (Elt F)) :
    (StableHlo.held (T d) (refSet l) X : sProp (MM F))
      = (l.map (Proc.devRef (τ := τ) .tc)).foldr (fun a A => iprop((((d, a) : Loc nD τ sig) ↦{fullShare} X a) ∗ A)) iprop(emp) := by
  unfold StableHlo.held refSet
  rw [bigSep_toFinset _ _ (h.map (Proc.devRef_injective _))]

theorem sep_flat (A B C E : sProp (MM F)) : iprop((A ∗ B ∗ C) ∗ E) = iprop(A ∗ B ∗ C ∗ E) := by
  have h1 : iprop((A ∗ B ∗ C) ∗ E) ⊢ iprop(A ∗ B ∗ C ∗ E) := by
    iintro ⟨⟨HA, HB, HC⟩, HE⟩
    isplitl [HA]; · iexact HA
    isplitl [HB]; · iexact HB
    isplitl [HC]; · iexact HC
    iexact HE
  have h2 : iprop(A ∗ B ∗ C ∗ E) ⊢ iprop((A ∗ B ∗ C) ∗ E) := by
    iintro ⟨HA, HB, HC, HE⟩
    isplitr [HE]
    · isplitl [HA]; · iexact HA
      isplitl [HB]; · iexact HB
      iexact HC
    iexact HE
  exact equiv_iff.mp ⟨h1, h2⟩

theorem held_nineRes (d : Dev nD) (X : Valuation τ sig (Elt F)) : (StableHlo.held (T d) (refSet scNames) X : sProp (MM F)) = nineRes d X X := by
  rw [held_names d scNames (by decide)]
  unfold nineRes triple
  simp only [sep_flat]
  rfl

theorem scOps_writes : (scOps (F := F)).Forall fun op => op.writes ⊆ refSet outNames := by
  have h : ∀ r ∈ outNames, ({Proc.devRef (τ := τ) .tc r} : Finset (DevRef τ sig)) ⊆ refSet outNames := fun r hr =>
    Finset.singleton_subset_iff.mpr (List.mem_toFinset.mpr (List.mem_map.mpr ⟨r, hr, rfl⟩))
  exact ⟨h _ (by decide), h _ (by decide), h _ (by decide), h _ (by decide), h _ (by decide), h _ (by decide), h _ (by decide), h _ (by decide), h _ (by decide)⟩

theorem refSet_mono {l l' : List (Ref sig .tc)} (h : l ⊆ l') : refSet l ⊆ refSet l' := fun b hb => by
  obtain ⟨r, hr, e⟩ := List.mem_map.mp (List.mem_toFinset.mp hb)
  exact List.mem_toFinset.mpr (List.mem_map.mpr ⟨r, h hr, e⟩)

theorem outNames_sub : refSet outNames ⊆ refSet scNames := refSet_mono (by decide)

theorem scOps_keep (X : Valuation τ sig (Elt F)) {r : Ref sig .tc} (hr : r ∉ outNames) : StableHlo.after scOps X (Proc.devRef .tc r) = X (Proc.devRef .tc r) :=
  StableHlo.after_of_writes_sub (W := outNames) scOps X scOps_writes hr

/-- The names of the call's inputs. -/
def inNames : List (Ref sig .tc) :=
  [main_arg1, main_v1, main_arg2, main_v3, main_arg3, main_v5, main_arg4, main_v7, main_arg5, main_v9, main_arg6, main_v11, main_arg7, main_v13, main_arg8, main_v15, main_arg9, main_v17]

set_option maxHeartbeats 4000000 in
theorem nineRes_congr (d : Dev nD) (X X' Y : Valuation τ sig (Elt F)) (h : ∀ r ∈ inNames, X (Proc.devRef .tc r) = X' (Proc.devRef .tc r)) : nineRes d X Y = nineRes d X' Y := by
  unfold nineRes
  rw [h main_arg1 (by decide), h main_v1 (by decide), h main_arg2 (by decide), h main_v3 (by decide), h main_arg3 (by decide), h main_v5 (by decide),
    h main_arg4 (by decide), h main_v7 (by decide), h main_arg5 (by decide), h main_v9 (by decide), h main_arg6 (by decide), h main_v11 (by decide),
    h main_arg7 (by decide), h main_v13 (by decide), h main_arg8 (by decide), h main_v15 (by decide), h main_arg9 (by decide), h main_v17 (by decide)]

theorem inNames_not_out : ∀ r ∈ inNames, r ∉ outNames := by decide

/-- After the call the nine tables' buffers are at the results. -/
theorem nineRes_after (d : Dev nD) (X : Valuation τ sig (Elt F)) :
    nineRes d X (StableHlo.after scOps X) = nineRes d (StableHlo.after scOps X) (StableHlo.after scOps X) :=
  nineRes_congr d _ _ _ fun r hr => (scOps_keep X (inNames_not_out r hr)).symm

attribute [local irreducible] tileRes nineRes StableHlo.after

theorem st_tiles (d : Dev nD) (X : Dev nD → Valuation τ sig (Elt F)) : (bigSep Finset.univ fun c : Fin ((K F).nCore 0) => (P X).st 0 d c) = nineRes d (X d) (X d) :=
  (nineRes_deal d (X d) (X d)).symm

theorem dn_tiles (d : Dev nD) (X : Dev nD → Valuation τ sig (Elt F)) :
    (bigSep Finset.univ fun c : Fin ((K F).nCore 0) => (P X).dn 0 d c) = nineRes d (X d) (StableHlo.after scOps (X d)) :=
  (nineRes_deal d (X d) _).symm

/-- What the call is handed, out of a set of buffers holding its operands. -/
theorem held_give (d : Dev nD) {A : Finset (DevRef τ sig)} (hA : refSet scNames ⊆ A) (X : Dev nD → Valuation τ sig (Elt F)) :
    (StableHlo.held (T d) A (X d) : sProp (MM F))
      = iprop((bigSep Finset.univ fun c : Fin ((K F).nCore 0) => (P X).st 0 d c) ∗ StableHlo.held (T d) (A \ refSet scNames) (X d)) := by
  rw [StableHlo.held_sub_split _ hA, held_nineRes, st_tiles]

/-- What the call hands back, and the rest. -/
theorem held_take (d : Dev nD) {A : Finset (DevRef τ sig)} (hA : refSet scNames ⊆ A) (X : Dev nD → Valuation τ sig (Elt F)) :
    (StableHlo.held (T d) A (StableHlo.after scOps (X d)) : sProp (MM F))
      = iprop((bigSep Finset.univ fun c : Fin ((K F).nCore 0) => (P X).dn 0 d c) ∗ StableHlo.held (T d) (A \ refSet scNames) (X d)) := by
  rw [StableHlo.held_sub_split _ hA, held_nineRes, ← nineRes_after, dn_tiles]
  refine sep_eq rfl (StableHlo.held_congr _ fun b hb => ?_)
  refine StableHlo.after_of_forall_not_mem _ _ fun op hop hw => ?_
  have h := List.forall_iff_forall_mem.mp (scOps_writes (F := F)) op hop hw
  exact (Finset.mem_sdiff.mp hb).2 (outNames_sub h)

end Cert.Proof.Tile

end
-- ==== Proof.Host.lean ====
/-
  @main's host operations around the SparseCore call: before it the nine tables padded to sixteen columns and re-laid as rows of
  128; after it the gathered rows cut to eight columns and transposed, and the dense layers' operands prepared.
-/
module

public import proofs.«01_k».proof.Proof.Deal

@[expose] public section

noncomputable section

namespace Cert.Proof.Tile

open Cert.KernelIdeal Cert.KernelIdeal.Gen
open Idealize.ShloMosaic Idealize.SL.Sem

variable {F : FTy → Type} [FloatOps F]

/-- The operations before the call. -/
def preOps : List (HloOp τ sig (Elt F)) :=
  [ StableHlo.nullary main_c (constantI S_ 32 0#32),
    StableHlo.unary main_c main_call0_v0 (sitofp .f32),
    StableHlo.binary main_arg10 main_call0_v0 main_v0 (fun x v => pad S1000x16 ![0, 0] ![0, 11] ![0, 0] x v pads_S1000x5_S1000x16_000_0110 h_S_),
    StableHlo.reshape main_v0 main_v1 (rfl : (.f32 : EltTy) = .f32) shapeCasts_S1000x16_S125x128,
    StableHlo.nullary main_c_0 (constantI S_ 32 0#32),
    StableHlo.unary main_c_0 main_call1_v0 (sitofp .f32),
    StableHlo.binary main_arg11 main_call1_v0 main_v2 (fun x v => pad S1000x16 ![0, 0] ![0, 11] ![0, 0] x v pads_S1000x5_S1000x16_000_0110 h_S_),
    StableHlo.reshape main_v2 main_v3 (rfl : (.f32 : EltTy) = .f32) shapeCasts_S1000x16_S125x128,
    StableHlo.nullary main_c_1 (constantI S_ 32 0#32),
    StableHlo.unary main_c_1 main_call2_v0 (sitofp .f32),
    StableHlo.binary main_arg12 main_call2_v0 main_v4 (fun x v => pad S100000x16 ![0, 0] ![0, 8] ![0, 0] x v pads_S100000x8_S100000x16_000_080 h_S_),
    StableHlo.reshape main_v4 main_v5 (rfl : (.f32 : EltTy) = .f32) shapeCasts_S100000x16_S12500x128,
    StableHlo.nullary main_c_2 (constantI S_ 32 0#32),
    StableHlo.unary main_c_2 main_call3_v0 (sitofp .f32),
    StableHlo.binary main_arg13 main_call3_v0 main_v6 (fun x v => pad S100000x16 ![0, 0] ![0, 8] ![0, 0] x v pads_S100000x8_S100000x16_000_080 h_S_),
    StableHlo.reshape main_v6 main_v7 (rfl : (.f32 : EltTy) = .f32) shapeCasts_S100000x16_S12500x128,
    StableHlo.nullary main_c_3 (constantI S_ 32 0#32),
    StableHlo.unary main_c_3 main_call4_v0 (sitofp .f32),
    StableHlo.binary main_arg14 main_call4_v0 main_v8 (fun x v => pad S100000x16 ![0, 0] ![0, 8] ![0, 0] x v pads_S100000x8_S100000x16_000_080 h_S_),
    StableHlo.reshape main_v8 main_v9 (rfl : (.f32 : EltTy) = .f32) shapeCasts_S100000x16_S12500x128,
    StableHlo.nullary main_c_4 (constantI S_ 32 0#32),
    StableHlo.unary main_c_4 main_call5_v0 (sitofp .f32),
    StableHlo.binary main_arg15 main_call5_v0 main_v10 (fun x v => pad S100000x16 ![0, 0] ![0, 8] ![0, 0] x v pads_S100000x8_S100000x16_000_080 h_S_),
    StableHlo.reshape main_v10 main_v11 (rfl : (.f32 : EltTy) = .f32) shapeCasts_S100000x16_S12500x128,
    StableHlo.nullary main_c_5 (constantI S_ 32 0#32),
    StableHlo.unary main_c_5 main_call6_v0 (sitofp .f32),
    StableHlo.binary main_arg16 main_call6_v0 main_v12 (fun x v => pad S100000x16 ![0, 0] ![0, 8] ![0, 0] x v pads_S100000x8_S100000x16_000_080 h_S_),
    StableHlo.reshape main_v12 main_v13 (rfl : (.f32 : EltTy) = .f32) shapeCasts_S100000x16_S12500x128,
    StableHlo.nullary main_c_6 (constantI S_ 32 0#32),
    StableHlo.unary main_c_6 main_call7_v0 (sitofp .f32),
    StableHlo.binary main_arg17 main_call7_v0 main_v14 (fun x v => pad S100000x16 ![0, 0] ![0, 8] ![0, 0] x v pads_S100000x8_S100000x16_000_080 h_S_),
    StableHlo.reshape main_v14 main_v15 (rfl : (.f32 : EltTy) = .f32) shapeCasts_S100000x16_S12500x128,
    StableHlo.nullary main_c_7 (constantI S_ 32 0#32),
    StableHlo.unary main_c_7 main_call8_v0 (sitofp .f32),
    StableHlo.binary main_arg18 main_call8_v0 main_v16 (fun x v => pad S32x16 ![0, 0] ![6, 8] ![0, 0] x v pads_S26x8_S32x16_060_080 h_S_),
    StableHlo.reshape main_v16 main_v17 (rfl : (.f32 : EltTy) = .f32) shapeCasts_S32x16_S4x128 ]

/-- The operations after it, up to the dense layers. -/
def postOps : List (HloOp τ sig (Elt F)) :=
  [ StableHlo.reshape main_v18_0 main_v19 (rfl : (.f32 : EltTy) = .f32) shapeCasts_S262144_S16384x16,
    StableHlo.unary main_v19 main_v20 ((extractStridedSlice S16384x8 ![0, 0] · slices_S16384x16_S16384x8_0_0) : (⟨S16384x16, .f32⟩ : BufTy).Contents (Elt F) → (⟨S16384x8, .f32⟩ : BufTy).Contents (Elt F)),
    StableHlo.unary main_v20 main_v21 ((transpose S8x16384 [1, 0] · transposes_S16384x8_S8x16384_1_0) : (⟨S16384x8, .f32⟩ : BufTy).Contents (Elt F) → (⟨S8x16384, .f32⟩ : BufTy).Contents (Elt F)),
    StableHlo.reshape main_v18_1 main_v22 (rfl : (.f32 : EltTy) = .f32) shapeCasts_S262144_S16384x16,
    StableHlo.unary main_v22 main_v23 ((extractStridedSlice S16384x8 ![0, 0] · slices_S16384x16_S16384x8_0_0) : (⟨S16384x16, .f32⟩ : BufTy).Contents (Elt F) → (⟨S16384x8, .f32⟩ : BufTy).Contents (Elt F)),
    StableHlo.unary main_v23 main_v24 ((transpose S8x16384 [1, 0] · transposes_S16384x8_S8x16384_1_0) : (⟨S16384x8, .f32⟩ : BufTy).Contents (Elt F) → (⟨S8x16384, .f32⟩ : BufTy).Contents (Elt F)),
    StableHlo.reshape main_v18_2 main_v25 (rfl : (.f32 : EltTy) = .f32) shapeCasts_S262144_S16384x16,
    StableHlo.unary main_v25 main_v26 ((extractStridedSlice S16384x8 ![0, 0] · slices_S16384x16_S16384x8_0_0) : (⟨S16384x16, .f32⟩ : BufTy).Contents (Elt F) → (⟨S16384x8, .f32⟩ : BufTy).Contents (Elt F)),
    StableHlo.unary main_v26 main_v27 ((transpose S8x16384 [1, 0] · transposes_S16384x8_S8x16384_1_0) : (⟨S16384x8, .f32⟩ : BufTy).Contents (Elt F) → (⟨S8x16384, .f32⟩ : BufTy).Contents (Elt F)),
    StableHlo.reshape main_v18_3 main_v28 (rfl : (.f32 : EltTy) = .f32) shapeCasts_S262144_S16384x16,
    StableHlo.unary main_v28 main_v29 ((extractStridedSlice S16384x8 ![0, 0] · slices_S16384x16_S16384x8_0_0) : (⟨S16384x16, .f32⟩ : BufTy).Contents (Elt F) → (⟨S16384x8, .f32⟩ : BufTy).Contents (Elt F)),
    StableHlo.unary main_v29 main_v30 ((transpose S8x16384 [1, 0] · transposes_S16384x8_S8x16384_1_0) : (⟨S16384x8, .f32⟩ : BufTy).Contents (Elt F) → (⟨S8x16384, .f32⟩ : BufTy).Contents (Elt F)),
    StableHlo.reshape main_v18_4 main_v31 (rfl : (.f32 : EltTy) = .f32) shapeCasts_S262144_S16384x16,
    StableHlo.unary main_v31 main_v32 ((extractStridedSlice S16384x8 ![0, 0] · slices_S16384x16_S16384x8_0_0) : (⟨S16384x16, .f32⟩ : BufTy).Contents (Elt F) → (⟨S16384x8, .f32⟩ : BufTy).Contents (Elt F)),
    StableHlo.unary main_v32 main_v33 ((transpose S8x16384 [1, 0] · transposes_S16384x8_S8x16384_1_0) : (⟨S16384x8, .f32⟩ : BufTy).Contents (Elt F) → (⟨S8x16384, .f32⟩ : BufTy).Contents (Elt F)),
    StableHlo.reshape main_v18_5 main_v34 (rfl : (.f32 : EltTy) = .f32) shapeCasts_S262144_S16384x16,
    StableHlo.unary main_v34 main_v35 ((extractStridedSlice S16384x8 ![0, 0] · slices_S16384x16_S16384x8_0_0) : (⟨S16384x16, .f32⟩ : BufTy).Contents (Elt F) → (⟨S16384x8, .f32⟩ : BufTy).Contents (Elt F)),
    StableHlo.unary main_v35 main_v36 ((transpose S8x16384 [1, 0] · transposes_S16384x8_S8x16384_1_0) : (⟨S16384x8, .f32⟩ : BufTy).Contents (Elt F) → (⟨S8x16384, .f32⟩ : BufTy).Contents (Elt F)),
    StableHlo.reshape main_v18_6 main_v37 (rfl : (.f32 : EltTy) = .f32) shapeCasts_S262144_S16384x16,
    StableHlo.unary main_v37 main_v38 ((extractStridedSlice S16384x8 ![0, 0] · slices_S16384x16_S16384x8_0_0) : (⟨S16384x16, .f32⟩ : BufTy).Contents (Elt F) → (⟨S16384x8, .f32⟩ : BufTy).Contents (Elt F)),
    StableHlo.unary main_v38 main_v39 ((transpose S8x16384 [1, 0] · transposes_S16384x8_S8x16384_1_0) : (⟨S16384x8, .f32⟩ : BufTy).Contents (Elt F) → (⟨S8x16384, .f32⟩ : BufTy).Contents (Elt F)),
    StableHlo.reshape main_v18_7 main_v40 (rfl : (.f32 : EltTy) = .f32) shapeCasts_S262144_S16384x16,
    StableHlo.unary main_v40 main_v41 ((extractStridedSlice S16384x8 ![0, 0] · slices_S16384x16_S16384x8_0_0) : (⟨S16384x16, .f32⟩ : BufTy).Contents (Elt F) → (⟨S16384x8, .f32⟩ : BufTy).Contents (Elt F)),
    StableHlo.unary main_v41 main_v42 ((transpose S8x16384 [1, 0] · transposes_S16384x8_S8x16384_1_0) : (⟨S16384x8, .f32⟩ : BufTy).Contents (Elt F) → (⟨S8x16384, .f32⟩ : BufTy).Contents (Elt F)),
    StableHlo.reshape main_v18_8 main_v43 (rfl : (.f32 : EltTy) = .f32) shapeCasts_S262144_S16384x16,
    StableHlo.unary main_v43 main_v44 ((extractStridedSlice S16384x8 ![0, 0] · slices_S16384x16_S16384x8_0_0) : (⟨S16384x16, .f32⟩ : BufTy).Contents (Elt F) → (⟨S16384x8, .f32⟩ : BufTy).Contents (Elt F)),
    StableHlo.unary main_v44 main_v45 ((transpose S8x16384 [1, 0] · transposes_S16384x8_S8x16384_1_0) : (⟨S16384x8, .f32⟩ : BufTy).Contents (Elt F) → (⟨S8x16384, .f32⟩ : BufTy).Contents (Elt F)),
    StableHlo.unary main_arg0 main_v46 ((transpose S62x16384 [1, 0] · transposes_S16384x62_S62x16384_1_0) : (⟨S16384x62, .f32⟩ : BufTy).Contents (Elt F) → (⟨S62x16384, .f32⟩ : BufTy).Contents (Elt F)),
    StableHlo.unary main_arg20 main_v47 (broadcastInDim S40x1 ![0] bcast_S40_S40x1_0 : (⟨S40, .f32⟩ : BufTy).Contents (Elt F) → (⟨S40x1, .f32⟩ : BufTy).Contents (Elt F)),
    StableHlo.unary main_arg22 main_v48 (broadcastInDim S40x1 ![0] bcast_S40_S40x1_0 : (⟨S40, .f32⟩ : BufTy).Contents (Elt F) → (⟨S40x1, .f32⟩ : BufTy).Contents (Elt F)),
    StableHlo.unary main_arg24 main_v49 (broadcastInDim S40x1 ![0] bcast_S40_S40x1_0 : (⟨S40, .f32⟩ : BufTy).Contents (Elt F) → (⟨S40x1, .f32⟩ : BufTy).Contents (Elt F)),
    StableHlo.unary main_arg26 main_v50 (broadcastInDim S1x1 ![0] bcast_S1_S1x1_0 : (⟨S1, .f32⟩ : BufTy).Contents (Elt F) → (⟨S1x1, .f32⟩ : BufTy).Contents (Elt F)) ]

/-- The operation after the dense layers. -/
def lastOps : List (HloOp τ sig (Elt F)) :=
  [ StableHlo.unary main_v51 main_v52 ((transpose S16384x1 [1, 0] · transposes_S1x16384_S16384x1_1_0) : (⟨S1x16384, .f32⟩ : BufTy).Contents (Elt F) → (⟨S16384x1, .f32⟩ : BufTy).Contents (Elt F)) ]

set_option maxRecDepth 65536 in
set_option maxHeartbeats 4000000 in
theorem main_part0_eq (d : Dev nD) :
    main_part0 (F := F) d = StableHlo.seq preOps >>= fun _ => (sc (F := F)).run d 0 >>= fun _ => StableHlo.seq postOps := rfl

theorem main_part1_eq (d : Dev nD) :
    main_part1 (F := F) d = Prog.lift (.customCall (SparseCore.inner (Pipeline.entry 0)) ()) >>= fun _ => StableHlo.seq lastOps := rfl

/-- The TensorCore's buffers that live across calls. -/
def ucRefs : Finset (DevRef τ sig) := (StableHlo.tcRefs τ sig).filter fun b => ¬ b.isScoped

/-- A host operation names such buffers only. -/
theorem sub_ucRefs (op : HloOp τ sig (Elt F)) (h : op.bufs ⊆ StableHlo.tcRefs τ sig) : op.bufs ⊆ ucRefs := fun b hb =>
  Finset.mem_filter.mpr ⟨h hb, by rw [op.no_scoped b hb]; exact Bool.false_ne_true⟩

set_option maxRecDepth 65536 in
set_option maxHeartbeats 4000000 in
theorem preOps_sub : ∀ op ∈ (preOps (F := F)), op.bufs ⊆ ucRefs := fun op h => sub_ucRefs op (by
  refine (List.forall_iff_forall_mem (p := fun op : HloOp τ sig (Elt F) => op.bufs ⊆ StableHlo.tcRefs τ sig)).mp ?_ op h
  unfold preOps
  simp only [List.forall_cons, List.Forall, StableHlo.nullary_bufs_sub, StableHlo.unary_bufs_sub, StableHlo.binary_bufs_sub, StableHlo.reshape_bufs_sub, and_self])

set_option maxRecDepth 65536 in
set_option maxHeartbeats 4000000 in
theorem postOps_sub : ∀ op ∈ (postOps (F := F)), op.bufs ⊆ ucRefs := fun op h => sub_ucRefs op (by
  refine (List.forall_iff_forall_mem (p := fun op : HloOp τ sig (Elt F) => op.bufs ⊆ StableHlo.tcRefs τ sig)).mp ?_ op h
  unfold postOps
  simp only [List.forall_cons, List.Forall, StableHlo.unary_bufs_sub, StableHlo.reshape_bufs_sub, and_self])

theorem lastOps_sub : ∀ op ∈ (lastOps (F := F)), op.bufs ⊆ ucRefs := fun op h => sub_ucRefs op (by
  refine (List.forall_iff_forall_mem (p := fun op : HloOp τ sig (Elt F) => op.bufs ⊆ StableHlo.tcRefs τ sig)).mp ?_ op h
  unfold lastOps
  simp only [List.Forall, StableHlo.unary_bufs_sub])

set_option maxRecDepth 65536 in
theorem preOps_fresh : ∀ op ∈ (preOps (F := F)), op.fresh = ∅ := by
  refine List.forall_iff_forall_mem.mp ?_
  unfold preOps
  repeat (first | exact rfl | refine ⟨rfl, ?_⟩)

set_option maxRecDepth 65536 in
theorem postOps_fresh : ∀ op ∈ (postOps (F := F)), op.fresh = ∅ := by
  refine List.forall_iff_forall_mem.mp ?_
  unfold postOps
  repeat (first | exact rfl | refine ⟨rfl, ?_⟩)

theorem lastOps_fresh : ∀ op ∈ (lastOps (F := F)), op.fresh = ∅ := by
  refine List.forall_iff_forall_mem.mp ?_
  exact rfl

end Cert.Proof.Tile

end
-- ==== Proof.Mlp.lean ====
/-
  The multi-layer perceptron's body: from its nineteen staging buffers held whole it loads the eighteen inputs, and stores
  the output row computed from them.
-/
module

public import proofs.«01_k».proof.Proof.Host
public import proofs.«01_k».proof.Proof.Gen.KernelIdeal.Points
public import Idealize.ShloMosaic.Lib.Tactic
public import Idealize.ShloMosaic.Lib.VecWindow

@[expose] public section

noncomputable section

namespace Cert.Proof.Tile

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of memref `M`'s buffer on core `c`. -/
abbrev Bf (c : Dev nD) {sp : Space} {S : Shape} {e : EltTy} (M : Memref sig .tc sp S e) : Type := Buf (Elt F) (M.view.loc (c : Thread nD τ))
/-- Memref `M`'s elements on core `c`, held at `f`. -/
abbrev pt (c : Dev nD) {sp : Space} {S : Shape} {e : EltTy} (M : Memref sig .tc sp S e) (f : Bf (F := F) c M) : sProp (MM F) :=
  M.view.loc (c : Thread nD τ) ↦[M.view.set]{fullShare} f

/-- The output row of a block, from the blocks of the eighteen inputs. -/
def mlpOut (X1 : FVec F S62x2048 .f32) (X2 : FVec F S8x2048 .f32) (X3 : FVec F S8x2048 .f32) (X4 : FVec F S8x2048 .f32) (X5 : FVec F S8x2048 .f32)
    (X6 : FVec F S8x2048 .f32) (X7 : FVec F S8x2048 .f32) (X8 : FVec F S8x2048 .f32) (X9 : FVec F S8x2048 .f32) (X10 : FVec F S8x2048 .f32)
    (X11 : FVec F S40x128 .f32) (X12 : FVec F S40x1 .f32) (X13 : FVec F S40x40 .f32) (X14 : FVec F S40x1 .f32) (X15 : FVec F S40x40 .f32)
    (X16 : FVec F S40x1 .f32) (X17 : FVec F S1x40 .f32) (X18 : FVec F S1x1 .f32) : FVec F S1x2048 .f32 :=
  k1_pay1 (k1_pay2 X2 X3 X4 X5 X6 X7 X8 X9 X10 X1 X11 X12) X13 X14 X15 X16 X17 X18

set_option maxHeartbeats 1000000 in
/-- The body over staging buffers owned at blocks: the inputs' as they were, the output's at the row of them. -/
theorem mlp_owns (c : Dev nD) (i : grid1.Coords)
    (M1 : Memref sig .tc .vmem S62x2048 .f32) (h1 : M1.IsWhole) (M2 : Memref sig .tc .vmem S8x2048 .f32) (h2 : M2.IsWhole)
    (M3 : Memref sig .tc .vmem S8x2048 .f32) (h3 : M3.IsWhole) (M4 : Memref sig .tc .vmem S8x2048 .f32) (h4 : M4.IsWhole)
    (M5 : Memref sig .tc .vmem S8x2048 .f32) (h5 : M5.IsWhole) (M6 : Memref sig .tc .vmem S8x2048 .f32) (h6 : M6.IsWhole)
    (M7 : Memref sig .tc .vmem S8x2048 .f32) (h7 : M7.IsWhole) (M8 : Memref sig .tc .vmem S8x2048 .f32) (h8 : M8.IsWhole)
    (M9 : Memref sig .tc .vmem S8x2048 .f32) (h9 : M9.IsWhole) (M10 : Memref sig .tc .vmem S8x2048 .f32) (h10 : M10.IsWhole)
    (M11 : Memref sig .tc .vmem S40x128 .f32) (h11 : M11.IsWhole) (M12 : Memref sig .tc .vmem S40x1 .f32) (h12 : M12.IsWhole)
    (M13 : Memref sig .tc .vmem S40x40 .f32) (h13 : M13.IsWhole) (M14 : Memref sig .tc .vmem S40x1 .f32) (h14 : M14.IsWhole)
    (M15 : Memref sig .tc .vmem S40x40 .f32) (h15 : M15.IsWhole) (M16 : Memref sig .tc .vmem S40x1 .f32) (h16 : M16.IsWhole)
    (M17 : Memref sig .tc .vmem S1x40 .f32) (h17 : M17.IsWhole) (M18 : Memref sig .tc .vmem S1x1 .f32) (h18 : M18.IsWhole)
    (M19 : Memref sig .tc .vmem S1x2048 .f32) (h19 : M19.IsWhole)
    (X1 : FVec F S62x2048 .f32) (X2 : FVec F S8x2048 .f32) (X3 : FVec F S8x2048 .f32) (X4 : FVec F S8x2048 .f32) (X5 : FVec F S8x2048 .f32)
    (X6 : FVec F S8x2048 .f32) (X7 : FVec F S8x2048 .f32) (X8 : FVec F S8x2048 .f32) (X9 : FVec F S8x2048 .f32) (X10 : FVec F S8x2048 .f32)
    (X11 : FVec F S40x128 .f32) (X12 : FVec F S40x1 .f32) (X13 : FVec F S40x40 .f32) (X14 : FVec F S40x1 .f32) (X15 : FVec F S40x40 .f32)
    (X16 : FVec F S40x1 .f32) (X17 : FVec F S1x40 .f32) (X18 : FVec F S1x1 .f32) (X19 : FVec F S1x2048 .f32) (E : Set ℕ) (Q : PUnit → sProp (MM F)) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare X19
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare (mlpOut X1 X2 X3 X4 X5 X6 X7 X8 X9 X10 X11 X12 X13 X14 X15 X16 X17 X18)) -∗ Q ⟨⟩))
      ⊢ wp frame (wpE (defs₀ (F := F)) 𝒱₀ c none) E (cc1_body i M1 h1 M2 h2 M3 h3 M4 h4 M5 h5 M6 h6 M7 h7 M8 h8 M9 h9 M10 h10 M11 h11 M12 h12 M13 h13 M14 h14 M15 h15 M16 h16 M17 h17 M18 h18 M19 h19) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, Hk⟩
  sl_exec!
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  isplitl [H11]; · iexists f11; isplitr; (· ipureintro; exact e11); iexact H11
  isplitl [H12]; · iexists f12; isplitr; (· ipureintro; exact e12); iexact H12
  isplitl [H13]; · iexists f13; isplitr; (· ipureintro; exact e13); iexact H13
  isplitl [H14]; · iexists f14; isplitr; (· ipureintro; exact e14); iexact H14
  isplitl [H15]; · iexists f15; isplitr; (· ipureintro; exact e15); iexact H15
  isplitl [H16]; · iexists f16; isplitr; (· ipureintro; exact e16); iexact H16
  isplitl [H17]; · iexists f17; isplitr; (· ipureintro; exact e17); iexact H17
  isplitl [H18]; · iexists f18; isplitr; (· ipureintro; exact e18); iexact H18
  iexists _
  isplitr; swap; (· iexact H19)
  ipureintro
  unfold mlp_owns.sl.H19_1 mlp_owns.sl.r mlpOut
  rw [View.read_writes_full, View.readAt_full M1.view f1, e1,
    View.readAt_full M2.view f2, e2,
    View.readAt_full M3.view f3, e3,
    View.readAt_full M4.view f4, e4,
    View.readAt_full M5.view f5, e5,
    View.readAt_full M6.view f6, e6,
    View.readAt_full M7.view f7, e7,
    View.readAt_full M8.view f8, e8,
    View.readAt_full M9.view f9, e9,
    View.readAt_full M10.view f10, e10,
    View.readAt_full M11.view f11, e11,
    View.readAt_full M12.view f12, e12,
    View.readAt_full M13.view f13, e13,
    View.readAt_full M14.view f14, e14,
    View.readAt_full M15.view f15, e15,
    View.readAt_full M16.view f16, e16,
    View.readAt_full M17.view f17, e17,
    View.readAt_full M18.view f18, e18]

end Cert.Proof.Tile

end
-- ==== Proof.MlpDat.lean ====
/-
  The TensorCore's pipeline over the nineteen windows, at the valuation of the arrays it is entered from: its proof data
  and its body's obligation.
-/
module

public import proofs.«01_k».proof.Proof.Mlp
public import proofs.«01_k».proof.Proof.Gen.KernelIdeal.Points
public import Idealize.ShloMosaic.Lib.Tactic
public import Idealize.ShloMosaic.Lib.Pipeline.FrameBody
public import Idealize.ShloMosaic.Lib.Pipeline.Regions

@[expose] public section

noncomputable section

namespace Cert.Proof.Tile

open Cert.KernelIdeal Cert.KernelIdeal.Gen
open Idealize.ShloMosaic
open Idealize.ShloMosaic.TcCoe Idealize.ShloMosaic.Tactic
open Idealize.ShloMosaic.Pipeline (Dat Cfg Window BodyObligation cellOf)
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The proof data, at the valuation the region is entered from -/

/-- Window `w`'s block at point `t`: its array at the valuation, read through the block's view. -/
def blkAt (V : Valuation τ sig (Elt F)) (w : Fin 19) (t : Fin cfg1.N) : ((win1 w).xblock (grid1.coords t)).Idx → Elt F (win1 w).elt :=
  ((win1 w).blk t).view.read (Elt F) (V ((Proc.tc : Proc τ).devRef (Pipeline.arrRef spec1 w)))

/-- The row the body stores at point `t`, from the input blocks there. -/
def rowAt (V : Valuation τ sig (Elt F)) (t : Fin cfg1.N) : FVec F S1x2048 .f32 :=
  mlpOut (blkAt V 0 t) (blkAt V 1 t) (blkAt V 2 t) (blkAt V 3 t) (blkAt V 4 t) (blkAt V 5 t) (blkAt V 6 t) (blkAt V 7 t) (blkAt V 8 t) (blkAt V 9 t) (blkAt V 10 t) (blkAt V 11 t) (blkAt V 12 t) (blkAt V 13 t) (blkAt V 14 t) (blkAt V 15 t) (blkAt V 16 t) (blkAt V 17 t)

/-- The region's proof data: the arrays at the valuation; after the body the inputs' buffers as fetched and the output's at
    the row; nothing kept beside the windows, nothing owed. -/
def dat (V : Valuation τ sig (Elt F)) (c : Dev nD) : Dat τ (Elt F) (HIx 1) ℕ UU ℕ cfg1 c where
  A w := V ((Proc.tc : Proc τ).devRef (Pipeline.arrRef spec1 w))
  after := fun (w : Fin 19) t => match w with
    | ⟨0, _⟩ => blkAt V ⟨0, by decide⟩ t
    | ⟨1, _⟩ => blkAt V ⟨1, by decide⟩ t
    | ⟨2, _⟩ => blkAt V ⟨2, by decide⟩ t
    | ⟨3, _⟩ => blkAt V ⟨3, by decide⟩ t
    | ⟨4, _⟩ => blkAt V ⟨4, by decide⟩ t
    | ⟨5, _⟩ => blkAt V ⟨5, by decide⟩ t
    | ⟨6, _⟩ => blkAt V ⟨6, by decide⟩ t
    | ⟨7, _⟩ => blkAt V ⟨7, by decide⟩ t
    | ⟨8, _⟩ => blkAt V ⟨8, by decide⟩ t
    | ⟨9, _⟩ => blkAt V ⟨9, by decide⟩ t
    | ⟨10, _⟩ => blkAt V ⟨10, by decide⟩ t
    | ⟨11, _⟩ => blkAt V ⟨11, by decide⟩ t
    | ⟨12, _⟩ => blkAt V ⟨12, by decide⟩ t
    | ⟨13, _⟩ => blkAt V ⟨13, by decide⟩ t
    | ⟨14, _⟩ => blkAt V ⟨14, by decide⟩ t
    | ⟨15, _⟩ => blkAt V ⟨15, by decide⟩ t
    | ⟨16, _⟩ => blkAt V ⟨16, by decide⟩ t
    | ⟨17, _⟩ => blkAt V ⟨17, by decide⟩ t
    | ⟨18, _⟩ => rowAt V t
    | ⟨_ + 19, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0

variable (V : Valuation τ sig (Elt F)) (c : Dev nD)

set_option maxHeartbeats 1000000 in
/-- An input's buffer holds its block when the body runs, fetched there or before. -/
theorem before_in (w : Fin 19) (hw : w.val < 18) (t : Fin cfg1.N) (d : (cfg1.win w).block.Idx → Elt F (cfg1.win w).elt) :
    (dat V c).before w t d = (dat V c).fetched w t d := by
  match w, hw with
  | ⟨0, _⟩, _ => exact (dat V c).before_in_eq_fetched 0 rfl (fun _ => rfl) (fun _ _ _ => rfl) (fun _ => rfl) t d
  | ⟨1, _⟩, _ => exact (dat V c).before_in_eq_fetched 1 rfl (fun _ => rfl) (fun _ _ _ => rfl) (fun _ => rfl) t d
  | ⟨2, _⟩, _ => exact (dat V c).before_in_eq_fetched 2 rfl (fun _ => rfl) (fun _ _ _ => rfl) (fun _ => rfl) t d
  | ⟨3, _⟩, _ => exact (dat V c).before_in_eq_fetched 3 rfl (fun _ => rfl) (fun _ _ _ => rfl) (fun _ => rfl) t d
  | ⟨4, _⟩, _ => exact (dat V c).before_in_eq_fetched 4 rfl (fun _ => rfl) (fun _ _ _ => rfl) (fun _ => rfl) t d
  | ⟨5, _⟩, _ => exact (dat V c).before_in_eq_fetched 5 rfl (fun _ => rfl) (fun _ _ _ => rfl) (fun _ => rfl) t d
  | ⟨6, _⟩, _ => exact (dat V c).before_in_eq_fetched 6 rfl (fun _ => rfl) (fun _ _ _ => rfl) (fun _ => rfl) t d
  | ⟨7, _⟩, _ => exact (dat V c).before_in_eq_fetched 7 rfl (fun _ => rfl) (fun _ _ _ => rfl) (fun _ => rfl) t d
  | ⟨8, _⟩, _ => exact (dat V c).before_in_eq_fetched 8 rfl (fun _ => rfl) (fun _ _ _ => rfl) (fun _ => rfl) t d
  | ⟨9, _⟩, _ => exact (dat V c).before_in_eq_fetched 9 rfl (fun _ => rfl) (fun _ _ _ => rfl) (fun _ => rfl) t d
  | ⟨10, _⟩, _ => exact (dat V c).before_in_eq_fetched 10 rfl (fun _ => rfl) (fun _ _ _ => rfl) (fun _ => rfl) t d
  | ⟨11, _⟩, _ => exact (dat V c).before_in_eq_fetched 11 rfl (fun _ => rfl) (fun _ _ _ => rfl) (fun _ => rfl) t d
  | ⟨12, _⟩, _ => exact (dat V c).before_in_eq_fetched 12 rfl (fun _ => rfl) (fun _ _ _ => rfl) (fun _ => rfl) t d
  | ⟨13, _⟩, _ => exact (dat V c).before_in_eq_fetched 13 rfl (fun _ => rfl) (fun _ _ _ => rfl) (fun _ => rfl) t d
  | ⟨14, _⟩, _ => exact (dat V c).before_in_eq_fetched 14 rfl (fun _ => rfl) (fun _ _ _ => rfl) (fun _ => rfl) t d
  | ⟨15, _⟩, _ => exact (dat V c).before_in_eq_fetched 15 rfl (fun _ => rfl) (fun _ _ _ => rfl) (fun _ => rfl) t d
  | ⟨16, _⟩, _ => exact (dat V c).before_in_eq_fetched 16 rfl (fun _ => rfl) (fun _ _ _ => rfl) (fun _ => rfl) t d
  | ⟨17, _⟩, _ => exact (dat V c).before_in_eq_fetched 17 rfl (fun _ => rfl) (fun _ _ _ => rfl) (fun _ => rfl) t d
  | ⟨n + 18, _⟩, h => exact absurd h (Nat.not_lt.2 (Nat.le_add_left 18 n))

set_option maxHeartbeats 4000000 in
/-- The body obligation: the nineteen staging buffers taken apart, the body run, its buffers given back. -/
theorem body_obligation : BodyObligation (dat V c) (defs₀ (F := F)) 𝒱₀ (none : HIx 1) Set.univ := fun t => by
  rw [bigSep_W1, bigSep_W1]
  rw [show (dat V c).Φ t.succ = (dat V c).Φ t.castSucc from rfl,
    show (dat V c).owesAt (none : HIx 1) t.succ = (dat V c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [before_in V c 0 (by decide) t d0]
  rw [before_in V c 1 (by decide) t d1]
  rw [before_in V c 2 (by decide) t d2]
  rw [before_in V c 3 (by decide) t d3]
  rw [before_in V c 4 (by decide) t d4]
  rw [before_in V c 5 (by decide) t d5]
  rw [before_in V c 6 (by decide) t d6]
  rw [before_in V c 7 (by decide) t d7]
  rw [before_in V c 8 (by decide) t d8]
  rw [before_in V c 9 (by decide) t d9]
  rw [before_in V c 10 (by decide) t d10]
  rw [before_in V c 11 (by decide) t d11]
  rw [before_in V c 12 (by decide) t d12]
  rw [before_in V c 13 (by decide) t d13]
  rw [before_in V c 14 (by decide) t d14]
  rw [before_in V c 15 (by decide) t d15]
  rw [before_in V c 16 (by decide) t d16]
  rw [before_in V c 17 (by decide) t d17]
  iapply (mlp_owns c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (st1_15 t) (hstage1_15 ((cfg1.slots t 15).cast nbuf1_15)) (st1_16 t) (hstage1_16 ((cfg1.slots t 16).cast nbuf1_16)) (st1_17 t) (hstage1_17 ((cfg1.slots t 17).cast nbuf1_17)) (st1_18 t) (hstage1_18 ((cfg1.slots t 18).cast nbuf1_18))
    (blkAt V 0 t) (blkAt V 1 t) (blkAt V 2 t) (blkAt V 3 t) (blkAt V 4 t) (blkAt V 5 t) (blkAt V 6 t) (blkAt V 7 t) (blkAt V 8 t) (blkAt V 9 t) (blkAt V 10 t) (blkAt V 11 t) (blkAt V 12 t) (blkAt V 13 t) (blkAt V 14 t) (blkAt V 15 t) (blkAt V 16 t) (blkAt V 17 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H0, H1, H2, H3, H4, H5, H6, H7, H8, H9, H10, H11, H12, H13, H14, H15, H16, H17, H18⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Proof.Tile

end
-- ==== Proof.Region.lean ====
/-
  The TensorCore's region: the pipeline over the nineteen windows, entered from a valuation of the arrays, its body run at
  every point, and left with the output row at what the points stored.
-/
module

public import proofs.«01_k».proof.Proof.MlpDat
public import proofs.«01_k».proof.Proof.Gen.KernelIdeal.Points
public import Idealize.ShloMosaic.Lib.Tactic
public import Idealize.ShloMosaic.Lib.Pipeline.FrameBody
public import Idealize.ShloMosaic.Lib.Pipeline.Regions
public import Idealize.ShloMosaic.Lib.Pipeline.RegionsLoop

@[expose] public section

noncomputable section

namespace Cert.Proof.Tile

open Cert.KernelIdeal Cert.KernelIdeal.Gen
open Idealize.ShloMosaic
open Idealize.ShloMosaic.TcCoe Idealize.ShloMosaic.Tactic
open Idealize.ShloMosaic.Pipeline (Dat Cfg Window BodyObligation cellOf)
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-! ## The region over the thread state -/

/-- The launch's unscoped buffers at a valuation are the unscoped references held at it. -/
theorem unscopedBufs_held (W : Valuation τ sig (Elt F)) :
    (unscopedBufs c (fun b => W ((Proc.tc : Proc τ).devRef b)) : sProp (MM F)) = StableHlo.held (T c) ucRefs W := by
  unfold unscopedBufs StableHlo.held ucRefs StableHlo.tcRefs
  rw [Finset.filter_map, bigSep_map]
  rfl

/-- The pipelines have no table to prefetch. -/
def adm : (p : Fin 1) → (pcfgs (F := F) p).Adm := fun _ => ⟨fun k => k.elim0, trivial⟩

/-- The proof data of the program's one pipeline. -/
def pdats (X : Dev nD → Valuation τ sig (Elt F)) : (p : Fin 1) → (c : Dev nD) → Dat τ (Elt F) (HIx 1) ℕ UU ℕ (Pipeline.pin (pcfgs (F := F)) adm p) c :=
  fun _ c => dat (X c) c

/-- What the region leaves in its output array. -/
def mlpArr (V : Valuation τ sig (Elt F)) (c : Dev nD) : Buf (Elt F) ((c : Thread nD τ).loc main_v51) := (dat V c).arrAt 18 cfg1.N

/-- The windows but the last are inputs, and their arrays are not the output's. -/
theorem in_of_ne : ∀ w : Fin 19, w ≠ 18 → (cfg1.win w).isOut = false := by decide
theorem ref_of_ne : ∀ w : Fin 19, w ≠ 18 → Pipeline.arrRef spec1 w ≠ main_v51 := by decide

variable (X Y : Dev nD → Valuation τ sig (Elt F))

set_option maxHeartbeats 4000000 in
set_option backward.isDefEq.respectTransparency.types false in
/-- The region over the thread state "every unscoped buffer at the valuation, nothing owed": entered by taking the
    windows' arrays out of it, left with them put back at a valuation that has the output and agrees elsewhere. -/
def reg (hY : ∀ c, Y c ((Proc.tc : Proc τ).devRef main_v51) = mlpArr (X c) c)
    (hne : ∀ c (b : Ref sig .tc), b ≠ main_v51 → Y c ((Proc.tc : Proc τ).devRef b) = X c ((Proc.tc : Proc τ).devRef b)) :
    Pipeline.RegionSeg (pcfgs (F := F)) adm (pdats X) (none : HIx 1) defs₀ 𝒱₀ (K F).L (K F).lev 0 where
  win := (launch1).win.to₀
  block_pos := (launch1).block_pos
  stage_whole := (launch1).stage_whole
  K := PEmpty
  osem k := k.elim
  ho := Pipeline.OwnSemFacts.none _
  hbody c := (body_obligation (X c) c).loose
  hwaits := Pipeline.hwaits_of_owed_zero _ _ _ _ (K F).L (K F).lev 0 fun _ _ => rfl
  pre c := iprop(StableHlo.held (T c) ucRefs (X c) ∗ ∃ W, owes (c : Thread nD τ) (0 : CellTallies nD τ sig (HIx 1)) W)
  post c := iprop(StableHlo.held (T c) ucRefs (Y c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (fun b => X c ((Proc.tc : Proc τ).devRef b))
  hentry c := by
    rw [Pipeline.ownSems0_none, ← unscopedBufs_held]
    have hsplit := Pipeline.arrays_of_unscopedBufs (p := 0) (pcfgs (F := F)) adm (pdats X) (launch1).win (launch1).arr_whole c
      ((pdats X 0 c).share_full fun _ => rfl) (fun b => X c ((Proc.tc : Proc τ).devRef b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    show _ ⊢ Pipeline.scopedRest (Ix := HIx 1) (Name := ℕ) (U := UU) (Lvl := ℕ) (Val := Elt F) spec1 c
    iintro ⟨-, -, Hr⟩; iexact Hr
  hout c := by
    rw [Pipeline.ownSems0_none]
    show Pipeline.scopedRest (Ix := HIx 1) (Name := ℕ) (U := UU) (Lvl := ℕ) (Val := Elt F) spec1 c ⊢ _
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats X) ((pdats X 0 c).share_full fun _ => rfl) (fun b => X c ((Proc.tc : Proc τ).devRef b)) (fun b => Y c ((Proc.tc : Proc τ).devRef b))
      ((pdats X 0 c).arrAt · cfg1.N)
      (fun w => by
        by_cases h : w = 18
        · subst h; exact (hY c).symm
        · exact ((pdats X 0 c).arrAt_in w (in_of_ne w h) _).trans (hne c _ (ref_of_ne w h)).symm)
      (fun b hb => hne c b fun h => hb (h ▸ Finset.mem_image.mpr ⟨18, Finset.mem_univ _, rfl⟩))
    rw [← unscopedBufs_held]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Tile

end
-- ==== Proof.Launch.lean ====
/-
  What the program's run is stated over: the buffers' contents along it, the launch element of the ghost state, and the
  program as the host's operations around the SparseCore call, the region, and the last transpose.
-/
module

public import proofs.«01_k».proof.Proof.Region
public import proofs.«01_k».proof.Proof.Gen.KernelIdeal.Points
public import Idealize.ShloMosaic.Lib.Tactic
public import Idealize.ShloMosaic.Lib.Pipeline.FrameBody
public import Idealize.ShloMosaic.Lib.Pipeline.Regions
public import Idealize.ShloMosaic.Lib.Pipeline.RegionsLoop

@[expose] public section

noncomputable section

namespace Cert.Proof.Tile

open Cert.KernelIdeal Cert.KernelIdeal.Gen
open Idealize.ShloMosaic
open Idealize.ShloMosaic.TcCoe Idealize.ShloMosaic.Tactic
open Idealize.ShloMosaic.Pipeline (Dat Cfg Window BodyObligation cellOf)
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

/-! ## The buffers' contents along the program -/

variable (m : (ℓ : Loc nD τ sig) → Buf (Elt F) ℓ) (ρ : Dev nD → PrngReg)

/-- At launch, -/
def X0 (d : Dev nD) : Valuation τ sig (Elt F) := StableHlo.launchContents m d
/-- when the SparseCore call starts, -/
def X1 (d : Dev nD) : Valuation τ sig (Elt F) := StableHlo.after preOps (X0 m d)
/-- when it has returned, -/
def X2 (d : Dev nD) : Valuation τ sig (Elt F) := StableHlo.after scOps (X1 m d)
/-- when the region starts, -/
def X3 (d : Dev nD) : Valuation τ sig (Elt F) := StableHlo.after postOps (X2 m d)
/-- when it has ended, -/
def X4 (d : Dev nD) : Valuation τ sig (Elt F) :=
  Function.update (X3 m d) ((Proc.tc : Proc τ).devRef main_v51) (mlpArr (X3 m d) d)
/-- and at the program's end. -/
def X5 (d : Dev nD) : Valuation τ sig (Elt F) := StableHlo.after lastOps (X4 m d)

theorem X1_eq (d : Dev nD) : StableHlo.after preOps (X0 m d) = X1 m d := rfl
theorem X2_eq (d : Dev nD) : StableHlo.after scOps (X1 m d) = X2 m d := rfl
theorem X3_eq (d : Dev nD) : StableHlo.after postOps (X2 m d) = X3 m d := rfl
theorem X5_eq (d : Dev nD) : StableHlo.after lastOps (X4 m d) = X5 m d := rfl

theorem X4_out (d : Dev nD) : X4 m d ((Proc.tc : Proc τ).devRef main_v51) = mlpArr (X3 m d) d := Function.update_self ..

theorem X4_ne (d : Dev nD) (b : Ref sig .tc) (h : b ≠ main_v51) :
    X4 m d ((Proc.tc : Proc τ).devRef b) = X3 m d ((Proc.tc : Proc τ).devRef b) :=
  Function.update_of_ne (fun e => h (Proc.devRef_injective _ e)) ..

/-- The region, at the contents it is entered and left at. -/
def regM : Pipeline.RegionSeg (pcfgs (F := F)) adm (pdats (X3 m)) (none : HIx 1) defs₀ 𝒱₀ (K F).L (K F).lev 0 :=
  reg (X3 m) (X4 m) (X4_out m) (X4_ne m)

theorem regM_pre (d : Dev nD) : (regM m).pre d
    = iprop(StableHlo.held (SparseCore.T d) ucRefs (X3 m d) ∗ ∃ W, owes (d : Thread nD τ) (0 : CellTallies nD τ sig (HIx 1)) W) := rfl
theorem regM_post (d : Dev nD) : (regM m).post d
    = iprop(StableHlo.held (SparseCore.T d) ucRefs (X4 m d) ∗ ∃ W, owes (d : Thread nD τ) (0 : CellTallies nD τ sig (HIx 1)) W) := rfl

/-! ## The launch element of the ghost state -/

/-- The staging cells of the pipeline's windows are distinct. -/
theorem pin_inj : Function.Injective (Pipeline.cellOf (nD := nD) (τ := τ) (Pipeline.pin (pcfgs (F := F)) adm)) := cellOf_inj

/-- The handshakes' rounds and the pipeline's, at their start; the counters at nothing. -/
def u₀ : UU := (initOf (K F).hsCells (K F).hsToks,
  (initOf (Pipeline.cells (Pipeline.pin (pcfgs (F := F)) adm) pin_inj) (Pipeline.launchToks (Pipeline.pin (pcfgs (F := F)) adm) pin_inj), 1))

/-- The pipeline's ghost state on one core. -/
def ghost (d : Dev nD) : sProp (MM F) :=
  iprop(Pipeline.cellsGhost (Pipeline.pin (pcfgs (F := F)) adm) EP 0 d ∗ Pipeline.toksInit (Pipeline.pin (pcfgs (F := F)) adm) EP 0 d)

theorem bigSep_nothing {I : Type} (s : Finset I) : (bigSep s fun _ => iprop(emp)) = (iprop(emp) : sProp (MM F)) := bigSep_emp_const s

/-- Over the one pipeline, and each core. -/
theorem one_pipe (Φ : Fin 1 → Dev nD → sProp (MM F)) :
    (bigSep Finset.univ fun c : Dev nD => bigSep Finset.univ fun p : Fin 1 => Φ p c) = bigSep Finset.univ fun c : Dev nD => Φ 0 c :=
  bigSep_congr fun c _ => bigSep_univ_of_subsingleton (0 : Fin 1)

/-- The launch element dealt out: the handshakes' rounds, and each core's pipeline state. -/
theorem launch_ghost (X : Dev nD → Valuation τ sig (Elt F)) : (ownU (u₀ (F := F)) : sProp (MM F))
    ⊢ |={Set.univ}=> iprop(BI.own (EH (initOf (K F).hsCells (K F).hsToks)) ∗ (bigSep Finset.univ fun d : Dev nD => ghost (F := F) d)
        ∗ bigSep Finset.univ fun thr : Thread nD τ => bigSep Finset.univ fun q : Fin 1 => (P X).x q thr) := by
  unfold u₀
  iintro Hu
  ihave H := (ownU_pair (initOf (K F).hsCells (K F).hsToks) _) $$ Hu
  icases H with ⟨HH, HP⟩
  ihave HP' := (show (BI.own (embR ((initOf (Pipeline.cells (Pipeline.pin (pcfgs (F := F)) adm) pin_inj) (Pipeline.launchToks (Pipeline.pin (pcfgs (F := F)) adm) pin_inj), 1) : UP × Counters)) : sProp (MM F))
    ⊢ BI.own (EP (initOf (Pipeline.cells (Pipeline.pin (pcfgs (F := F)) adm) pin_inj) (Pipeline.launchToks (Pipeline.pin (pcfgs (F := F)) adm) pin_inj))) from .rfl) $$ HP
  imod (Pipeline.fund_ghost (Pipeline.pin (pcfgs (F := F)) adm) EP pin_inj) $$ HP' with ⟨Hg, Ht⟩
  imodintro
  isplitl [HH]; · iexact HH
  isplitl [Hg Ht]
  · unfold ghost
    rw [bigSep_sep']
    isplitl [Hg]
    · iapply (Entails.of_eq (one_pipe _)); iexact Hg
    · iapply (Entails.of_eq (one_pipe _)); iexact Ht
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_nothing]
  iempintro

/-! ## The program on the TensorCore -/

/-- The program is the host's operations around the call, then the region, then the transpose. -/
theorem main_eq (d : Dev nD) : main (F := F) d = StableHlo.seq preOps >>= fun _ => (sc (F := F)).run d 0 >>= fun _ => StableHlo.seq postOps >>= fun _ =>
    Prog.lift (.customCall (SparseCore.inner (Pipeline.entry 0)) ()) >>= fun _ => StableHlo.seq lastOps >>= fun _ => pure ⟨⟩ := by
  show main_part0 d >>= (fun _ => main_part1 d) = _
  rw [main_part0_eq, main_part1_eq]
  simp only [bind_assoc]
  rw [show (StableHlo.seq lastOps >>= fun _ => Pure.pure PUnit.unit : Prog (TpuEff nD τ sig (Elt F) (SparseCore.Sig (ΛP F) 1) .tc) PUnit) = StableHlo.seq lastOps from bind_pure _]

/-- The launch hands the TensorCore its unscoped buffers at the launch contents. -/
theorem unscoped_launch (d : Dev nD) : (unscopedBufs d (fun b => m ((SparseCore.T d).loc b)) : sProp (MM F)) = StableHlo.held (T d) ucRefs (X0 m d) := by
  rw [← unscopedBufs_held]
  rfl

/-- What is left of the buffers at the end. -/
abbrev FIN (d : Dev nD) : sProp (MM F) := StableHlo.held (T d) ucRefs (X5 m d)

theorem scNames_sub : refSet scNames ⊆ ucRefs := by
  unfold ucRefs; decide

end Cert.Proof.Tile

end
-- ==== Proof.MainWp.lean ====
/-
  The program on the TensorCore: the host's operations, the SparseCore call, the host's again, the region and the last
  transpose, from the launch memory to the buffers' final contents.
-/
module

public import proofs.«01_k».proof.Proof.Launch
public import proofs.«01_k».proof.Proof.Gen.KernelIdeal.Points
public import Idealize.ShloMosaic.Lib.Tactic
public import Idealize.ShloMosaic.Lib.Pipeline.FrameBody
public import Idealize.ShloMosaic.Lib.Pipeline.Regions
public import Idealize.ShloMosaic.Lib.Pipeline.RegionsLoop

@[expose] public section

noncomputable section

namespace Cert.Proof.Tile

open Cert.KernelIdeal Cert.KernelIdeal.Gen
open Idealize.ShloMosaic
open Idealize.ShloMosaic.TcCoe Idealize.ShloMosaic.Tactic
open Idealize.ShloMosaic.Pipeline (Dat Cfg Window BodyObligation cellOf)
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]
variable (m : (ℓ : Loc nD τ sig) → Buf (Elt F) ℓ) (ρ : Dev nD → PrngReg)

attribute [local irreducible] X0 X1 X2 X3 X4 X5 StableHlo.after StableHlo.held

/-- Whatever index a TensorCore's cell is waited on at, its level is below the call's end. -/
theorem wait_below (d : Dev nD) (sm : SemLoc sig) (ι : HIx 1) : (K F).lev (SparseCore.T d, sm) ι ≤ 8 * 1 := by
  match ι with
  | none => exact Nat.zero_le _
  | some q =>
    have := (K F).lev_some_le (SparseCore.T d, sm) q
    have := q.isLt
    omega

set_option maxHeartbeats 800000 in
theorem main_wp [∀ e, Nonempty (Elt F e)] (κ : GSem nD τ sig → ℕ) (d : Dev nD) :
    iprop((K F).ctx EH (P (X1 m)) κ ∗ (K F).tcSt EH d 0 ∗ (K F).tcRes m ρ d ∗ ghost (F := F) d)
      ⊢ wp frame (wpE ((K F).defs (D F)) 𝒱 (T d) none) Set.univ (main d)
          fun _ => iprop((K F).tcSt EH d 1 ∗ FIN m d ∗ (K F).tcEnd d) := by
  unfold SparseCore.Cfg.tcRes SparseCore.Cfg.tcEnd ghost
  rw [unscoped_launch]
  rw [main_eq]
  iintro ⟨#Hctx, Hst, ⟨Hb, Hh, Hts, -⟩, Hg, Htk⟩
  iapply (StableHlo.wp_seq 𝒱 none Set.univ d ucRefs _ preOps preOps_sub preOps_fresh (X0 m d)) $$ [Hb Hh]
  · isplitl [Hb] <;> iassumption
  iintro ⟨Hb, Hh⟩
  rw [X1_eq]
  ihave Hh' := (Entails.of_eq (held_give d scNames_sub (X1 m))) $$ Hh
  icases Hh' with ⟨Hgive, Hrest⟩
  rw [wp_bind]
  iapply ((K F).wp_run (D F) 𝒱 (EH := EH) (P := P (X1 m)) κ d 0)
  isplitr; · iexact Hctx
  isplitl [Hst]; · iexact Hst
  isplitl [Hgive]; · iexact Hgive
  iintro ⟨Hst, Hdn⟩
  ihave Hh := (Entails.of_eq (held_take d scNames_sub (X1 m)).symm) $$ [Hdn Hrest]
  · isplitl [Hdn] <;> iassumption
  rw [X2_eq]
  iapply (StableHlo.wp_seq 𝒱 none Set.univ d ucRefs _ postOps postOps_sub postOps_fresh (X2 m d)) $$ [Hb Hh]
  · isplitl [Hb] <;> iassumption
  iintro ⟨Hb, Hh⟩
  rw [X3_eq, wp_bind]
  unfold SparseCore.Cfg.tcSt
  icases Hst with ⟨⟨%W, %hW, HO⟩, Hst⟩
  rw [show (K F).Otc d ((0 : Fin 1).val + 1) = 0 from (K F).Otc_end d le_rfl]
  iapply ((K F).wp_liftProg (D := D F) (𝒱 := 𝒱) (T d) Set.univ none (.op (.customCall (Pipeline.entry 0) ()) .ret) _)
  iapply ((Pipeline.RegionSeg.wp (pcfgs (F := F)) adm (pdats (X3 m)) (none : HIx 1) pin_inj EP defs₀ 𝒱₀ (K F).L (K F).lev (regM m) d none (fun _ h => nomatch h) .ret _))
  rw [regM_pre, regM_post]
  isplitr [Hb Hh HO Hg Htk]
  swap
  · isplitl [Hb]; · iexact Hb
    isplitl [Hh HO]
    · isplitl [Hh]; · iexact Hh
      iexists W; iexact HO
    isplitr
    · iapply (SparseCore.Cfg.ctx_levAts κ); iexact Hctx
    isplitl [Hg] <;> iassumption
  iintro ⟨Hb, Hh, ⟨%W', HO⟩⟩
  rw [wp_ret]
  imodintro
  iapply (StableHlo.wp_seq 𝒱 none Set.univ d ucRefs _ lastOps lastOps_sub lastOps_fresh (X4 m d)) $$ [Hb Hh]
  · isplitl [Hb] <;> iassumption
  iintro ⟨Hb, Hh⟩
  rw [X5_eq, wp_pure]
  imodintro
  isplitl [HO Hst]
  · isplitl [HO]
    · iexists W'
      isplitr
      · ipureintro
        exact fun p _ => wait_below d p.1 p.2
      · rw [(K F).Otc_end d le_rfl]; iexact HO
    iexact Hst
  isplitl [Hh]; · iexact Hh
  isplitl [Hb] <;> iassumption

end Cert.Proof.Tile

end
-- ==== Proof.Run.lean ====
/-
  The whole machine's run: from any launch memory whose ids name rows, every execution ends, with every counter at zero
  and the TensorCore's buffers at their final contents; and which buffers those contents leave as they were.
-/
module

public import proofs.«01_k».proof.Proof.MainWp
public import proofs.«01_k».proof.Proof.Obl
public import Idealize.ShloMosaic.Lib.SparseCore.Quiescent

@[expose] public section

noncomputable section

namespace Cert.Proof.Tile

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## What the operations leave alone -/

/-- The names the operations before the call write, in order. -/
def preNames : List (Ref sig .tc) :=
  [main_c, main_call0_v0, main_v0, main_v1, main_c_0, main_call1_v0, main_v2, main_v3, main_c_1, main_call2_v0, main_v4, main_v5,
   main_c_2, main_call3_v0, main_v6, main_v7, main_c_3, main_call4_v0, main_v8, main_v9, main_c_4, main_call5_v0, main_v10, main_v11,
   main_c_5, main_call6_v0, main_v12, main_v13, main_c_6, main_call7_v0, main_v14, main_v15, main_c_7, main_call8_v0, main_v16, main_v17]

/-- The names the operations between the call and the region write, in order. -/
def postNames : List (Ref sig .tc) :=
  [main_v19, main_v20, main_v21, main_v22, main_v23, main_v24, main_v25, main_v26, main_v27, main_v28, main_v29, main_v30,
   main_v31, main_v32, main_v33, main_v34, main_v35, main_v36, main_v37, main_v38, main_v39, main_v40, main_v41, main_v42,
   main_v43, main_v44, main_v45, main_v46, main_v47, main_v48, main_v49, main_v50]

theorem pre_keep (V : Valuation τ sig (Elt F)) {r : Ref sig .tc} (h : r ∉ preNames) :
    StableHlo.after preOps V (Proc.devRef .tc r) = V (Proc.devRef .tc r) :=
  StableHlo.after_of_writes_sub (W := preNames) preOps V (StableHlo.forall_writes_sub_of_map rfl) h

theorem post_keep (V : Valuation τ sig (Elt F)) {r : Ref sig .tc} (h : r ∉ postNames) :
    StableHlo.after postOps V (Proc.devRef .tc r) = V (Proc.devRef .tc r) :=
  StableHlo.after_of_writes_sub (W := postNames) postOps V (StableHlo.forall_writes_sub_of_map rfl) h

theorem last_keep (V : Valuation τ sig (Elt F)) {r : Ref sig .tc} (h : r ∉ [main_v52]) :
    StableHlo.after lastOps V (Proc.devRef .tc r) = V (Proc.devRef .tc r) :=
  StableHlo.after_of_writes_sub (W := [main_v52]) lastOps V (StableHlo.forall_writes_sub_of_map rfl) h

/-- Everything the program writes on the TensorCore. -/
def allNames : List (Ref sig .tc) := preNames ++ outNames ++ postNames ++ [main_v51, main_v52]

theorem X1_keep (d : Dev nD) {r : Ref sig .tc} (h : r ∉ preNames) : X1 m d (Proc.devRef .tc r) = m ((SparseCore.T d).loc r) :=
  pre_keep (X0 m d) h

theorem X3_keep (d : Dev nD) {r : Ref sig .tc} (h : r ∉ preNames ++ outNames ++ postNames) :
    X3 m d (Proc.devRef .tc r) = m ((SparseCore.T d).loc r) := by
  simp only [List.mem_append, not_or] at h
  exact (post_keep (X2 m d) h.2).trans ((scOps_keep (X1 m d) h.1.2).trans (X1_keep m d h.1.1))

/-- A buffer it does not write ends as it started. -/
theorem X5_keep (d : Dev nD) {r : Ref sig .tc} (h : r ∉ allNames) : X5 m d (Proc.devRef .tc r) = m ((SparseCore.T d).loc r) := by
  unfold allNames at h
  rw [List.mem_append, not_or] at h
  have h2 := h.2
  simp only [List.mem_cons, not_or, List.not_mem_nil, not_false_eq_true, and_true] at h2
  exact (last_keep (X4 m d) (by simpa using h2.2)).trans ((X4_ne m d r h2.1).trans (X3_keep m d h.1))

/-! ## The run -/

/-- On a device, the TensorCore's buffers are at their final contents. -/
def fq (d : Dev nD) (s' : Phys nD τ sig (Elt F)) : Prop := ∀ b ∈ ucRefs, s'.mem.mem (d, b) = X5 m d b

theorem hfin (d : Dev nD) (s' : Phys nD τ sig (Elt F)) : iprop(FIN m d ∗ SI s') ⊢ (⌜fq m d s'⌝ : sProp (MM F)) := by
  unfold FIN StableHlo.held
  iintro ⟨Hx, HSI⟩
  iapply (SI_pointsTo_bufs_agree (st := s') (c := d) (qs := fun _ => fullShare) (F := X5 m d) ucRefs) $$ [HSI Hx]
  isplitl [HSI] <;> iassumption

/-- What every final state satisfies. -/
def QC : PUnit × MemSt nD τ sig (Elt F) → Prop := fun r => (∀ d : Dev nD, ∀ b ∈ ucRefs, r.2.mem (d, b) = X5 m d b) ∧ r.2.sem = fun _ => 0

def v₀ : 𝒱.V := Sum.inl none

set_option maxHeartbeats 1000000 in
theorem run_main [∀ e, Nonempty (Elt F e)] (hX : ∀ d, IdsOk (X1 m d)) :
    θ_run (Cert.KernelIdeal.defs (F := F)) (Cert.KernelIdeal.threads (F := F)) ⟨m, fun _ => 0, ρ⟩ (QC m) :=
  SparseCore.Cfg.θ_run_sc_quiescent (K := K F) (D := D F) (𝒱 := 𝒱) (EH := EH) (P := P (X1 m)) (A := ∅) facts v₀
    (fun q hq => match q with | 0 => nomatch hq)
    (fun q _ => match q with | 0 => tileObl (X1 m) hX)
    (fun q _ => match q with | 0 => SparseCore.Cfg.VecSplit.of_plain (vecSplit (X1 m)))
    m ρ main ghost (FIN m) u₀ (sep_elim_left.trans (launch_ghost _)) (main_wp m ρ) (fq m) (hfin m) (QC m) (fun _ h hz => ⟨h, hz⟩)

/-- An argument ends as it started. -/
theorem keeps {r : PUnit × MemSt nD τ sig (Elt F)} (h : QC m r) (d : Dev nD) (b : Ref sig .tc) (hb : Proc.devRef .tc b ∈ ucRefs) (hn : b ∉ allNames) :
    r.2.mem ((SparseCore.T d).loc b) = m ((SparseCore.T d).loc b) := (h.1 d _ hb).trans (X5_keep m d hn)

end Cert.Proof.Tile

end
-- ==== Proof.Ids.lean ====
/-
  The precondition read: where the ids lie in their ranges, every id names a row of its table.
-/
module

public import proofs.«01_k».proof.Defs
public import proofs.«01_k».proof.Proof.Run

@[expose] public section

noncomputable section

namespace Cert.Proof.Tile

open Cert.KernelIdeal Cert.KernelIdeal.Gen
open Idealize.ShloMosaic
open Idealize.ShloMosaic.TcCoe
open Idealize.SL.Sem

variable {F : FTy → Type} [FloatOps F]

/-- What the predicate's text states of its shapes. -/
instance preFacts : Cert.Pre_ids_in_range.Facts := ⟨by decide⟩

theorem andi_ofBool (p q : Bool) : IntOp.andi (BitVec.ofBool p) (BitVec.ofBool q) = BitVec.ofBool (p && q) := by
  cases p <;> cases q <;> decide

theorem ofBool_one (p : Bool) : BitVec.ofBool p = 1#1 ↔ p = true := by cases p <;> decide

/-- An id between zero and a bound, read signed, is below the bound read unsigned. -/
theorem below {v : BitVec 32} {n : ℕ} (hn : n < 2147483648) (h : BitVec.sle 0#32 v = true ∧ BitVec.slt v (BitVec.ofNat 32 n) = true) : v.toNat < n := by
  have h1 := h.1
  have h2 := h.2
  simp only [BitVec.sle_eq_decide, BitVec.slt_eq_decide, decide_eq_true_eq, BitVec.toInt_eq_toNat_cond, BitVec.toNat_ofNat, Nat.reducePow, Nat.reduceMod] at h1 h2
  rw [Nat.mod_eq_of_lt (by omega : n < 4294967296)] at h2
  omega

set_option maxHeartbeats 4000000 in
/-- The predicate at one row says each id of that row is in range. -/
theorem pre_row (x0 : FVec F Cert.Pre_ids_in_range.S16384x62 .f32) (i1 i2 i3 i4 i5 i6 i7 i8 i9 : IVec Cert.Pre_ids_in_range.S16384 32)
    (t10 t11 t12 t13 t14 t15 t16 t17 t18 : _) (w19 w20 w21 w22 w23 w24 w25 w26 : _) (j : Cert.Pre_ids_in_range.S16384.Idx)
    (h : Cert.Pre_ids_in_range.fn (F := F) x0 i1 i2 i3 i4 i5 i6 i7 i8 i9 t10 t11 t12 t13 t14 t15 t16 t17 t18 w19 w20 w21 w22 w23 w24 w25 w26 j = 1#1) :
    (i1 j).toNat < 1000 ∧ (i2 j).toNat < 1000 ∧ (i3 j).toNat < 100000 ∧ (i4 j).toNat < 100000 ∧ (i5 j).toNat < 100000 ∧ (i6 j).toNat < 100000
      ∧ (i7 j).toNat < 100000 ∧ (i8 j).toNat < 100000 ∧ (i9 j).toNat < 26 := by
  simp only [Cert.Pre_ids_in_range.fn, Cert.Pre_ids_in_range.fn_part1, Cert.Pre_ids_in_range.fn_part2, andi, cmpi, broadcastInDim, constantI,
    IntOp.cmpi, andi_ofBool, ofBool_one, Bool.and_eq_true] at h
  refine ⟨below (by decide) ⟨?_, ?_⟩, below (by decide) ⟨?_, ?_⟩, below (by decide) ⟨?_, ?_⟩, below (by decide) ⟨?_, ?_⟩, below (by decide) ⟨?_, ?_⟩,
    below (by decide) ⟨?_, ?_⟩, below (by decide) ⟨?_, ?_⟩, below (by decide) ⟨?_, ?_⟩, below (by decide) ⟨?_, ?_⟩⟩ <;> simp only [h]

/-- From a launch memory of which it holds, the ids are in range when the call starts. -/
theorem idsOk (m : (ℓ : Loc nD τ sig) → Buf (Elt F) ℓ) (d : Dev nD)
    (h : Cert.Pre_ids_in_range.fn (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) = fun _ => 1#1) :
    IdsOk (X1 m d) := by
  have H := fun b => pre_row _ _ _ _ _ _ _ _ _ _ _ _ _ _ _ _ _ _ _ _ _ _ _ _ _ _ _ b (congrFun h b)
  have keep (r : Ref sig .tc) (hr : r ∉ preNames) := X1_keep m d hr
  exact {
    h1 := fun b => (keep main_arg1 (by decide)) ▸ (H b).1
    h2 := fun b => (keep main_arg2 (by decide)) ▸ (H b).2.1
    h3 := fun b => (keep main_arg3 (by decide)) ▸ (H b).2.2.1
    h4 := fun b => (keep main_arg4 (by decide)) ▸ (H b).2.2.2.1
    h5 := fun b => (keep main_arg5 (by decide)) ▸ (H b).2.2.2.2.1
    h6 := fun b => (keep main_arg6 (by decide)) ▸ (H b).2.2.2.2.2.1
    h7 := fun b => (keep main_arg7 (by decide)) ▸ (H b).2.2.2.2.2.2.1
    h8 := fun b => (keep main_arg8 (by decide)) ▸ (H b).2.2.2.2.2.2.2.1
    h9 := fun b => (keep main_arg9 (by decide)) ▸ (H b).2.2.2.2.2.2.2.2 }

end Cert.Proof.Tile

end
-- ==== Proof.Frames.lean ====
/-
  The frames: kernel and reference run to the end from any memory the precondition holds of, leave their arguments as
  they were, and leave every semaphore counter at zero.
-/
module

public import proofs.«01_k».proof.Proof.Ids
public import proofs.«01_k».proof.Proof.Gen.Kernel
public import proofs.«01_k».proof.Proof.Gen.ReferenceIdeal.Run

@[expose] public section

noncomputable section

namespace Cert.Proof.Tile

open Cert.KernelIdeal Cert.KernelIdeal.Gen
open Idealize.ShloMosaic
open Idealize.ShloMosaic.TcCoe
open Idealize.SL.Sem

/-- The program's arguments. -/
def argNames : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem args_live : ∀ b ∈ argNames, Proc.devRef (τ := τ) .tc b ∈ ucRefs := by
  unfold ucRefs; decide

theorem args_kept : ∀ b ∈ argNames, b ∉ allNames := by decide

variable {F : FTy → Type} [FloatOps F]

/-- An argument's contents at a final state. -/
theorem arg_end (m : (ℓ : Loc nD τ sig) → Buf (Elt F) ℓ) {r : PUnit × MemSt nD τ sig (Elt F)} (h : QC m r) (d : Dev nD) (b : Ref sig .tc)
    (hb : b ∈ argNames) : r.2.mem ((d.tc : Thread nD τ).loc b) = m ((d.tc : Thread nD τ).loc b) :=
  keeps m h d b (args_live b hb) (args_kept b hb)

/-- All of them. -/
theorem args_end (m : (ℓ : Loc nD τ sig) → Buf (Elt F) ℓ) {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  have k := arg_end m h c
  exact ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide), k main_arg17 (by decide), k main_arg18 (by decide), k main_arg19 (by decide), k main_arg20 (by decide), k main_arg21 (by decide), k main_arg22 (by decide), k main_arg23 (by decide), k main_arg24 (by decide), k main_arg25 (by decide), k main_arg26 (by decide)⟩

/-- The frame, over any floats. -/
theorem frame_any [∀ e, Nonempty (Elt F e)] (m : (ℓ : Loc nD τ sig) → Buf (Elt F) ℓ) (ρ : Dev nD → PrngReg) (hX : ∀ d, IdsOk (X1 m d)) :
    θ_run (Cert.KernelIdeal.defs (F := F)) (Cert.KernelIdeal.threads (F := F)) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26))
      ∧ r.2.sem = fun _ => 0 :=
  (θ_run Cert.KernelIdeal.defs _ _).mono (fun _ h => ⟨args_end m h, h.2⟩) (run_main m ρ hX)

/-- The ideal kernel's frame. -/
theorem frame_ideal : Cert.quiescent_KernelIdeal := fun m ρ hpre => frame_any m ρ fun d => idsOk m d (hpre d)

/-- The reference's. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Tile

end
-- ==== Proof.KernelFrame.lean ====
/-
  The kernel's frame: its program is the ideal kernel's text over the words, so the run over any floats is its run.
-/
module

public import proofs.«01_k».proof.Proof.Frames

@[expose] public section

noncomputable section

namespace Cert.Proof.Tile

open Idealize.ShloMosaic
open Idealize.SL.Sem

set_option cleanup.letToHave false in
set_option smartUnfolding false in
set_option maxHeartbeats 40000000 in
/-- The kernel's frame. -/
theorem frame_kernel : Cert.quiescent_Kernel := fun m ρ hpre => frame_any (F := Bits) m ρ fun d => idsOk (F := Bits) m d (hpre d)

end Cert.Proof.Tile

end
-- ==== Proof.Blocks.lean ====
/-
  The dense layers' blocks at coordinates: the ten feature windows cut the columns in runs of 2048, the weight and bias windows
  are whole arrays, and the output's runs tile its array.
-/
module

public import proofs.«01_k».proof.Proof.MainWp
public import Idealize.ShloMosaic.Lib.Pipeline.ValueKit.Geometry
public import Idealize.ShloMosaic.Lib.Pipeline.ValueKit.Point

@[expose] public section

noncomputable section

namespace Cert.Proof.Tile

open Cert.KernelIdeal Cert.KernelIdeal.Gen
open Idealize.ShloMosaic
open Idealize.ShloMosaic.TcCoe

variable {F : FTy → Type} [FloatOps F]

/-- Column `j` of run `t`. -/
def col (t : Fin cfg1.N) (j : Fin 2048) : Fin 16384 :=
  ⟨t.val * 2048 + j.val, by have h : t.val < 8 := t.isLt; have := j.isLt; omega⟩

/-- Run `t` of the columns of an array. -/
def cut {α : Type} {n : ℕ} (x : (⟨2, ![n, 16384]⟩ : Shape).Idx → α) (t : Fin cfg1.N) : (⟨2, ![n, 2048]⟩ : Shape).Idx → α :=
  fun y => x (ValueIdx.ix2 (y 0) (col t (y 1)))

/-- The windows' block indices: the feature windows and the output walk the runs, the others stay. -/
theorem idx_runs : ∀ t : Fin cfg1.N, win1_0.index t = ![0, t.val] ∧ win1_1.index t = ![0, t.val] ∧ win1_2.index t = ![0, t.val] ∧ win1_3.index t = ![0, t.val]
    ∧ win1_4.index t = ![0, t.val] ∧ win1_5.index t = ![0, t.val] ∧ win1_6.index t = ![0, t.val] ∧ win1_7.index t = ![0, t.val]
    ∧ win1_8.index t = ![0, t.val] ∧ win1_9.index t = ![0, t.val] ∧ win1_18.index t = ![0, t.val] :=
  (by decide +kernel : ∀ t : Fin grid1.N, _)

theorem idx_stay : ∀ t : Fin cfg1.N, win1_10.index t = ![0, 0] ∧ win1_11.index t = ![0, 0] ∧ win1_12.index t = ![0, 0] ∧ win1_13.index t = ![0, 0]
    ∧ win1_14.index t = ![0, 0] ∧ win1_15.index t = ![0, 0] ∧ win1_16.index t = ![0, 0] ∧ win1_17.index t = ![0, 0] :=
  (by decide +kernel : ∀ t : Fin grid1.N, _)

set_option maxHeartbeats 2000000 in
/-- The feature blocks are runs of the feature arrays. -/
theorem blk_runs (V : Valuation τ sig (Elt F)) (t : Fin cfg1.N) :
    blkAt V 0 t = cut (V (Proc.devRef .tc main_v46)) t
    ∧ blkAt V 1 t = cut (V (Proc.devRef .tc main_v21)) t
    ∧ blkAt V 2 t = cut (V (Proc.devRef .tc main_v24)) t
    ∧ blkAt V 3 t = cut (V (Proc.devRef .tc main_v27)) t
    ∧ blkAt V 4 t = cut (V (Proc.devRef .tc main_v30)) t
    ∧ blkAt V 5 t = cut (V (Proc.devRef .tc main_v33)) t
    ∧ blkAt V 6 t = cut (V (Proc.devRef .tc main_v36)) t
    ∧ blkAt V 7 t = cut (V (Proc.devRef .tc main_v39)) t
    ∧ blkAt V 8 t = cut (V (Proc.devRef .tc main_v42)) t
    ∧ blkAt V 9 t = cut (V (Proc.devRef .tc main_v45)) t := by
  obtain ⟨e0, e1, e2, e3, e4, e5, e6, e7, e8, e9, -⟩ := idx_runs t
  refine ⟨?_, ?_, ?_, ?_, ?_, ?_, ?_, ?_, ?_, ?_⟩ <;> funext y <;> unfold blkAt <;> blk_simp
  all_goals refine congrArg (V _) (funext fun a => Fin.ext ?_)
  all_goals match a with
    | ⟨0, _⟩ => blk_simp [e0, e1, e2, e3, e4, e5, e6, e7, e8, e9]; rfl
    | ⟨1, _⟩ => blk_simp [e0, e1, e2, e3, e4, e5, e6, e7, e8, e9]; rfl

set_option maxHeartbeats 2000000 in
/-- The weight and bias blocks are the whole arrays. -/
theorem blk_stay (V : Valuation τ sig (Elt F)) (t : Fin cfg1.N) :
    blkAt V 10 t = V (Proc.devRef .tc main_arg19)
    ∧ blkAt V 11 t = V (Proc.devRef .tc main_v47)
    ∧ blkAt V 12 t = V (Proc.devRef .tc main_arg21)
    ∧ blkAt V 13 t = V (Proc.devRef .tc main_v48)
    ∧ blkAt V 14 t = V (Proc.devRef .tc main_arg23)
    ∧ blkAt V 15 t = V (Proc.devRef .tc main_v49)
    ∧ blkAt V 16 t = V (Proc.devRef .tc main_arg25)
    ∧ blkAt V 17 t = V (Proc.devRef .tc main_v50) := by
  obtain ⟨e0, e1, e2, e3, e4, e5, e6, e7⟩ := idx_stay t
  refine ⟨?_, ?_, ?_, ?_, ?_, ?_, ?_, ?_⟩ <;> funext y <;> unfold blkAt <;> blk_simp
  all_goals refine congrArg (V _) (funext fun a => Fin.ext ?_)
  all_goals match a with
    | ⟨0, _⟩ => blk_simp [e0, e1, e2, e3, e4, e5, e6, e7]
    | ⟨1, _⟩ => blk_simp [e0, e1, e2, e3, e4, e5, e6, e7]

/-- The row of run `t` from the arrays. -/
theorem rows_at (V : Valuation τ sig (Elt F)) (t : Fin cfg1.N) : rowAt V t
    = mlpOut (cut (V (Proc.devRef .tc main_v46)) t) (cut (V (Proc.devRef .tc main_v21)) t) (cut (V (Proc.devRef .tc main_v24)) t) (cut (V (Proc.devRef .tc main_v27)) t) (cut (V (Proc.devRef .tc main_v30)) t) (cut (V (Proc.devRef .tc main_v33)) t) (cut (V (Proc.devRef .tc main_v36)) t) (cut (V (Proc.devRef .tc main_v39)) t) (cut (V (Proc.devRef .tc main_v42)) t) (cut (V (Proc.devRef .tc main_v45)) t)
        (V (Proc.devRef .tc main_arg19)) (V (Proc.devRef .tc main_v47)) (V (Proc.devRef .tc main_arg21)) (V (Proc.devRef .tc main_v48)) (V (Proc.devRef .tc main_arg23)) (V (Proc.devRef .tc main_v49)) (V (Proc.devRef .tc main_arg25)) (V (Proc.devRef .tc main_v50)) := by
  obtain ⟨e0, e1, e2, e3, e4, e5, e6, e7, e8, e9⟩ := blk_runs V t
  obtain ⟨f0, f1, f2, f3, f4, f5, f6, f7⟩ := blk_stay V t
  unfold rowAt
  rw [e0, e1, e2, e3, e4, e5, e6, e7, e8, e9, f0, f1, f2, f3, f4, f5, f6, f7]

/-- The region's output array from its rows. -/
theorem arr_at (V : Valuation τ sig (Elt F)) (c : Dev nD) :
    mlpArr V c = fun i : S1x16384.Idx => rowAt V ⟨(i 1).val / 2048, by have h : (i 1).val < 16384 := (i 1).isLt; show _ < 8; omega⟩
      (ValueIdx.ix2 (0 : Fin 1) (⟨(i 1).val % 2048, Nat.mod_lt _ (by decide)⟩ : Fin 2048)) := by
  unfold mlpArr
  refine (dat V c).arrAt_eq_of_covers 18 _ (by decide +kernel) fun t hf y => ?_
  have e := (idx_runs t).2.2.2.2.2.2.2.2.2.2
  have e1 : win1_18.index t 1 = t.val := congrFun e 1
  have hy : (y 1).val < 2048 := (y 1).isLt
  have key : ∀ (t' : Fin cfg1.N) (j : Fin 2048), t' = t → j.val = (y 1).val → rowAt V t y = rowAt V t' (ValueIdx.ix2 (0 : Fin 1) j) := by
    rintro _ j rfl hj
    refine congrArg (rowAt V _) (funext fun a => ?_)
    match a with
    | ⟨0, _⟩ => exact Subsingleton.elim (α := Fin 1) _ _
    | ⟨1, _⟩ => exact Fin.ext hj.symm
  blk_simp
  refine key _ _ (Fin.ext ?_) ?_
  · show (win1_18.index t 1 * 2048 + (y 1).val) / 2048 = t.val
    rw [e1]; omega
  · show (win1_18.index t 1 * 2048 + (y 1).val) % 2048 = (y 1).val
    rw [e1]; omega

end Cert.Proof.Tile

end
-- ==== Proof.Dense.lean ====
/-
  The dense layers at the ideal values, entry by entry: a layer of the kernel (weights times columns) and a layer of the
  reference (rows times transposed weights) are one sum of products, a bias, and a maximum with zero.
-/
module

public import Idealize.ShloMosaic.Lib.MatmulPlain
public import Idealize.ShloMosaic.Lib.StackMember
public import Idealize.ShloMosaic.Lib.Pipeline.Value

@[expose] public section

noncomputable section

namespace Cert.Proof.Tile

open Idealize.ShloMosaic
open scoped BigOperators

/-- One output of a linear map with a bias. -/
def lin {M K : ℕ} (W : (⟨2, ![M, K]⟩ : Shape).Idx → EReal) (β : Fin M → EReal) (x : Fin K → EReal) (i : Fin M) : EReal :=
  (∑ k : Fin K, W (ValueIdx.ix2 i k) * x k) + β i

/-- The four layers on one row of features. -/
def net (W1 : (⟨2, ![40, 128]⟩ : Shape).Idx → EReal) (β1 : Fin 40 → EReal) (W2 : (⟨2, ![40, 40]⟩ : Shape).Idx → EReal) (β2 : Fin 40 → EReal)
    (W3 : (⟨2, ![40, 40]⟩ : Shape).Idx → EReal) (β3 : Fin 40 → EReal) (W4 : (⟨2, ![1, 40]⟩ : Shape).Idx → EReal) (β4 : Fin 1 → EReal) (x : Fin 128 → EReal) : EReal :=
  lin W4 β4 (fun i => max (lin W3 β3 (fun i => max (lin W2 β2 (fun i => max (lin W1 β1 x i) 0) i) 0) i) 0) 0

/-- The kernel's linear map at an entry. -/
theorem lin_kernel {M K N : ℕ} (d : DotDims ⟨2, ![M, K]⟩ ⟨2, ![K, N]⟩ ⟨2, ![M, N]⟩) (hd : d = DotDims.plain M K N)
    (W : FVec Ideal ⟨2, ![M, K]⟩ .f32) (x : FVec Ideal ⟨2, ![K, N]⟩ .f32) (β : FVec Ideal ⟨2, ![M, 1]⟩ .f32)
    (hs : (⟨2, ![M, 1]⟩ : Shape).ShapeCasts ⟨2, ![M, 1]⟩) (hb : (⟨2, ![M, 1]⟩ : Shape).Broadcasts ⟨2, ![M, N]⟩) (i : Fin M) (j : Fin N) :
    addf (matmul d none W x (constant (F := Ideal) ⟨2, ![M, N]⟩ .f32 0x00000000#32)) (broadcastTo ⟨2, ![M, N]⟩ (shapeCast ⟨2, ![M, 1]⟩ β hs) hb) (ValueIdx.ix2 i j)
      = lin W (fun i => β (ValueIdx.ix2 i 0)) (fun k => x (ValueIdx.ix2 k j)) i := by
  subst hd
  show FloatOps.matmul (DotDims.plain M K N) none W x (constant (F := Ideal) ⟨2, ![M, N]⟩ .f32 0x00000000#32) (ValueIdx.ix2 i j)
    + broadcastTo ⟨2, ![M, N]⟩ (shapeCast ⟨2, ![M, 1]⟩ β hs) hb (ValueIdx.ix2 i j) = _
  rw [Ideal.matmul_plain_apply, shapeCast_self, broadcastTo_apply β hb _ (ValueIdx.ix2 i (0 : Fin 1)) (fun a => by
    match a with
    | ⟨0, _⟩ =>
      show i.val = if M = 1 then 0 else i.val
      have := i.isLt
      split <;> omega
    | ⟨1, _⟩ => rfl)]
  show Ideal.ofBits .f32 0x00000000#32 + _ + _ = _
  rw [Ideal.ofBits_zero_f32, zero_add]
  rfl

/-- The kernel's layer at an entry. -/
theorem relu_kernel {s : Shape} (y : FVec Ideal s .f32) (j : s.Idx) :
    maximumf y (broadcast s (Scalar.ofBits (F := Ideal) .f32 0x00000000#32)) j = max (y j) 0 := by
  show max (y j) (Ideal.ofBits .f32 0x00000000#32) = _
  rw [Ideal.ofBits_zero_f32]

/-- The reference's linear map at an entry. -/
theorem lin_reference {M K N : ℕ} (d : DotDims ⟨2, ![N, K]⟩ ⟨2, ![K, M]⟩ ⟨2, ![N, M]⟩) (hd : d = DotDims.plain N K M)
    (W : FVec Ideal ⟨2, ![M, K]⟩ .f32) (x : FVec Ideal ⟨2, ![N, K]⟩ .f32) (β : FVec Ideal ⟨1, ![M]⟩ .f32)
    (ht : (⟨2, ![M, K]⟩ : Shape).Transposes [1, 0] ⟨2, ![K, M]⟩) (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (i : Fin M) (j : Fin N) :
    addf (Host.dotGeneral d none x (transpose ⟨2, ![K, M]⟩ [1, 0] W ht)) (broadcastInDim ⟨2, ![N, M]⟩ ![0, 1] h2 (broadcastInDim ⟨2, ![1, M]⟩ ![1] h1 β)) (ValueIdx.ix2 j i)
      = lin W (fun i => β (ValueIdx.ix1 i)) (fun k => x (ValueIdx.ix2 j k)) i := by
  subst hd
  show Host.dotGeneral (DotDims.plain N K M) none x (transpose ⟨2, ![K, M]⟩ [1, 0] W ht) (ValueIdx.ix2 j i)
    + broadcastInDim ⟨2, ![N, M]⟩ ![0, 1] h2 (broadcastInDim ⟨2, ![1, M]⟩ ![1] h1 β) (ValueIdx.ix2 j i) = _
  have hi : i.val = if M = 1 then 0 else i.val := by have := i.isLt; split <;> omega
  rw [StackMember.dotGeneral_plain_apply, broadcastInDim_apply _ h2 _ _ (ValueIdx.ix2 (0 : Fin 1) i) (fun a => by
    match a with
    | ⟨0, _⟩ => rfl
    | ⟨1, _⟩ => exact hi), broadcastInDim_apply _ h1 _ _ (ValueIdx.ix1 i) (fun a => by match a with | ⟨0, _⟩ => exact hi)]
  unfold lin
  refine congrArg (· + β (ValueIdx.ix1 i)) (Finset.sum_congr rfl fun k _ => ?_)
  rw [transpose_apply [1, 0] W ht _ (ValueIdx.ix2 i k) (fun a => by match a with | ⟨0, _⟩ => rfl | ⟨1, _⟩ => rfl)]
  exact mul_comm _ _

/-- The reference's layer at an entry. -/
theorem relu_reference {s : Shape} (y : FVec Ideal s .f32) (h : (⟨0, ![]⟩ : Shape).BroadcastsInDim s ![]) (j : s.Idx) :
    maximumf y (broadcastInDim s ![] h (constant (F := Ideal) ⟨0, ![]⟩ .f32 0x00000000#32)) j = max (y j) 0 := by
  show max (y j) (Ideal.ofBits .f32 0x00000000#32) = _
  rw [Ideal.ofBits_zero_f32]

/-! ## Ten pieces side by side -/

/-- Sixty-two features, two embeddings of five and seven of eight, in order. -/
def cat10 {α : Type} (n : Fin 62 → α) (a b : Fin 5 → α) (c0 c1 c2 c3 c4 c5 c6 : Fin 8 → α) (k : Fin 128) : α :=
  if h : k.val < 62 then n ⟨k.val, h⟩
  else if h : k.val < 67 then a ⟨k.val - 62, by omega⟩
  else if h : k.val < 72 then b ⟨k.val - 67, by omega⟩
  else if h : k.val < 80 then c0 ⟨k.val - 72, by omega⟩
  else if h : k.val < 88 then c1 ⟨k.val - 80, by omega⟩
  else if h : k.val < 96 then c2 ⟨k.val - 88, by omega⟩
  else if h : k.val < 104 then c3 ⟨k.val - 96, by omega⟩
  else if h : k.val < 112 then c4 ⟨k.val - 104, by omega⟩
  else if h : k.val < 120 then c5 ⟨k.val - 112, by omega⟩
  else c6 ⟨k.val - 120, by omega⟩

/-- A concatenation along the rows at an entry of its piece `q`. -/
theorem cat_rows {α : Type} {K J m : ℕ} (xs : List ((s : Shape) × (s.Idx → α))) (h : Shape.Concatenates (xs.map (·.1)) ⟨2, ![K, J]⟩ 0)
    (q : ℕ) (hq : q < xs.length) (x : (⟨2, ![m, J]⟩ : Shape).Idx → α) (hx : xs[q] = ⟨⟨2, ![m, J]⟩, x⟩) (pre : ℕ)
    (hpre : (((xs.take q).map (·.1)).map fun s => if h : s.rank = (⟨2, ![K, J]⟩ : Shape).rank then s.size ((0 : Fin 2).cast h.symm) else 0).sum = pre)
    (k : Fin K) (j : Fin J) (i : Fin m) (hi : pre + i.val = k.val) :
    concatenate ⟨2, ![K, J]⟩ 0 xs h (ValueIdx.ix2 k j) = x (ValueIdx.ix2 i j) :=
  concatenate_apply_piece 0 xs h _ q hq _ x hx rfl pre hpre _ (fun b hb => by
    match b with
    | ⟨0, _⟩ => exact absurd rfl hb
    | ⟨1, _⟩ => rfl) hi

/-- A concatenation along the columns at an entry of its piece `q`. -/
theorem cat_cols {α : Type} {K J m : ℕ} (xs : List ((s : Shape) × (s.Idx → α))) (h : Shape.Concatenates (xs.map (·.1)) ⟨2, ![J, K]⟩ 1)
    (q : ℕ) (hq : q < xs.length) (x : (⟨2, ![J, m]⟩ : Shape).Idx → α) (hx : xs[q] = ⟨⟨2, ![J, m]⟩, x⟩) (pre : ℕ)
    (hpre : (((xs.take q).map (·.1)).map fun s => if h : s.rank = (⟨2, ![J, K]⟩ : Shape).rank then s.size ((1 : Fin 2).cast h.symm) else 0).sum = pre)
    (k : Fin K) (j : Fin J) (i : Fin m) (hi : pre + i.val = k.val) :
    concatenate ⟨2, ![J, K]⟩ 1 xs h (ValueIdx.ix2 j k) = x (ValueIdx.ix2 j i) :=
  concatenate_apply_piece 1 xs h _ q hq _ x hx rfl pre hpre _ (fun b hb => by
    match b with
    | ⟨0, _⟩ => rfl
    | ⟨1, _⟩ => exact absurd rfl hb) hi

/-- The kernel's concatenation along the rows. -/
theorem cat10_rows {α : Type} (n : (⟨2, ![62, 2048]⟩ : Shape).Idx → α) (a b : (⟨2, ![5, 2048]⟩ : Shape).Idx → α) (c0 c1 c2 c3 c4 c5 c6 : (⟨2, ![8, 2048]⟩ : Shape).Idx → α)
    (h : Shape.Concatenates (([⟨⟨2, ![62, 2048]⟩, n⟩, ⟨⟨2, ![5, 2048]⟩, a⟩, ⟨⟨2, ![5, 2048]⟩, b⟩, ⟨⟨2, ![8, 2048]⟩, c0⟩, ⟨⟨2, ![8, 2048]⟩, c1⟩, ⟨⟨2, ![8, 2048]⟩, c2⟩,
      ⟨⟨2, ![8, 2048]⟩, c3⟩, ⟨⟨2, ![8, 2048]⟩, c4⟩, ⟨⟨2, ![8, 2048]⟩, c5⟩, ⟨⟨2, ![8, 2048]⟩, c6⟩] : List ((s : Shape) × (s.Idx → α))).map (·.1)) ⟨2, ![128, 2048]⟩ 0)
    (k : Fin 128) (j : Fin 2048) :
    concatenate ⟨2, ![128, 2048]⟩ 0 [⟨⟨2, ![62, 2048]⟩, n⟩, ⟨⟨2, ![5, 2048]⟩, a⟩, ⟨⟨2, ![5, 2048]⟩, b⟩, ⟨⟨2, ![8, 2048]⟩, c0⟩, ⟨⟨2, ![8, 2048]⟩, c1⟩, ⟨⟨2, ![8, 2048]⟩, c2⟩,
      ⟨⟨2, ![8, 2048]⟩, c3⟩, ⟨⟨2, ![8, 2048]⟩, c4⟩, ⟨⟨2, ![8, 2048]⟩, c5⟩, ⟨⟨2, ![8, 2048]⟩, c6⟩] h (ValueIdx.ix2 k j)
      = cat10 (fun i => n (ValueIdx.ix2 i j)) (fun i => a (ValueIdx.ix2 i j)) (fun i => b (ValueIdx.ix2 i j)) (fun i => c0 (ValueIdx.ix2 i j)) (fun i => c1 (ValueIdx.ix2 i j))
          (fun i => c2 (ValueIdx.ix2 i j)) (fun i => c3 (ValueIdx.ix2 i j)) (fun i => c4 (ValueIdx.ix2 i j)) (fun i => c5 (ValueIdx.ix2 i j)) (fun i => c6 (ValueIdx.ix2 i j)) k := by
  unfold cat10
  split
  · exact cat_rows _ h 0 (show (0 : ℕ) < 10 by decide) n rfl 0 rfl k j _ (Nat.zero_add _)
  split
  · exact cat_rows _ h 1 (show (1 : ℕ) < 10 by decide) a rfl 62 rfl k j _ (Nat.add_sub_cancel' (by omega))
  split
  · exact cat_rows _ h 2 (show (2 : ℕ) < 10 by decide) b rfl 67 rfl k j _ (Nat.add_sub_cancel' (by omega))
  split
  · exact cat_rows _ h 3 (show (3 : ℕ) < 10 by decide) c0 rfl 72 rfl k j _ (Nat.add_sub_cancel' (by omega))
  split
  · exact cat_rows _ h 4 (show (4 : ℕ) < 10 by decide) c1 rfl 80 rfl k j _ (Nat.add_sub_cancel' (by omega))
  split
  · exact cat_rows _ h 5 (show (5 : ℕ) < 10 by decide) c2 rfl 88 rfl k j _ (Nat.add_sub_cancel' (by omega))
  split
  · exact cat_rows _ h 6 (show (6 : ℕ) < 10 by decide) c3 rfl 96 rfl k j _ (Nat.add_sub_cancel' (by omega))
  split
  · exact cat_rows _ h 7 (show (7 : ℕ) < 10 by decide) c4 rfl 104 rfl k j _ (Nat.add_sub_cancel' (by omega))
  split
  · exact cat_rows _ h 8 (show (8 : ℕ) < 10 by decide) c5 rfl 112 rfl k j _ (Nat.add_sub_cancel' (by omega))
  · exact cat_rows _ h 9 (show (9 : ℕ) < 10 by decide) c6 rfl 120 rfl k j _ (Nat.add_sub_cancel' (by omega))

/-- The reference's two concatenations along the columns. -/
theorem cat10_cols {α : Type} (n : (⟨2, ![16384, 62]⟩ : Shape).Idx → α) (a b : (⟨2, ![16384, 5]⟩ : Shape).Idx → α) (c0 c1 c2 c3 c4 c5 c6 : (⟨2, ![16384, 8]⟩ : Shape).Idx → α)
    (h : Shape.Concatenates (([⟨⟨2, ![16384, 5]⟩, a⟩, ⟨⟨2, ![16384, 5]⟩, b⟩, ⟨⟨2, ![16384, 8]⟩, c0⟩, ⟨⟨2, ![16384, 8]⟩, c1⟩, ⟨⟨2, ![16384, 8]⟩, c2⟩,
      ⟨⟨2, ![16384, 8]⟩, c3⟩, ⟨⟨2, ![16384, 8]⟩, c4⟩, ⟨⟨2, ![16384, 8]⟩, c5⟩, ⟨⟨2, ![16384, 8]⟩, c6⟩] : List ((s : Shape) × (s.Idx → α))).map (·.1)) ⟨2, ![16384, 66]⟩ 1)
    (g : (⟨2, ![16384, 66]⟩ : Shape).Idx → α)
    (hg : g = concatenate ⟨2, ![16384, 66]⟩ 1 [⟨⟨2, ![16384, 5]⟩, a⟩, ⟨⟨2, ![16384, 5]⟩, b⟩, ⟨⟨2, ![16384, 8]⟩, c0⟩, ⟨⟨2, ![16384, 8]⟩, c1⟩, ⟨⟨2, ![16384, 8]⟩, c2⟩,
      ⟨⟨2, ![16384, 8]⟩, c3⟩, ⟨⟨2, ![16384, 8]⟩, c4⟩, ⟨⟨2, ![16384, 8]⟩, c5⟩, ⟨⟨2, ![16384, 8]⟩, c6⟩] h)
    (h' : Shape.Concatenates (([⟨⟨2, ![16384, 62]⟩, n⟩, ⟨⟨2, ![16384, 66]⟩, g⟩] : List ((s : Shape) × (s.Idx → α))).map (·.1)) ⟨2, ![16384, 128]⟩ 1)
    (k : Fin 128) (j : Fin 16384) :
    concatenate ⟨2, ![16384, 128]⟩ 1 [⟨⟨2, ![16384, 62]⟩, n⟩, ⟨⟨2, ![16384, 66]⟩, g⟩] h' (ValueIdx.ix2 j k)
      = cat10 (fun i => n (ValueIdx.ix2 j i)) (fun i => a (ValueIdx.ix2 j i)) (fun i => b (ValueIdx.ix2 j i)) (fun i => c0 (ValueIdx.ix2 j i)) (fun i => c1 (ValueIdx.ix2 j i))
          (fun i => c2 (ValueIdx.ix2 j i)) (fun i => c3 (ValueIdx.ix2 j i)) (fun i => c4 (ValueIdx.ix2 j i)) (fun i => c5 (ValueIdx.ix2 j i)) (fun i => c6 (ValueIdx.ix2 j i)) k := by
  have hk := k.isLt
  by_cases h0 : k.val < 62
  · unfold cat10
    rw [dif_pos h0]
    exact cat_cols _ h' 0 (show (0 : ℕ) < 2 by decide) n rfl 0 rfl k j _ (Nat.zero_add _)
  rw [cat_cols _ h' 1 (show (1 : ℕ) < 2 by decide) g rfl 62 rfl k j (⟨k.val - 62, by omega⟩ : Fin 66) (Nat.add_sub_cancel' (by omega)), hg]
  unfold cat10
  rw [dif_neg h0]
  split
  · exact cat_cols _ h 0 (show (0 : ℕ) < 9 by decide) a rfl 0 rfl _ j _ (Nat.zero_add _)
  split
  · exact cat_cols _ h 1 (show (1 : ℕ) < 9 by decide) b rfl 5 rfl _ j _ (show 5 + (k.val - 67) = k.val - 62 by omega)
  split
  · exact cat_cols _ h 2 (show (2 : ℕ) < 9 by decide) c0 rfl 10 rfl _ j _ (show 10 + (k.val - 72) = k.val - 62 by omega)
  split
  · exact cat_cols _ h 3 (show (3 : ℕ) < 9 by decide) c1 rfl 18 rfl _ j _ (show 18 + (k.val - 80) = k.val - 62 by omega)
  split
  · exact cat_cols _ h 4 (show (4 : ℕ) < 9 by decide) c2 rfl 26 rfl _ j _ (show 26 + (k.val - 88) = k.val - 62 by omega)
  split
  · exact cat_cols _ h 5 (show (5 : ℕ) < 9 by decide) c3 rfl 34 rfl _ j _ (show 34 + (k.val - 96) = k.val - 62 by omega)
  split
  · exact cat_cols _ h 6 (show (6 : ℕ) < 9 by decide) c4 rfl 42 rfl _ j _ (show 42 + (k.val - 104) = k.val - 62 by omega)
  split
  · exact cat_cols _ h 7 (show (7 : ℕ) < 9 by decide) c5 rfl 50 rfl _ j _ (show 50 + (k.val - 112) = k.val - 62 by omega)
  · exact cat_cols _ h 8 (show (8 : ℕ) < 9 by decide) c6 rfl 58 rfl _ j _ (show 58 + (k.val - 120) = k.val - 62 by omega)

end Cert.Proof.Tile

end
-- ==== Proof.Net.lean ====
/-
  The region's row at the ideal values: at a column, the four layers on the column's features.
-/
module

public import proofs.«01_k».proof.Proof.Mlp
public import proofs.«01_k».proof.Proof.Dense

@[expose] public section

noncomputable section

namespace Cert.Proof.Tile

open Cert.KernelIdeal Cert.KernelIdeal.Gen
open Idealize.ShloMosaic

/-- The first five rows of eight. -/
theorem five_rows {α : Type} (x : S8x2048.Idx → α) (h : S8x2048.Slices ![0, 0] S5x2048) (i : Fin 5) (j : Fin 2048) :
    extractStridedSlice S5x2048 ![0, 0] x h (ValueIdx.ix2 i j) = x (ValueIdx.ix2 (⟨i.val, by omega⟩ : Fin 8) j) :=
  extractStridedSlice_apply _ x h _ _ (fun a => by
    match a with
    | ⟨0, _⟩ => exact (Nat.zero_add _).symm
    | ⟨1, _⟩ => exact (Nat.zero_add _).symm)

/-- Linear maps of equal inputs. -/
theorem lin_congr {M K : ℕ} {W : (⟨2, ![M, K]⟩ : Shape).Idx → EReal} {β : Fin M → EReal} {x y : Fin K → EReal} (h : ∀ k, x k = y k) (i : Fin M) :
    lin W β x i = lin W β y i := congrArg (fun z => lin W β z i) (funext h)

theorem max_congr {a b : EReal} (h : a = b) : max a 0 = max b 0 := congrArg (max · 0) h

/-- The row at a column. -/
theorem mlp_at (Y1 : FVec Ideal S62x2048 .f32) (Y2 Y3 Y4 Y5 Y6 Y7 Y8 Y9 Y10 : FVec Ideal S8x2048 .f32)
    (Y11 : FVec Ideal S40x128 .f32) (Y12 : FVec Ideal S40x1 .f32) (Y13 : FVec Ideal S40x40 .f32) (Y14 : FVec Ideal S40x1 .f32) (Y15 : FVec Ideal S40x40 .f32)
    (Y16 : FVec Ideal S40x1 .f32) (Y17 : FVec Ideal S1x40 .f32) (Y18 : FVec Ideal S1x1 .f32) (j : Fin 2048) :
    mlpOut (F := Ideal) Y1 Y2 Y3 Y4 Y5 Y6 Y7 Y8 Y9 Y10 Y11 Y12 Y13 Y14 Y15 Y16 Y17 Y18 (ValueIdx.ix2 (0 : Fin 1) j)
      = net Y11 (fun i => Y12 (ValueIdx.ix2 i (0 : Fin 1))) Y13 (fun i => Y14 (ValueIdx.ix2 i (0 : Fin 1))) Y15 (fun i => Y16 (ValueIdx.ix2 i (0 : Fin 1))) Y17
          (fun i => Y18 (ValueIdx.ix2 i (0 : Fin 1)))
          (cat10 (fun i => Y1 (ValueIdx.ix2 i j)) (fun i : Fin 5 => Y2 (ValueIdx.ix2 (⟨i.val, by omega⟩ : Fin 8) j)) (fun i : Fin 5 => Y3 (ValueIdx.ix2 (⟨i.val, by omega⟩ : Fin 8) j))
            (fun i => Y4 (ValueIdx.ix2 i j)) (fun i => Y5 (ValueIdx.ix2 i j)) (fun i => Y6 (ValueIdx.ix2 i j)) (fun i => Y7 (ValueIdx.ix2 i j)) (fun i => Y8 (ValueIdx.ix2 i j))
            (fun i => Y9 (ValueIdx.ix2 i j)) (fun i => Y10 (ValueIdx.ix2 i j))) := by
  unfold mlpOut k1_pay1 k1_pay2 net
  refine (lin_kernel _ rfl _ _ _ _ _ _ _).trans (lin_congr (fun i => ?_) _)
  refine (relu_kernel _ _).trans (max_congr ((lin_kernel _ rfl _ _ _ _ _ _ _).trans (lin_congr (fun i => ?_) _)))
  refine (relu_kernel _ _).trans (max_congr ((lin_kernel _ rfl _ _ _ _ _ _ _).trans (lin_congr (fun i => ?_) _)))
  refine (relu_kernel _ _).trans (max_congr ((lin_kernel _ rfl _ _ _ _ _ _ _).trans (lin_congr (fun i => ?_) _)))
  refine (cat10_rows _ _ _ _ _ _ _ _ _ _ _ _ _).trans ?_
  simp only [shapeCast_self, five_rows]

end Cert.Proof.Tile

end
-- ==== Proof.Rows.lean ====
/-
  One table's rows, read both ways: the kernel's records of sixteen, cut to eight columns and transposed, and the reference's
  take. Where an id is in range both are the row of the table the id names.
-/
module

public import proofs.«01_k».proof.Proof.Tile
public import Idealize.ShloMosaic.Lib.Routing.Ops
public import Idealize.ShloMosaic.Lib.ReduceAll
public import Idealize.ShloMosaic.Lib.KernelVsHost
public import Idealize.ShloMosaic.Lib.Pointwise.Reshape

@[expose] public section

noncomputable section

namespace Cert.Proof.Tile

open Idealize.ShloMosaic

/-- Column `k` of the row of the table that id `b` names. -/
def emb {α : Type} {N C : ℕ} (hN : 0 < N) (iv : (⟨1, ![16384]⟩ : Shape).Idx → BitVec 32) (tv : (⟨2, ![N, C]⟩ : Shape).Idx → α) (b : Fin 16384) (k : Fin C) : α :=
  tv (ValueIdx.ix2 ⟨(iv (ValueIdx.ix1 b)).toNat % N, Nat.mod_lt _ hN⟩ k)

/-- The kernel's records of a padded table, as rows of eight columns transposed, hold the rows the ids name. -/
theorem rec_row {α : Type} {R M N C : ℕ} (hR : 0 < R) (hN : 0 < N) (hM : M = 8 * R) (hNM : N ≤ M) (hC : C ≤ 16) (hi : Fin 2 → ℕ) {u : Shape}
    (iv : (⟨1, ![16384]⟩ : Shape).Idx → BitVec 32) (tv : (⟨2, ![N, C]⟩ : Shape).Idx → α) (v : u.Idx → α)
    (hp : (⟨2, ![N, C]⟩ : Shape).Pads ![0, 0] hi ![0, 0] ⟨2, ![M, 16]⟩) (hu : 0 < u.numel)
    (h1 : (⟨2, ![M, 16]⟩ : Shape).ShapeCasts ⟨2, ![R, 128]⟩) (h2 : (⟨1, ![262144]⟩ : Shape).ShapeCasts ⟨2, ![16384, 16]⟩)
    (h3 : (⟨2, ![16384, 16]⟩ : Shape).Slices ![0, 0] ⟨2, ![16384, 8]⟩) (h4 : (⟨2, ![16384, 8]⟩ : Shape).Transposes [1, 0] ⟨2, ![8, 16384]⟩)
    (b : Fin 16384) (k : Fin 8) (hk : k.val < C) (hlt : (iv (ValueIdx.ix1 b)).toNat < N) :
    transpose ⟨2, ![8, 16384]⟩ [1, 0] (extractStridedSlice ⟨2, ![16384, 8]⟩ ![0, 0]
        (shapeCast ⟨2, ![16384, 16]⟩ (recT hR iv (shapeCast ⟨2, ![R, 128]⟩ (pad ⟨2, ![M, 16]⟩ ![0, 0] hi ![0, 0] tv v hp hu) h1)) h2) h3) h4 (ValueIdx.ix2 k b)
      = emb hN iv tv b ⟨k.val, hk⟩ := by
  have hb := b.isLt
  have hk8 := k.isLt
  rw [transpose_apply [1, 0] _ h4 (ValueIdx.ix2 k b) (ValueIdx.ix2 b k) (fun a => by match a with | ⟨0, _⟩ => rfl | ⟨1, _⟩ => rfl)]
  rw [extractStridedSlice_apply ![0, 0] _ h3 (ValueIdx.ix2 b k) (ValueIdx.ix2 b (⟨k.val, by omega⟩ : Fin 16))
    (fun a => by match a with | ⟨0, _⟩ => exact (Nat.zero_add _).symm | ⟨1, _⟩ => exact (Nat.zero_add _).symm)]
  rw [shapeCast_apply _ h2 (ValueIdx.ix2 b (⟨k.val, by omega⟩ : Fin 16)) (ValueIdx.ix1 (⟨b.val * 16 + k.val, by omega⟩ : Fin 262144))
    (by rw [rowMajor_val1, rowMajor_val2 _ 16 rfl])]
  have e : (ix16384 ((b.val * 16 + k.val) / 16) (by omega) : (⟨1, ![16384]⟩ : Shape).Idx) = ValueIdx.ix1 b :=
    funext fun a => by match a with | ⟨0, _⟩ => exact Fin.ext (show (b.val * 16 + k.val) / 16 = b.val by omega)
  have hx : recT hR iv (shapeCast ⟨2, ![R, 128]⟩ (pad ⟨2, ![M, 16]⟩ ![0, 0] hi ![0, 0] tv v hp hu) h1) (ValueIdx.ix1 (⟨b.val * 16 + k.val, by omega⟩ : Fin 262144))
      = shapeCast ⟨2, ![R, 128]⟩ (pad ⟨2, ![M, 16]⟩ ![0, 0] hi ![0, 0] tv v hp hu) h1
          (ValueIdx.ix2 (⟨(iv (ValueIdx.ix1 b)).toNat / 8, by omega⟩ : Fin R) (⟨16 * ((iv (ValueIdx.ix1 b)).toNat % 8) + k.val, by omega⟩ : Fin 128)) := by
    unfold recT
    refine congrArg (shapeCast ⟨2, ![R, 128]⟩ (pad ⟨2, ![M, 16]⟩ ![0, 0] hi ![0, 0] tv v hp hu) h1) (funext fun a => ?_)
    match a with
    | ⟨0, _⟩ =>
      refine Fin.ext ?_
      show (iv (ix16384 ((b.val * 16 + k.val) / 16) _)).toNat / 8 % R = (iv (ValueIdx.ix1 b)).toNat / 8
      rw [e, Nat.mod_eq_of_lt (by omega)]
    | ⟨1, _⟩ =>
      refine Fin.ext ?_
      show 16 * ((iv (ix16384 ((b.val * 16 + k.val) / 16) _)).toNat % 8) + (b.val * 16 + k.val) % 16 = 16 * ((iv (ValueIdx.ix1 b)).toNat % 8) + k.val
      rw [e]; omega
  rw [hx]
  rw [shapeCast_apply _ h1 _ (ValueIdx.ix2 (⟨(iv (ValueIdx.ix1 b)).toNat, by omega⟩ : Fin M) (⟨k.val, by omega⟩ : Fin 16))
    (by rw [rowMajor_val2 _ 16 rfl, rowMajor_val2 _ 128 rfl]
        show (iv (ValueIdx.ix1 b)).toNat * 16 + k.val = (iv (ValueIdx.ix1 b)).toNat / 8 * 128 + (16 * ((iv (ValueIdx.ix1 b)).toNat % 8) + k.val)
        omega)]
  rw [pad_apply_of_inside ![0, 0] hi ![0, 0] tv v hp hu _ (ValueIdx.ix2 (⟨(iv (ValueIdx.ix1 b)).toNat, hlt⟩ : Fin N) (⟨k.val, hk⟩ : Fin C))
    (fun a => by
      match a with
      | ⟨0, _⟩ => show (iv (ValueIdx.ix1 b)).toNat = 0 + (iv (ValueIdx.ix1 b)).toNat * (0 + 1); omega
      | ⟨1, _⟩ => show k.val = 0 + k.val * (0 + 1); omega)]
  unfold emb
  refine congrArg tv (funext fun a => ?_)
  match a with
  | ⟨0, _⟩ => exact Fin.ext (Nat.mod_eq_of_lt hlt).symm
  | ⟨1, _⟩ => rfl

/-- An id below half the word's range is not negative. -/
theorem not_neg {v : BitVec 32} (h : v.toNat < 2147483648) : BitVec.slt v 0#32 = false := by
  simp only [BitVec.slt_eq_decide, BitVec.toInt_eq_toNat_cond, BitVec.toNat_ofNat, decide_eq_false_iff_not]
  omega

/-- The reference's wrapped ids are the ids, where none is negative. -/
theorem wrap_id (iv w : (⟨1, ![16384]⟩ : Shape).Idx → BitVec 32)
    (hb : (⟨0, ![]⟩ : Shape).BroadcastsInDim ⟨1, ![16384]⟩ (![] : Fin 0 → Fin 1)) (hc : (⟨1, ![16384]⟩ : Shape).BroadcastsInDim ⟨2, ![16384, 1]⟩ (![0] : Fin 1 → Fin 2))
    (hlt : ∀ b, (iv b).toNat < 2147483648) (j : (⟨2, ![16384, 1]⟩ : Shape).Idx) :
    broadcastInDim ⟨2, ![16384, 1]⟩ ![0] hc (select (cmpi .slt iv (broadcastInDim ⟨1, ![16384]⟩ ![] hb (constantI ⟨0, ![]⟩ 32 0#32))) w iv) j = iv (ValueIdx.ix1 (j 0)) := by
  rw [broadcastInDim_apply _ hc _ j (ValueIdx.ix1 (j 0)) (fun a => by match a with | ⟨0, _⟩ => rfl)]
  show (if BitVec.ofBool (BitVec.slt (iv (ValueIdx.ix1 (j 0))) 0#32) = 1 then _ else _) = _
  rw [not_neg (hlt _)]
  rfl

/-- A choice on a one takes the first. -/
theorem select_one {α : Type} {c : BitVec 1} {x y : α} (h : c = 1#1) : Scalar.select c x y = x := by
  subst h; rfl

/-- The reference's take, where every id is in range, is the row the id names: no row is masked. -/
theorem take_row {α : Type} {N C : ℕ} (hN : 0 < N) (hN' : N < 2147483648) (iv : (⟨1, ![16384]⟩ : Shape).Idx → BitVec 32)
    (idx lo up : (⟨2, ![16384, 1]⟩ : Shape).Idx → BitVec 32) (hidx : ∀ j, idx j = iv (ValueIdx.ix1 (j 0))) (hlt : ∀ b, (iv b).toNat < N)
    (hlo : ∀ j, lo j = 0#32) (hup : ∀ j, up j = BitVec.ofNat 32 (N - 1)) {u : Shape} (init : u.Idx → BitVec 1) (hinit : ∀ j, init j = 1#1)
    (hr : (⟨2, ![16384, 1]⟩ : Shape).ReducesTo [1] ⟨1, ![16384]⟩) (hu : 0 < u.numel)
    (hb : (⟨1, ![16384]⟩ : Shape).BroadcastsInDim ⟨2, ![16384, C]⟩ (![0] : Fin 1 → Fin 2))
    (d : GatherDims ⟨2, ![N, C]⟩ ⟨2, ![16384, 1]⟩ ⟨2, ![16384, C]⟩) (hoff : d.offsetDims = [1])
    (hcoll : d.collapsedSliceDims = [0]) (hob : d.operandBatchingDims = []) (hsim : d.startIndexMap = [0]) (hivd : d.indexVectorDim = 1)
    (tv : (⟨2, ![N, C]⟩ : Shape).Idx → α) (nan : (⟨2, ![16384, C]⟩ : Shape).Idx → α) (b : Fin 16384) (k : Fin C) :
    select (broadcastInDim ⟨2, ![16384, C]⟩ ![0] hb (Host.reduce IntOp.andi (andi (cmpi .sge idx lo) (cmpi .sle idx up)) init hr hu))
      (Host.gather d tv idx) nan (ValueIdx.ix2 b k) = emb hN iv tv b k := by
  have hm : broadcastInDim ⟨2, ![16384, C]⟩ ![0] hb (Host.reduce IntOp.andi (andi (cmpi .sge idx lo) (cmpi .sle idx up)) init hr hu) (ValueIdx.ix2 b k) = 1#1 := by
    rw [broadcastInDim_apply _ hb _ _ (ValueIdx.ix1 b) (fun a => by match a with | ⟨0, _⟩ => rfl)]
    refine Host.reduce_andi_one _ _ hr hu _ (hinit _) fun i => ?_
    have h := hlt (ValueIdx.ix1 (i 0))
    show IntOp.andi (BitVec.ofBool (BitVec.sle (lo i) (idx i))) (BitVec.ofBool (BitVec.sle (idx i) (up i))) = 1#1
    rw [hlo, hup, hidx]
    have e1 : BitVec.sle 0#32 (iv (ValueIdx.ix1 (i 0))) = true := by
      simp only [BitVec.sle_eq_decide, BitVec.toInt_eq_toNat_cond, BitVec.toNat_ofNat, decide_eq_true_eq]; omega
    have e2 : BitVec.sle (iv (ValueIdx.ix1 (i 0))) (BitVec.ofNat 32 (N - 1)) = true := by
      simp only [BitVec.sle_eq_decide, BitVec.toInt_eq_toNat_cond, BitVec.toNat_ofNat, decide_eq_true_eq, Nat.reducePow]
      rw [Nat.mod_eq_of_lt (by omega : N - 1 < 4294967296)]; omega
    rw [e1, e2]; rfl
  refine (select_one hm).trans ?_
  refine Routing.gather_row d hoff hcoll hob hsim hivd tv idx b k ⟨(iv (ValueIdx.ix1 b)).toNat % N, Nat.mod_lt _ hN⟩ ?_ hN'
  rw [hidx]
  show iv (ValueIdx.ix1 b) = BitVec.ofNat 32 ((iv (ValueIdx.ix1 b)).toNat % N)
  rw [Nat.mod_eq_of_lt (hlt _), BitVec.ofNat_toNat, BitVec.setWidth_eq]

end Cert.Proof.Tile

end
-- ==== Proof.Values.lean ====
/-
  The buffers' values at the program's stages, and with them the features and biases the dense layers read.
-/
module

public import proofs.«01_k».proof.Proof.Ids
public import proofs.«01_k».proof.Proof.Rows

@[expose] public section

noncomputable section

namespace Cert.Proof.Tile

open Cert.KernelIdeal Cert.KernelIdeal.Gen
open Idealize.ShloMosaic
open Idealize.ShloMosaic.TcCoe
open Idealize.SL.Sem

variable {F : FTy → Type} [FloatOps F]

set_option maxHeartbeats 4000000 in
/-- Before the call: each table padded to sixteen columns and read eight rows to a line. -/
theorem pre_tables (V : Valuation τ sig (Elt F)) :
    StableHlo.after preOps V (Proc.devRef .tc main_v1) = shapeCast S125x128 (pad S1000x16 ![0, 0] ![0, 11] ![0, 0] (V (Proc.devRef .tc main_arg10)) (sitofp .f32 (constantI S_ 32 0#32)) pads_S1000x5_S1000x16_000_0110 h_S_) shapeCasts_S1000x16_S125x128
    ∧ StableHlo.after preOps V (Proc.devRef .tc main_v3) = shapeCast S125x128 (pad S1000x16 ![0, 0] ![0, 11] ![0, 0] (V (Proc.devRef .tc main_arg11)) (sitofp .f32 (constantI S_ 32 0#32)) pads_S1000x5_S1000x16_000_0110 h_S_) shapeCasts_S1000x16_S125x128
    ∧ StableHlo.after preOps V (Proc.devRef .tc main_v5) = shapeCast S12500x128 (pad S100000x16 ![0, 0] ![0, 8] ![0, 0] (V (Proc.devRef .tc main_arg12)) (sitofp .f32 (constantI S_ 32 0#32)) pads_S100000x8_S100000x16_000_080 h_S_) shapeCasts_S100000x16_S12500x128
    ∧ StableHlo.after preOps V (Proc.devRef .tc main_v7) = shapeCast S12500x128 (pad S100000x16 ![0, 0] ![0, 8] ![0, 0] (V (Proc.devRef .tc main_arg13)) (sitofp .f32 (constantI S_ 32 0#32)) pads_S100000x8_S100000x16_000_080 h_S_) shapeCasts_S100000x16_S12500x128
    ∧ StableHlo.after preOps V (Proc.devRef .tc main_v9) = shapeCast S12500x128 (pad S100000x16 ![0, 0] ![0, 8] ![0, 0] (V (Proc.devRef .tc main_arg14)) (sitofp .f32 (constantI S_ 32 0#32)) pads_S100000x8_S100000x16_000_080 h_S_) shapeCasts_S100000x16_S12500x128
    ∧ StableHlo.after preOps V (Proc.devRef .tc main_v11) = shapeCast S12500x128 (pad S100000x16 ![0, 0] ![0, 8] ![0, 0] (V (Proc.devRef .tc main_arg15)) (sitofp .f32 (constantI S_ 32 0#32)) pads_S100000x8_S100000x16_000_080 h_S_) shapeCasts_S100000x16_S12500x128
    ∧ StableHlo.after preOps V (Proc.devRef .tc main_v13) = shapeCast S12500x128 (pad S100000x16 ![0, 0] ![0, 8] ![0, 0] (V (Proc.devRef .tc main_arg16)) (sitofp .f32 (constantI S_ 32 0#32)) pads_S100000x8_S100000x16_000_080 h_S_) shapeCasts_S100000x16_S12500x128
    ∧ StableHlo.after preOps V (Proc.devRef .tc main_v15) = shapeCast S12500x128 (pad S100000x16 ![0, 0] ![0, 8] ![0, 0] (V (Proc.devRef .tc main_arg17)) (sitofp .f32 (constantI S_ 32 0#32)) pads_S100000x8_S100000x16_000_080 h_S_) shapeCasts_S100000x16_S12500x128
    ∧ StableHlo.after preOps V (Proc.devRef .tc main_v17) = shapeCast S4x128 (pad S32x16 ![0, 0] ![6, 8] ![0, 0] (V (Proc.devRef .tc main_arg18)) (sitofp .f32 (constantI S_ 32 0#32)) pads_S26x8_S32x16_060_080 h_S_) shapeCasts_S32x16_S4x128 := by
  refine ⟨?_, ?_, ?_, ?_, ?_, ?_, ?_, ?_, ?_⟩ <;> unfold preOps <;> after_results <;> rfl

set_option maxHeartbeats 4000000 in
/-- After the call: each table's records, eight columns of them, transposed. -/
theorem post_tables (V : Valuation τ sig (Elt F)) :
    StableHlo.after postOps V (Proc.devRef .tc main_v21) = transpose S8x16384 [1, 0] (extractStridedSlice S16384x8 ![0, 0] (shapeCast S16384x16 (V (Proc.devRef .tc main_v18_0)) shapeCasts_S262144_S16384x16) slices_S16384x16_S16384x8_0_0) transposes_S16384x8_S8x16384_1_0
    ∧ StableHlo.after postOps V (Proc.devRef .tc main_v24) = transpose S8x16384 [1, 0] (extractStridedSlice S16384x8 ![0, 0] (shapeCast S16384x16 (V (Proc.devRef .tc main_v18_1)) shapeCasts_S262144_S16384x16) slices_S16384x16_S16384x8_0_0) transposes_S16384x8_S8x16384_1_0
    ∧ StableHlo.after postOps V (Proc.devRef .tc main_v27) = transpose S8x16384 [1, 0] (extractStridedSlice S16384x8 ![0, 0] (shapeCast S16384x16 (V (Proc.devRef .tc main_v18_2)) shapeCasts_S262144_S16384x16) slices_S16384x16_S16384x8_0_0) transposes_S16384x8_S8x16384_1_0
    ∧ StableHlo.after postOps V (Proc.devRef .tc main_v30) = transpose S8x16384 [1, 0] (extractStridedSlice S16384x8 ![0, 0] (shapeCast S16384x16 (V (Proc.devRef .tc main_v18_3)) shapeCasts_S262144_S16384x16) slices_S16384x16_S16384x8_0_0) transposes_S16384x8_S8x16384_1_0
    ∧ StableHlo.after postOps V (Proc.devRef .tc main_v33) = transpose S8x16384 [1, 0] (extractStridedSlice S16384x8 ![0, 0] (shapeCast S16384x16 (V (Proc.devRef .tc main_v18_4)) shapeCasts_S262144_S16384x16) slices_S16384x16_S16384x8_0_0) transposes_S16384x8_S8x16384_1_0
    ∧ StableHlo.after postOps V (Proc.devRef .tc main_v36) = transpose S8x16384 [1, 0] (extractStridedSlice S16384x8 ![0, 0] (shapeCast S16384x16 (V (Proc.devRef .tc main_v18_5)) shapeCasts_S262144_S16384x16) slices_S16384x16_S16384x8_0_0) transposes_S16384x8_S8x16384_1_0
    ∧ StableHlo.after postOps V (Proc.devRef .tc main_v39) = transpose S8x16384 [1, 0] (extractStridedSlice S16384x8 ![0, 0] (shapeCast S16384x16 (V (Proc.devRef .tc main_v18_6)) shapeCasts_S262144_S16384x16) slices_S16384x16_S16384x8_0_0) transposes_S16384x8_S8x16384_1_0
    ∧ StableHlo.after postOps V (Proc.devRef .tc main_v42) = transpose S8x16384 [1, 0] (extractStridedSlice S16384x8 ![0, 0] (shapeCast S16384x16 (V (Proc.devRef .tc main_v18_7)) shapeCasts_S262144_S16384x16) slices_S16384x16_S16384x8_0_0) transposes_S16384x8_S8x16384_1_0
    ∧ StableHlo.after postOps V (Proc.devRef .tc main_v45) = transpose S8x16384 [1, 0] (extractStridedSlice S16384x8 ![0, 0] (shapeCast S16384x16 (V (Proc.devRef .tc main_v18_8)) shapeCasts_S262144_S16384x16) slices_S16384x16_S16384x8_0_0) transposes_S16384x8_S8x16384_1_0 := by
  refine ⟨?_, ?_, ?_, ?_, ?_, ?_, ?_, ?_, ?_⟩ <;> unfold postOps <;> after_results <;> rfl

set_option maxHeartbeats 4000000 in
/-- After the call: the numeric features transposed, and each bias as a column. -/
theorem post_dense (V : Valuation τ sig (Elt F)) :
    StableHlo.after postOps V (Proc.devRef .tc main_v46) = transpose S62x16384 [1, 0] (V (Proc.devRef .tc main_arg0)) transposes_S16384x62_S62x16384_1_0
    ∧ StableHlo.after postOps V (Proc.devRef .tc main_v47) = broadcastInDim S40x1 ![0] bcast_S40_S40x1_0 (V (Proc.devRef .tc main_arg20))
    ∧ StableHlo.after postOps V (Proc.devRef .tc main_v48) = broadcastInDim S40x1 ![0] bcast_S40_S40x1_0 (V (Proc.devRef .tc main_arg22))
    ∧ StableHlo.after postOps V (Proc.devRef .tc main_v49) = broadcastInDim S40x1 ![0] bcast_S40_S40x1_0 (V (Proc.devRef .tc main_arg24))
    ∧ StableHlo.after postOps V (Proc.devRef .tc main_v50) = broadcastInDim S1x1 ![0] bcast_S1_S1x1_0 (V (Proc.devRef .tc main_arg26)) := by
  refine ⟨?_, ?_, ?_, ?_, ?_⟩ <;> unfold postOps <;> after_results

/-- At the end: the row as a column. -/
theorem last_out (V : Valuation τ sig (Elt F)) :
    StableHlo.after lastOps V (Proc.devRef .tc main_v52) = transpose S16384x1 [1, 0] (V (Proc.devRef .tc main_v51)) transposes_S1x16384_S16384x1_1_0 := by
  unfold lastOps; after_results

variable (m : (ℓ : Loc nD τ sig) → Buf (Elt F) ℓ) (d : Dev nD)

set_option maxHeartbeats 4000000 in
/-- The ids in range name the launch's tables' rows: the embeddings the dense layers read. -/
theorem feats (h : IdsOk (X0 m d)) (b : Fin 16384) :
    (∀ (k : Fin 8) (hk : k.val < 5), X3 m d (Proc.devRef .tc main_v21) (ValueIdx.ix2 k b) = emb (N := 1000) (by decide) (X0 m d (Proc.devRef .tc main_arg1)) (X0 m d (Proc.devRef .tc main_arg10)) b (⟨k.val, hk⟩ : Fin 5))
    ∧ (∀ (k : Fin 8) (hk : k.val < 5), X3 m d (Proc.devRef .tc main_v24) (ValueIdx.ix2 k b) = emb (N := 1000) (by decide) (X0 m d (Proc.devRef .tc main_arg2)) (X0 m d (Proc.devRef .tc main_arg11)) b (⟨k.val, hk⟩ : Fin 5))
    ∧ (∀ (k : Fin 8) (hk : k.val < 8), X3 m d (Proc.devRef .tc main_v27) (ValueIdx.ix2 k b) = emb (N := 100000) (by decide) (X0 m d (Proc.devRef .tc main_arg3)) (X0 m d (Proc.devRef .tc main_arg12)) b (⟨k.val, hk⟩ : Fin 8))
    ∧ (∀ (k : Fin 8) (hk : k.val < 8), X3 m d (Proc.devRef .tc main_v30) (ValueIdx.ix2 k b) = emb (N := 100000) (by decide) (X0 m d (Proc.devRef .tc main_arg4)) (X0 m d (Proc.devRef .tc main_arg13)) b (⟨k.val, hk⟩ : Fin 8))
    ∧ (∀ (k : Fin 8) (hk : k.val < 8), X3 m d (Proc.devRef .tc main_v33) (ValueIdx.ix2 k b) = emb (N := 100000) (by decide) (X0 m d (Proc.devRef .tc main_arg5)) (X0 m d (Proc.devRef .tc main_arg14)) b (⟨k.val, hk⟩ : Fin 8))
    ∧ (∀ (k : Fin 8) (hk : k.val < 8), X3 m d (Proc.devRef .tc main_v36) (ValueIdx.ix2 k b) = emb (N := 100000) (by decide) (X0 m d (Proc.devRef .tc main_arg6)) (X0 m d (Proc.devRef .tc main_arg15)) b (⟨k.val, hk⟩ : Fin 8))
    ∧ (∀ (k : Fin 8) (hk : k.val < 8), X3 m d (Proc.devRef .tc main_v39) (ValueIdx.ix2 k b) = emb (N := 100000) (by decide) (X0 m d (Proc.devRef .tc main_arg7)) (X0 m d (Proc.devRef .tc main_arg16)) b (⟨k.val, hk⟩ : Fin 8))
    ∧ (∀ (k : Fin 8) (hk : k.val < 8), X3 m d (Proc.devRef .tc main_v42) (ValueIdx.ix2 k b) = emb (N := 100000) (by decide) (X0 m d (Proc.devRef .tc main_arg8)) (X0 m d (Proc.devRef .tc main_arg17)) b (⟨k.val, hk⟩ : Fin 8))
    ∧ (∀ (k : Fin 8) (hk : k.val < 8), X3 m d (Proc.devRef .tc main_v45) (ValueIdx.ix2 k b) = emb (N := 26) (by decide) (X0 m d (Proc.devRef .tc main_arg9)) (X0 m d (Proc.devRef .tc main_arg18)) b (⟨k.val, hk⟩ : Fin 8)) := by
  refine ⟨?_, ?_, ?_, ?_, ?_, ?_, ?_, ?_, ?_⟩ <;> intro k hk
  · rw [← X3_eq, (post_tables (X2 m d)).1, ← X2_eq, sc_out0, ← X1_eq, (pre_tables (X0 m d)).1, pre_keep (r := main_arg1) (X0 m d) (by decide)]
    exact rec_row (by decide) (by decide) rfl (by decide) (by decide) _ _ _ _ _ _ _ _ _ _ b k hk (h.h1 _)
  · rw [← X3_eq, (post_tables (X2 m d)).2.1, ← X2_eq, sc_out1, ← X1_eq, (pre_tables (X0 m d)).2.1, pre_keep (r := main_arg2) (X0 m d) (by decide)]
    exact rec_row (by decide) (by decide) rfl (by decide) (by decide) _ _ _ _ _ _ _ _ _ _ b k hk (h.h2 _)
  · rw [← X3_eq, (post_tables (X2 m d)).2.2.1, ← X2_eq, sc_out2, ← X1_eq, (pre_tables (X0 m d)).2.2.1, pre_keep (r := main_arg3) (X0 m d) (by decide)]
    exact rec_row (by decide) (by decide) rfl (by decide) (by decide) _ _ _ _ _ _ _ _ _ _ b k hk (h.h3 _)
  · rw [← X3_eq, (post_tables (X2 m d)).2.2.2.1, ← X2_eq, sc_out3, ← X1_eq, (pre_tables (X0 m d)).2.2.2.1, pre_keep (r := main_arg4) (X0 m d) (by decide)]
    exact rec_row (by decide) (by decide) rfl (by decide) (by decide) _ _ _ _ _ _ _ _ _ _ b k hk (h.h4 _)
  · rw [← X3_eq, (post_tables (X2 m d)).2.2.2.2.1, ← X2_eq, sc_out4, ← X1_eq, (pre_tables (X0 m d)).2.2.2.2.1, pre_keep (r := main_arg5) (X0 m d) (by decide)]
    exact rec_row (by decide) (by decide) rfl (by decide) (by decide) _ _ _ _ _ _ _ _ _ _ b k hk (h.h5 _)
  · rw [← X3_eq, (post_tables (X2 m d)).2.2.2.2.2.1, ← X2_eq, sc_out5, ← X1_eq, (pre_tables (X0 m d)).2.2.2.2.2.1, pre_keep (r := main_arg6) (X0 m d) (by decide)]
    exact rec_row (by decide) (by decide) rfl (by decide) (by decide) _ _ _ _ _ _ _ _ _ _ b k hk (h.h6 _)
  · rw [← X3_eq, (post_tables (X2 m d)).2.2.2.2.2.2.1, ← X2_eq, sc_out6, ← X1_eq, (pre_tables (X0 m d)).2.2.2.2.2.2.1, pre_keep (r := main_arg7) (X0 m d) (by decide)]
    exact rec_row (by decide) (by decide) rfl (by decide) (by decide) _ _ _ _ _ _ _ _ _ _ b k hk (h.h7 _)
  · rw [← X3_eq, (post_tables (X2 m d)).2.2.2.2.2.2.2.1, ← X2_eq, sc_out7, ← X1_eq, (pre_tables (X0 m d)).2.2.2.2.2.2.2.1, pre_keep (r := main_arg8) (X0 m d) (by decide)]
    exact rec_row (by decide) (by decide) rfl (by decide) (by decide) _ _ _ _ _ _ _ _ _ _ b k hk (h.h8 _)
  · rw [← X3_eq, (post_tables (X2 m d)).2.2.2.2.2.2.2.2, ← X2_eq, sc_out8, ← X1_eq, (pre_tables (X0 m d)).2.2.2.2.2.2.2.2, pre_keep (r := main_arg9) (X0 m d) (by decide)]
    exact rec_row (by decide) (by decide) rfl (by decide) (by decide) _ _ _ _ _ _ _ _ _ _ b k hk (h.h9 _)

end Cert.Proof.Tile

end
-- ==== Proof.Spec.lean ====
/-
  What both programs compute at the ideal values: the dense layers on a row of numeric features and looked-up embeddings.
-/
module

public import proofs.«01_k».proof.Proof.Rows
public import proofs.«01_k».proof.Proof.Dense

@[expose] public section

noncomputable section

namespace Cert.Proof.Tile

open Idealize.ShloMosaic

/-- A row's features: its numeric ones and the nine embeddings its ids name. -/
def row (x0 : (⟨2, ![16384, 62]⟩ : Shape).Idx → EReal) (i1 i2 i3 i4 i5 i6 i7 i8 i9 : (⟨1, ![16384]⟩ : Shape).Idx → BitVec 32)
    (t10 t11 : (⟨2, ![1000, 5]⟩ : Shape).Idx → EReal) (t12 t13 t14 t15 t16 t17 : (⟨2, ![100000, 8]⟩ : Shape).Idx → EReal) (t18 : (⟨2, ![26, 8]⟩ : Shape).Idx → EReal) (b : Fin 16384) : Fin 128 → EReal :=
  cat10 (fun i => x0 (ValueIdx.ix2 b i)) (emb (by decide) i1 t10 b) (emb (by decide) i2 t11 b) (emb (by decide) i3 t12 b) (emb (by decide) i4 t13 b) (emb (by decide) i5 t14 b)
    (emb (by decide) i6 t15 b) (emb (by decide) i7 t16 b) (emb (by decide) i8 t17 b) (emb (by decide) i9 t18 b)

/-- The output at a row. -/
def spec (x0 : (⟨2, ![16384, 62]⟩ : Shape).Idx → EReal) (i1 i2 i3 i4 i5 i6 i7 i8 i9 : (⟨1, ![16384]⟩ : Shape).Idx → BitVec 32)
    (t10 t11 : (⟨2, ![1000, 5]⟩ : Shape).Idx → EReal) (t12 t13 t14 t15 t16 t17 : (⟨2, ![100000, 8]⟩ : Shape).Idx → EReal) (t18 : (⟨2, ![26, 8]⟩ : Shape).Idx → EReal)
    (w19 : (⟨2, ![40, 128]⟩ : Shape).Idx → EReal) (w20 : (⟨1, ![40]⟩ : Shape).Idx → EReal) (w21 : (⟨2, ![40, 40]⟩ : Shape).Idx → EReal) (w22 : (⟨1, ![40]⟩ : Shape).Idx → EReal)
    (w23 : (⟨2, ![40, 40]⟩ : Shape).Idx → EReal) (w24 : (⟨1, ![40]⟩ : Shape).Idx → EReal) (w25 : (⟨2, ![1, 40]⟩ : Shape).Idx → EReal) (w26 : (⟨1, ![1]⟩ : Shape).Idx → EReal) (b : Fin 16384) : EReal :=
  net w19 (fun i => w20 (ValueIdx.ix1 i)) w21 (fun i => w22 (ValueIdx.ix1 i)) w23 (fun i => w24 (ValueIdx.ix1 i)) w25 (fun i => w26 (ValueIdx.ix1 i))
    (row x0 i1 i2 i3 i4 i5 i6 i7 i8 i9 t10 t11 t12 t13 t14 t15 t16 t17 t18 b)

theorem cat10_congr {α : Type} {n n' : Fin 62 → α} {a a' b b' : Fin 5 → α} {c0 c0' c1 c1' c2 c2' c3 c3' c4 c4' c5 c5' c6 c6' : Fin 8 → α}
    (hn : ∀ i, n i = n' i) (ha : ∀ i, a i = a' i) (hb : ∀ i, b i = b' i) (h0 : ∀ i, c0 i = c0' i) (h1 : ∀ i, c1 i = c1' i) (h2 : ∀ i, c2 i = c2' i)
    (h3 : ∀ i, c3 i = c3' i) (h4 : ∀ i, c4 i = c4' i) (h5 : ∀ i, c5 i = c5' i) (h6 : ∀ i, c6 i = c6' i) :
    cat10 n a b c0 c1 c2 c3 c4 c5 c6 = cat10 n' a' b' c0' c1' c2' c3' c4' c5' c6' := by
  rw [funext hn, funext ha, funext hb, funext h0, funext h1, funext h2, funext h3, funext h4, funext h5, funext h6]

theorem net_congr {W1 W1' : (⟨2, ![40, 128]⟩ : Shape).Idx → EReal} {β1 β1' β2 β2' β3 β3' : Fin 40 → EReal} {W2 W2' W3 W3' : (⟨2, ![40, 40]⟩ : Shape).Idx → EReal}
    {W4 W4' : (⟨2, ![1, 40]⟩ : Shape).Idx → EReal} {β4 β4' : Fin 1 → EReal} {x x' : Fin 128 → EReal}
    (h1 : W1 = W1') (g1 : ∀ i, β1 i = β1' i) (h2 : W2 = W2') (g2 : ∀ i, β2 i = β2' i) (h3 : W3 = W3') (g3 : ∀ i, β3 i = β3' i) (h4 : W4 = W4') (g4 : ∀ i, β4 i = β4' i)
    (hx : x = x') : net W1 β1 W2 β2 W3 β3 W4 β4 x = net W1' β1' W2' β2' W3' β3' W4' β4' x' := by
  rw [h1, funext g1, h2, funext g2, h3, funext g3, h4, funext g4, hx]

/-- A bias as a column. -/
theorem bias_col {α : Type} {M : ℕ} (β : (⟨1, ![M]⟩ : Shape).Idx → α) (h : (⟨1, ![M]⟩ : Shape).BroadcastsInDim ⟨2, ![M, 1]⟩ (![0] : Fin 1 → Fin 2)) (i : Fin M) :
    broadcastInDim ⟨2, ![M, 1]⟩ ![0] h β (ValueIdx.ix2 i (0 : Fin 1)) = β (ValueIdx.ix1 i) := by
  have hi : i.val = if M = 1 then 0 else i.val := by have := i.isLt; split <;> omega
  exact broadcastInDim_apply _ h _ _ (ValueIdx.ix1 i) (fun a => by match a with | ⟨0, _⟩ => exact hi)

/-- A transposed array at an entry. -/
theorem transpose_at {α : Type} {M N : ℕ} (x : (⟨2, ![M, N]⟩ : Shape).Idx → α) (h : (⟨2, ![M, N]⟩ : Shape).Transposes [1, 0] ⟨2, ![N, M]⟩) (i : Fin N) (j : Fin M) :
    transpose ⟨2, ![N, M]⟩ [1, 0] x h (ValueIdx.ix2 i j) = x (ValueIdx.ix2 j i) :=
  transpose_apply [1, 0] x h _ _ (fun a => by match a with | ⟨0, _⟩ => rfl | ⟨1, _⟩ => rfl)

end Cert.Proof.Tile

end
-- ==== Proof.KernelOut.lean ====
/-
  The kernel's result at the ideal values, entry by entry.
-/
module

public import proofs.«01_k».proof.Proof.Blocks
public import proofs.«01_k».proof.Proof.Net
public import proofs.«01_k».proof.Proof.Values
public import proofs.«01_k».proof.Proof.Spec

@[expose] public section

noncomputable section

namespace Cert.Proof.Tile

open Cert.KernelIdeal Cert.KernelIdeal.Gen
open Idealize.ShloMosaic
open Idealize.ShloMosaic.TcCoe
open Idealize.SL.Sem

variable (m : (ℓ : Loc nD τ sig) → Buf (Elt Ideal) ℓ) (d : Dev nD)

/-- A buffer neither stage before the region writes is as at launch. -/
theorem X2_arg {r : Ref sig .tc} (h : r ∉ outNames) (h' : r ∉ preNames) : X2 m d (Proc.devRef .tc r) = X0 m d (Proc.devRef .tc r) :=
  (scOps_keep (X1 m d) h).trans (pre_keep (X0 m d) h')

theorem X3_arg {r : Ref sig .tc} (h : r ∉ preNames ++ outNames ++ postNames) : X3 m d (Proc.devRef .tc r) = X0 m d (Proc.devRef .tc r) :=
  X3_keep m d h

/-- Entry `b` of a run that holds it. -/
theorem cut_at {α : Type} {n : ℕ} (x : (⟨2, ![n, 16384]⟩ : Shape).Idx → α) {t : Fin cfg1.N} {j : Fin 2048} {b : Fin 16384} (hb : col t j = b) (i : Fin n) :
    cut x t (ValueIdx.ix2 i j) = x (ValueIdx.ix2 i b) := by
  subst hb; rfl

set_option maxHeartbeats 4000000 in
/-- The result at a row is the layers on the row's features. -/
theorem kernel_out (h : IdsOk (X0 m d)) (b : Fin 16384) : X5 m d (Proc.devRef .tc main_v52) (ValueIdx.ix2 b (0 : Fin 1))
    = spec (X0 m d (Proc.devRef .tc main_arg0)) (X0 m d (Proc.devRef .tc main_arg1)) (X0 m d (Proc.devRef .tc main_arg2)) (X0 m d (Proc.devRef .tc main_arg3)) (X0 m d (Proc.devRef .tc main_arg4)) (X0 m d (Proc.devRef .tc main_arg5)) (X0 m d (Proc.devRef .tc main_arg6)) (X0 m d (Proc.devRef .tc main_arg7)) (X0 m d (Proc.devRef .tc main_arg8)) (X0 m d (Proc.devRef .tc main_arg9)) (X0 m d (Proc.devRef .tc main_arg10)) (X0 m d (Proc.devRef .tc main_arg11)) (X0 m d (Proc.devRef .tc main_arg12)) (X0 m d (Proc.devRef .tc main_arg13)) (X0 m d (Proc.devRef .tc main_arg14)) (X0 m d (Proc.devRef .tc main_arg15)) (X0 m d (Proc.devRef .tc main_arg16)) (X0 m d (Proc.devRef .tc main_arg17)) (X0 m d (Proc.devRef .tc main_arg18)) (X0 m d (Proc.devRef .tc main_arg19)) (X0 m d (Proc.devRef .tc main_arg20)) (X0 m d (Proc.devRef .tc main_arg21)) (X0 m d (Proc.devRef .tc main_arg22)) (X0 m d (Proc.devRef .tc main_arg23)) (X0 m d (Proc.devRef .tc main_arg24)) (X0 m d (Proc.devRef .tc main_arg25)) (X0 m d (Proc.devRef .tc main_arg26)) b := by
  have hb := b.isLt
  have e4 : X4 m d (Proc.devRef .tc main_v51) = mlpArr (X3 m d) d := Function.update_self ..
  rw [← X5_eq, last_out, e4, arr_at]
  refine (transpose_at _ _ b (0 : Fin 1)).trans ?_
  show rowAt (X3 m d) ⟨b.val / 2048, _⟩ (ValueIdx.ix2 (0 : Fin 1) (⟨b.val % 2048, _⟩ : Fin 2048)) = _
  rw [rows_at]
  have hc : col ⟨b.val / 2048, by show _ < 8; omega⟩ ⟨b.val % 2048, Nat.mod_lt _ (by decide)⟩ = b := Fin.ext (show b.val / 2048 * 2048 + b.val % 2048 = b.val by omega)
  obtain ⟨f1, f2, f3, f4, f5, f6, f7, f8, f9⟩ := feats m d h b
  obtain ⟨p0, p1, p2, p3, p4⟩ := post_dense (X2 m d)
  rw [X3_eq] at p0 p1 p2 p3 p4
  refine (mlp_at _ _ _ _ _ _ _ _ _ _ _ _ _ _ _ _ _ _ _).trans ?_
  unfold spec row
  refine net_congr (X3_arg m d (by decide)) (fun i => ?_) (X3_arg m d (by decide)) (fun i => ?_) (X3_arg m d (by decide)) (fun i => ?_) (X3_arg m d (by decide)) (fun i => ?_)
    (cat10_congr (fun i => ?_) (fun i => (cut_at _ hc _).trans (f1 _ i.isLt)) (fun i => (cut_at _ hc _).trans (f2 _ i.isLt)) (fun i => (cut_at _ hc _).trans (f3 _ i.isLt))
      (fun i => (cut_at _ hc _).trans (f4 _ i.isLt)) (fun i => (cut_at _ hc _).trans (f5 _ i.isLt)) (fun i => (cut_at _ hc _).trans (f6 _ i.isLt))
      (fun i => (cut_at _ hc _).trans (f7 _ i.isLt)) (fun i => (cut_at _ hc _).trans (f8 _ i.isLt)) (fun i => (cut_at _ hc _).trans (f9 _ i.isLt)))
  · rw [p1, X2_arg m d (by decide) (by decide)]; exact bias_col _ _ i
  · rw [p2, X2_arg m d (by decide) (by decide)]; exact bias_col _ _ i
  · rw [p3, X2_arg m d (by decide) (by decide)]; exact bias_col _ _ i
  · rw [p4, X2_arg m d (by decide) (by decide)]; exact bias_col _ _ i
  · refine (cut_at _ hc i).trans ?_
    rw [p0, X2_arg m d (by decide) (by decide)]
    exact transpose_at _ _ i b

end Cert.Proof.Tile

end
-- ==== Proof.RefOut.lean ====
/-
  The reference's row of features at the ideal values.
-/
module

public import proofs.«01_k».proof.Proof.Gen.ReferenceIdeal.Run
public import proofs.«01_k».proof.Proof.Spec

@[expose] public section

noncomputable section

namespace Cert.Proof.Tile

open Cert.ReferenceIdeal Cert.ReferenceIdeal.Gen Cert.ReferenceIdeal.Value
open Idealize.ShloMosaic
open Idealize.ShloMosaic.TcCoe

set_option maxHeartbeats 4000000 in
/-- Where the ids are in range the reference's features are the numeric ones and the embeddings the ids name. -/
theorem ref_row (V : Valuation τ sig (Elt Ideal)) (x0 : (⟨2, ![16384, 62]⟩ : Shape).Idx → EReal) (i1 i2 i3 i4 i5 i6 i7 i8 i9 : (⟨1, ![16384]⟩ : Shape).Idx → BitVec 32)
    (t10 t11 : (⟨2, ![1000, 5]⟩ : Shape).Idx → EReal) (t12 t13 t14 t15 t16 t17 : (⟨2, ![100000, 8]⟩ : Shape).Idx → EReal) (t18 : (⟨2, ![26, 8]⟩ : Shape).Idx → EReal)
    (h0 : V (Proc.devRef .tc main_arg0) = x0) (h1 : V (Proc.devRef .tc main_arg1) = i1) (h2 : V (Proc.devRef .tc main_arg2) = i2) (h3 : V (Proc.devRef .tc main_arg3) = i3) (h4 : V (Proc.devRef .tc main_arg4) = i4) (h5 : V (Proc.devRef .tc main_arg5) = i5) (h6 : V (Proc.devRef .tc main_arg6) = i6) (h7 : V (Proc.devRef .tc main_arg7) = i7) (h8 : V (Proc.devRef .tc main_arg8) = i8) (h9 : V (Proc.devRef .tc main_arg9) = i9) (h10 : V (Proc.devRef .tc main_arg10) = t10) (h11 : V (Proc.devRef .tc main_arg11) = t11) (h12 : V (Proc.devRef .tc main_arg12) = t12) (h13 : V (Proc.devRef .tc main_arg13) = t13) (h14 : V (Proc.devRef .tc main_arg14) = t14) (h15 : V (Proc.devRef .tc main_arg15) = t15) (h16 : V (Proc.devRef .tc main_arg16) = t16) (h17 : V (Proc.devRef .tc main_arg17) = t17) (h18 : V (Proc.devRef .tc main_arg18) = t18)
    (r1 : ∀ b, (i1 b).toNat < 1000) (r2 : ∀ b, (i2 b).toNat < 1000) (r3 : ∀ b, (i3 b).toNat < 100000) (r4 : ∀ b, (i4 b).toNat < 100000) (r5 : ∀ b, (i5 b).toNat < 100000) (r6 : ∀ b, (i6 b).toNat < 100000) (r7 : ∀ b, (i7 b).toNat < 100000) (r8 : ∀ b, (i8 b).toNat < 100000) (r9 : ∀ b, (i9 b).toNat < 26) (b : Fin 16384) (k : Fin 128) :
    concatenate S16384x128 1 [⟨S16384x62, V (Proc.devRef .tc main_arg0)⟩, ⟨S16384x66, res_main_v9 V⟩] concatenates_S16384x62_S16384x66_S16384x128_d1 (ValueIdx.ix2 b k)
      = row x0 i1 i2 i3 i4 i5 i6 i7 i8 i9 t10 t11 t12 t13 t14 t15 t16 t17 t18 b k := by
  subst h0 h1 h2 h3 h4 h5 h6 h7 h8 h9 h10 h11 h12 h13 h14 h15 h16 h17 h18
  refine (cat10_cols _ _ _ _ _ _ _ _ _ _ _ _ rfl _ _ _).trans (congrFun ?_ k)
  unfold row
  exact cat10_congr (fun _ => rfl)
    (fun i => take_row (by decide) (by decide) _ _ _ _ (wrap_id _ _ _ _ fun b => Nat.lt_trans (r1 b) (by decide)) r1 (fun _ => rfl) (fun _ => rfl) _ (fun _ => rfl) _ _ _ _ rfl rfl rfl rfl rfl _ _ b i)
    (fun i => take_row (by decide) (by decide) _ _ _ _ (wrap_id _ _ _ _ fun b => Nat.lt_trans (r2 b) (by decide)) r2 (fun _ => rfl) (fun _ => rfl) _ (fun _ => rfl) _ _ _ _ rfl rfl rfl rfl rfl _ _ b i)
    (fun i => take_row (by decide) (by decide) _ _ _ _ (wrap_id _ _ _ _ fun b => Nat.lt_trans (r3 b) (by decide)) r3 (fun _ => rfl) (fun _ => rfl) _ (fun _ => rfl) _ _ _ _ rfl rfl rfl rfl rfl _ _ b i)
    (fun i => take_row (by decide) (by decide) _ _ _ _ (wrap_id _ _ _ _ fun b => Nat.lt_trans (r4 b) (by decide)) r4 (fun _ => rfl) (fun _ => rfl) _ (fun _ => rfl) _ _ _ _ rfl rfl rfl rfl rfl _ _ b i)
    (fun i => take_row (by decide) (by decide) _ _ _ _ (wrap_id _ _ _ _ fun b => Nat.lt_trans (r5 b) (by decide)) r5 (fun _ => rfl) (fun _ => rfl) _ (fun _ => rfl) _ _ _ _ rfl rfl rfl rfl rfl _ _ b i)
    (fun i => take_row (by decide) (by decide) _ _ _ _ (wrap_id _ _ _ _ fun b => Nat.lt_trans (r6 b) (by decide)) r6 (fun _ => rfl) (fun _ => rfl) _ (fun _ => rfl) _ _ _ _ rfl rfl rfl rfl rfl _ _ b i)
    (fun i => take_row (by decide) (by decide) _ _ _ _ (wrap_id _ _ _ _ fun b => Nat.lt_trans (r7 b) (by decide)) r7 (fun _ => rfl) (fun _ => rfl) _ (fun _ => rfl) _ _ _ _ rfl rfl rfl rfl rfl _ _ b i)
    (fun i => take_row (by decide) (by decide) _ _ _ _ (wrap_id _ _ _ _ fun b => Nat.lt_trans (r8 b) (by decide)) r8 (fun _ => rfl) (fun _ => rfl) _ (fun _ => rfl) _ _ _ _ rfl rfl rfl rfl rfl _ _ b i)
    (fun i => take_row (by decide) (by decide) _ _ _ _ (wrap_id _ _ _ _ fun b => Nat.lt_trans (r9 b) (by decide)) r9 (fun _ => rfl) (fun _ => rfl) _ (fun _ => rfl) _ _ _ _ rfl rfl rfl rfl rfl _ _ b i)

end Cert.Proof.Tile

end
-- ==== Proof.Algebraic.lean ====
/-
  Over the ideal values the kernel and the reference compute one result.
-/
module

public import proofs.«01_k».proof.Proof.Frames
public import proofs.«01_k».proof.Proof.KernelOut
public import proofs.«01_k».proof.Proof.RefOut

@[expose] public section

noncomputable section

namespace Cert.Proof.Tile

open Cert.KernelIdeal Cert.KernelIdeal.Gen
open Idealize.ShloMosaic
open Idealize.ShloMosaic.TcCoe
open Idealize.SL.Sem

/-- The ids in range when the call starts are the launch's. -/
theorem ids_launch (m : (ℓ : Loc nD τ sig) → Buf (Elt Ideal) ℓ) (d : Dev nD) (h : IdsOk (X1 m d)) : IdsOk (X0 m d) := by
  have k (r : Ref sig .tc) (hr : r ∉ preNames) : X1 m d (Proc.devRef .tc r) = X0 m d (Proc.devRef .tc r) := X1_keep m d hr
  exact {
    h1 := fun b => k main_arg1 (by decide) ▸ h.h1 b
    h2 := fun b => k main_arg2 (by decide) ▸ h.h2 b
    h3 := fun b => k main_arg3 (by decide) ▸ h.h3 b
    h4 := fun b => k main_arg4 (by decide) ▸ h.h4 b
    h5 := fun b => k main_arg5 (by decide) ▸ h.h5 b
    h6 := fun b => k main_arg6 (by decide) ▸ h.h6 b
    h7 := fun b => k main_arg7 (by decide) ▸ h.h7 b
    h8 := fun b => k main_arg8 (by decide) ▸ h.h8 b
    h9 := fun b => k main_arg9 (by decide) ▸ h.h9 b }

/-- Linear maps of equal weights, biases and inputs. -/
theorem lin_eq {M K : ℕ} {W W' : (⟨2, ![M, K]⟩ : Shape).Idx → EReal} {β β' : (⟨1, ![M]⟩ : Shape).Idx → EReal} {x x' : Fin K → EReal} (hW : W = W') (hβ : β = β')
    (hx : ∀ k, x k = x' k) (i : Fin M) : lin W (fun i => β (ValueIdx.ix1 i)) x i = lin W' (fun i => β' (ValueIdx.ix1 i)) x' i := by
  subst hW hβ
  exact lin_congr hx i

/-- An index of one column. -/
theorem one_col (i : (⟨2, ![16384, 1]⟩ : Shape).Idx) : i = ValueIdx.ix2 (i 0 : Fin 16384) (0 : Fin 1) :=
  funext fun a => by
    match a with
    | ⟨0, _⟩ => rfl
    | ⟨1, _⟩ => exact Subsingleton.elim (α := Fin 1) _ _

set_option maxHeartbeats 8000000 in
/-- One result, the arguments unchanged. -/
theorem algebraic : Cert.algebraic_KernelIdeal_ReferenceIdeal := by
  intro m g m' g' hpre heq
  have hi (d : Dev nD) : IdsOk (X1 m d) := idsOk m d (hpre d)
  refine ⟨fun c => X5 m c (Proc.devRef .tc main_v52), ?_, ?_⟩
  · exact (θ_run Cert.KernelIdeal.defs _ _).mono (fun r h c => ⟨h.1 c (Proc.devRef .tc main_v52) (by decide), args_end m h c⟩) (run_main m g hi)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8, e9, e10, e11, e12, e13, e14, e15, e16, e17, e18, e19, e20, e21, e22, e23, e24, e25, e26⟩ := heq c
    have hl := ids_launch m c (hi c)
    refine funext fun (i : (⟨2, ![16384, 1]⟩ : Shape).Idx) => ?_
    rw [one_col i]
    refine Eq.trans ?_ (kernel_out m c hl (i 0)).symm
    unfold spec net
    refine (lin_reference _ rfl _ _ _ _ _ _ _ _).trans (lin_eq e25 e26 (fun k => ?_) _)
    refine (relu_reference _ _ _).trans (max_congr ((lin_reference _ rfl _ _ _ _ _ _ _ _).trans (lin_eq e23 e24 (fun k => ?_) _)))
    refine (relu_reference _ _ _).trans (max_congr ((lin_reference _ rfl _ _ _ _ _ _ _ _).trans (lin_eq e21 e22 (fun k => ?_) _)))
    refine (relu_reference _ _ _).trans (max_congr ((lin_reference _ rfl _ _ _ _ _ _ _ _).trans (lin_eq e19 e20 (fun k => ?_) _)))
    exact ref_row _ _ _ _ _ _ _ _ _ _ _ _ _ _ _ _ _ _ _ _ e0 e1 e2 e3 e4 e5 e6 e7 e8 e9 e10 e11 e12 e13 e14 e15 e16 e17 e18
      hl.h1 hl.h2 hl.h3 hl.h4 hl.h5 hl.h6 hl.h7 hl.h8 hl.h9 _ k

end Cert.Proof.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import proofs.«01_k».proof.Proof.Gen.ReferenceIdeal.Run
public import proofs.«01_k».proof.Proof.Frames
public import proofs.«01_k».proof.Proof.KernelFrame
public import proofs.«01_k».proof.Proof.Algebraic
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Tile.preFacts,
  Tile.frame_kernel, Tile.frame_ideal, Tile.frame_reference, trivial, Tile.algebraic⟩

end Cert.Proof

end
